-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjAReferenceIdeal (m : (ℓ : Loc Cert.ProjAReferenceIdeal.nD Cert.ProjAReferenceIdeal.τ Cert.ProjAReferenceIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBReferenceIdeal (m : (ℓ : Loc Cert.ProjBReferenceIdeal.nD Cert.ProjBReferenceIdeal.τ Cert.ProjBReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_BiasA (m : (ℓ : Loc Cert.BiasA.nD Cert.BiasA.τ Cert.BiasA.sig) → Buf (Elt Bits) ℓ) : Prop :=
  True

def Pre_BiasAIdeal (m : (ℓ : Loc Cert.BiasAIdeal.nD Cert.BiasAIdeal.τ Cert.BiasAIdeal.sig) → Buf (Elt Ideal) ℓ) : Prop :=
  True

def Pre_BiasAReferenceIdeal (m : (ℓ : Loc Cert.BiasAReferenceIdeal.nD Cert.BiasAReferenceIdeal.τ Cert.BiasAReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjAReferenceIdeal [hProjAReferenceIdeal : Cert.ProjAReferenceIdeal.Facts] : Prop :=
  ∀ (m : (ℓ : Loc Cert.ProjAReferenceIdeal.nD Cert.ProjAReferenceIdeal.τ Cert.ProjAReferenceIdeal.sig) → Buf (Elt Ideal) ℓ) (g : Dev Cert.ProjAReferenceIdeal.nD → PrngReg), Pre_ProjAReferenceIdeal m →
    θ_run (Cert.ProjAReferenceIdeal.defs (F := Ideal)) (onTc (τ := Cert.ProjAReferenceIdeal.τ) (Cert.ProjAReferenceIdeal.main (F := Ideal))) ⟨m, fun _ => 0, g⟩ (fun r => (∀ c : Dev Cert.ProjAReferenceIdeal.nD,
      r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
      ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1)
      ∧ r.2.mem ((c.tc : Thread Cert.ProjAReferenceIdeal.nD Cert.ProjAReferenceIdeal.τ).loc Cert.ProjAReferenceIdeal.main_arg2) = m ((c.tc : Thread Cert.ProjAReferenceIdeal.nD Cert.ProjAReferenceIdeal.τ).loc Cert.ProjAReferenceIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBReferenceIdeal [hProjBReferenceIdeal : Cert.ProjBReferenceIdeal.Facts] : Prop :=
  ∀ (m : (ℓ : Loc Cert.ProjBReferenceIdeal.nD Cert.ProjBReferenceIdeal.τ Cert.ProjBReferenceIdeal.sig) → Buf (Elt Ideal) ℓ) (g : Dev Cert.ProjBReferenceIdeal.nD → PrngReg), Pre_ProjBReferenceIdeal m →
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1)
      ∧ r.2.mem ((c.tc : Thread Cert.ProjBReferenceIdeal.nD Cert.ProjBReferenceIdeal.τ).loc Cert.ProjBReferenceIdeal.main_arg2) = m ((c.tc : Thread Cert.ProjBReferenceIdeal.nD Cert.ProjBReferenceIdeal.τ).loc Cert.ProjBReferenceIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0)

def quiescent_BiasA [hBiasA : Cert.BiasA.Facts] : Prop :=
  ∀ (m : (ℓ : Loc Cert.BiasA.nD Cert.BiasA.τ Cert.BiasA.sig) → Buf (Elt Bits) ℓ) (g : Dev Cert.BiasA.nD → PrngReg), Pre_BiasA m →
    θ_run (Cert.BiasA.defs (F := Bits)) (onTc (τ := Cert.BiasA.τ) (Cert.BiasA.main (F := Bits))) ⟨m, fun _ => 0, g⟩ (fun r => (∀ c : Dev Cert.BiasA.nD,
      r.2.mem ((c.tc : Thread Cert.BiasA.nD Cert.BiasA.τ).loc Cert.BiasA.main_arg0) = m ((c.tc : Thread Cert.BiasA.nD Cert.BiasA.τ).loc Cert.BiasA.main_arg0))
      ∧ r.2.sem = fun _ => 0)

def quiescent_BiasAIdeal [hBiasAIdeal : Cert.BiasAIdeal.Facts] : Prop :=
  ∀ (m : (ℓ : Loc Cert.BiasAIdeal.nD Cert.BiasAIdeal.τ Cert.BiasAIdeal.sig) → Buf (Elt Ideal) ℓ) (g : Dev Cert.BiasAIdeal.nD → PrngReg), Pre_BiasAIdeal m →
    θ_run (Cert.BiasAIdeal.defs (F := Ideal)) (onTc (τ := Cert.BiasAIdeal.τ) (Cert.BiasAIdeal.main (F := Ideal))) ⟨m, fun _ => 0, g⟩ (fun r => (∀ c : Dev Cert.BiasAIdeal.nD,
      r.2.mem ((c.tc : Thread Cert.BiasAIdeal.nD Cert.BiasAIdeal.τ).loc Cert.BiasAIdeal.main_arg0) = m ((c.tc : Thread Cert.BiasAIdeal.nD Cert.BiasAIdeal.τ).loc Cert.BiasAIdeal.main_arg0))
      ∧ r.2.sem = fun _ => 0)

def quiescent_BiasAReferenceIdeal [hBiasAReferenceIdeal : Cert.BiasAReferenceIdeal.Facts] : Prop :=
  ∀ (m : (ℓ : Loc Cert.BiasAReferenceIdeal.nD Cert.BiasAReferenceIdeal.τ Cert.BiasAReferenceIdeal.sig) → Buf (Elt Ideal) ℓ) (g : Dev Cert.BiasAReferenceIdeal.nD → PrngReg), Pre_BiasAReferenceIdeal m →
    θ_run (Cert.BiasAReferenceIdeal.defs (F := Ideal)) (onTc (τ := Cert.BiasAReferenceIdeal.τ) (Cert.BiasAReferenceIdeal.main (F := Ideal))) ⟨m, fun _ => 0, g⟩ (fun r => (∀ c : Dev Cert.BiasAReferenceIdeal.nD,
      r.2.mem ((c.tc : Thread Cert.BiasAReferenceIdeal.nD Cert.BiasAReferenceIdeal.τ).loc Cert.BiasAReferenceIdeal.main_arg0) = m ((c.tc : Thread Cert.BiasAReferenceIdeal.nD Cert.BiasAReferenceIdeal.τ).loc Cert.BiasAReferenceIdeal.main_arg0))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v11)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v11) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v50) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7))

def preserves_ProjA_ProjAIdeal : Prop :=
  IdealRules.named_const.Statement Cert.ProjAIdeal.κ "q_scale" .f32 0x3E38AA3B#32 (((8 * (Real.log 2))⁻¹ : ℝ) : EReal)

def algebraic_ProjAIdeal_ProjAReferenceIdeal [hProjAIdeal : Cert.ProjAIdeal.Facts] [hProjAReferenceIdeal : Cert.ProjAReferenceIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjAReferenceIdeal.nD Cert.ProjAReferenceIdeal.τ Cert.ProjAReferenceIdeal.sig) → Buf (Elt Ideal) ℓ) (g' : Dev Cert.ProjAReferenceIdeal.nD → PrngReg), Pre_ProjAIdeal m →
    (∀ c : Dev Cert.ProjAIdeal.nD,
      m' ((c.tc : Thread Cert.ProjAReferenceIdeal.nD Cert.ProjAReferenceIdeal.τ).loc Cert.ProjAReferenceIdeal.main_arg0) = m ((c.tc : Thread Cert.ProjAIdeal.nD Cert.ProjAIdeal.τ).loc Cert.ProjAIdeal.main_arg0)
      ∧ m' ((c.tc : Thread Cert.ProjAReferenceIdeal.nD Cert.ProjAReferenceIdeal.τ).loc Cert.ProjAReferenceIdeal.main_arg1) = m ((c.tc : Thread Cert.ProjAIdeal.nD Cert.ProjAIdeal.τ).loc Cert.ProjAIdeal.main_arg1)
      ∧ m' ((c.tc : Thread Cert.ProjAReferenceIdeal.nD Cert.ProjAReferenceIdeal.τ).loc Cert.ProjAReferenceIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v7)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v7) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjAReferenceIdeal.defs (F := Ideal)) (onTc (τ := Cert.ProjAReferenceIdeal.τ) (Cert.ProjAReferenceIdeal.main (F := Ideal))) ⟨m', fun _ => 0, g'⟩ (fun r => ∀ c : Dev Cert.ProjAReferenceIdeal.nD,
          r.2.mem ((c.tc : Thread Cert.ProjAReferenceIdeal.nD Cert.ProjAReferenceIdeal.τ).loc Cert.ProjAReferenceIdeal.main_v31) = v0 c
          ∧ r.2.mem ((c.tc : Thread Cert.ProjAReferenceIdeal.nD Cert.ProjAReferenceIdeal.τ).loc Cert.ProjAReferenceIdeal.main_arg0) = m' ((c.tc : Thread Cert.ProjAReferenceIdeal.nD Cert.ProjAReferenceIdeal.τ).loc Cert.ProjAReferenceIdeal.main_arg0)
          ∧ r.2.mem ((c.tc : Thread Cert.ProjAReferenceIdeal.nD Cert.ProjAReferenceIdeal.τ).loc Cert.ProjAReferenceIdeal.main_arg1) = m' ((c.tc : Thread Cert.ProjAReferenceIdeal.nD Cert.ProjAReferenceIdeal.τ).loc Cert.ProjAReferenceIdeal.main_arg1)
          ∧ r.2.mem ((c.tc : Thread Cert.ProjAReferenceIdeal.nD Cert.ProjAReferenceIdeal.τ).loc Cert.ProjAReferenceIdeal.main_arg2) = m' ((c.tc : Thread Cert.ProjAReferenceIdeal.nD Cert.ProjAReferenceIdeal.τ).loc Cert.ProjAReferenceIdeal.main_arg2))

def preserves_ProjB_ProjBIdeal : Prop :=
  IdealRules.named_const.Statement Cert.ProjBIdeal.κ "q_scale" .f32 0x3E38AA3B#32 (((8 * (Real.log 2))⁻¹ : ℝ) : EReal)

def algebraic_ProjBIdeal_ProjBReferenceIdeal [hProjBIdeal : Cert.ProjBIdeal.Facts] [hProjBReferenceIdeal : Cert.ProjBReferenceIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBReferenceIdeal.nD Cert.ProjBReferenceIdeal.τ Cert.ProjBReferenceIdeal.sig) → Buf (Elt Ideal) ℓ) (g' : Dev Cert.ProjBReferenceIdeal.nD → PrngReg), Pre_ProjBIdeal m →
    (∀ c : Dev Cert.ProjBIdeal.nD,
      m' ((c.tc : Thread Cert.ProjBReferenceIdeal.nD Cert.ProjBReferenceIdeal.τ).loc Cert.ProjBReferenceIdeal.main_arg0) = m ((c.tc : Thread Cert.ProjBIdeal.nD Cert.ProjBIdeal.τ).loc Cert.ProjBIdeal.main_arg0)
      ∧ m' ((c.tc : Thread Cert.ProjBReferenceIdeal.nD Cert.ProjBReferenceIdeal.τ).loc Cert.ProjBReferenceIdeal.main_arg1) = m ((c.tc : Thread Cert.ProjBIdeal.nD Cert.ProjBIdeal.τ).loc Cert.ProjBIdeal.main_arg1)
      ∧ m' ((c.tc : Thread Cert.ProjBReferenceIdeal.nD Cert.ProjBReferenceIdeal.τ).loc Cert.ProjBReferenceIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v7)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v7) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBReferenceIdeal.defs (F := Ideal)) (onTc (τ := Cert.ProjBReferenceIdeal.τ) (Cert.ProjBReferenceIdeal.main (F := Ideal))) ⟨m', fun _ => 0, g'⟩ (fun r => ∀ c : Dev Cert.ProjBReferenceIdeal.nD,
          r.2.mem ((c.tc : Thread Cert.ProjBReferenceIdeal.nD Cert.ProjBReferenceIdeal.τ).loc Cert.ProjBReferenceIdeal.main_v26) = v0 c
          ∧ r.2.mem ((c.tc : Thread Cert.ProjBReferenceIdeal.nD Cert.ProjBReferenceIdeal.τ).loc Cert.ProjBReferenceIdeal.main_arg0) = m' ((c.tc : Thread Cert.ProjBReferenceIdeal.nD Cert.ProjBReferenceIdeal.τ).loc Cert.ProjBReferenceIdeal.main_arg0)
          ∧ r.2.mem ((c.tc : Thread Cert.ProjBReferenceIdeal.nD Cert.ProjBReferenceIdeal.τ).loc Cert.ProjBReferenceIdeal.main_arg1) = m' ((c.tc : Thread Cert.ProjBReferenceIdeal.nD Cert.ProjBReferenceIdeal.τ).loc Cert.ProjBReferenceIdeal.main_arg1)
          ∧ r.2.mem ((c.tc : Thread Cert.ProjBReferenceIdeal.nD Cert.ProjBReferenceIdeal.τ).loc Cert.ProjBReferenceIdeal.main_arg2) = m' ((c.tc : Thread Cert.ProjBReferenceIdeal.nD Cert.ProjBReferenceIdeal.τ).loc Cert.ProjBReferenceIdeal.main_arg2))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)
      ∧ m' ((c.tc : Thread Cert.MemKvReferenceIdeal.nD Cert.MemKvReferenceIdeal.τ).loc Cert.MemKvReferenceIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v18) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1)
          ∧ r.2.mem ((c.tc : Thread Cert.MemKvReferenceIdeal.nD Cert.MemKvReferenceIdeal.τ).loc Cert.MemKvReferenceIdeal.main_arg2) = m' ((c.tc : Thread Cert.MemKvReferenceIdeal.nD Cert.MemKvReferenceIdeal.τ).loc Cert.MemKvReferenceIdeal.main_arg2))

def preserves_BiasA_BiasAIdeal : Prop :=
  IdealRules.named_const.Statement Cert.BiasAIdeal.κ "log2e" .f32 0x3FB8AA3B#32 (((Real.log 2)⁻¹ : ℝ) : EReal)

def algebraic_BiasAIdeal_BiasAReferenceIdeal [hBiasAIdeal : Cert.BiasAIdeal.Facts] [hBiasAReferenceIdeal : Cert.BiasAReferenceIdeal.Facts] : Prop :=
  ∀ (m : (ℓ : Loc Cert.BiasAIdeal.nD Cert.BiasAIdeal.τ Cert.BiasAIdeal.sig) → Buf (Elt Ideal) ℓ) (g : Dev Cert.BiasAIdeal.nD → PrngReg)
    (m' : (ℓ : Loc Cert.BiasAReferenceIdeal.nD Cert.BiasAReferenceIdeal.τ Cert.BiasAReferenceIdeal.sig) → Buf (Elt Ideal) ℓ) (g' : Dev Cert.BiasAReferenceIdeal.nD → PrngReg), Pre_BiasAIdeal m →
    (∀ c : Dev Cert.BiasAIdeal.nD,
      m' ((c.tc : Thread Cert.BiasAReferenceIdeal.nD Cert.BiasAReferenceIdeal.τ).loc Cert.BiasAReferenceIdeal.main_arg0) = m ((c.tc : Thread Cert.BiasAIdeal.nD Cert.BiasAIdeal.τ).loc Cert.BiasAIdeal.main_arg0)) →
    ∃ (v0 : (c : Dev Cert.BiasAIdeal.nD) → Buf (Elt Ideal) ((c.tc : Thread Cert.BiasAIdeal.nD Cert.BiasAIdeal.τ).loc Cert.BiasAIdeal.main_v47)),
      θ_run (Cert.BiasAIdeal.defs (F := Ideal)) (onTc (τ := Cert.BiasAIdeal.τ) (Cert.BiasAIdeal.main (F := Ideal))) ⟨m, fun _ => 0, g⟩ (fun r => ∀ c : Dev Cert.BiasAIdeal.nD,
          r.2.mem ((c.tc : Thread Cert.BiasAIdeal.nD Cert.BiasAIdeal.τ).loc Cert.BiasAIdeal.main_v47) = v0 c
          ∧ r.2.mem ((c.tc : Thread Cert.BiasAIdeal.nD Cert.BiasAIdeal.τ).loc Cert.BiasAIdeal.main_arg0) = m ((c.tc : Thread Cert.BiasAIdeal.nD Cert.BiasAIdeal.τ).loc Cert.BiasAIdeal.main_arg0))
      ∧ θ_run (Cert.BiasAReferenceIdeal.defs (F := Ideal)) (onTc (τ := Cert.BiasAReferenceIdeal.τ) (Cert.BiasAReferenceIdeal.main (F := Ideal))) ⟨m', fun _ => 0, g'⟩ (fun r => ∀ c : Dev Cert.BiasAReferenceIdeal.nD,
          r.2.mem ((c.tc : Thread Cert.BiasAReferenceIdeal.nD Cert.BiasAReferenceIdeal.τ).loc Cert.BiasAReferenceIdeal.main_v62) = v0 c
          ∧ r.2.mem ((c.tc : Thread Cert.BiasAReferenceIdeal.nD Cert.BiasAReferenceIdeal.τ).loc Cert.BiasAReferenceIdeal.main_arg0) = m' ((c.tc : Thread Cert.BiasAReferenceIdeal.nD Cert.BiasAReferenceIdeal.τ).loc Cert.BiasAReferenceIdeal.main_arg0))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hProjA : Cert.ProjA.Facts) (hProjAIdeal : Cert.ProjAIdeal.Facts) (hProjAReferenceIdeal : Cert.ProjAReferenceIdeal.Facts) (hProjB : Cert.ProjB.Facts) (hProjBIdeal : Cert.ProjBIdeal.Facts) (hProjBReferenceIdeal : Cert.ProjBReferenceIdeal.Facts) (hMemKv : Cert.MemKv.Facts) (hMemKvIdeal : Cert.MemKvIdeal.Facts) (hMemKvReferenceIdeal : Cert.MemKvReferenceIdeal.Facts) (hBiasA : Cert.BiasA.Facts) (hBiasAIdeal : Cert.BiasAIdeal.Facts) (hBiasAReferenceIdeal : Cert.BiasAReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Post (hPost := hPost)
    ∧ quiescent_PostIdeal (hPostIdeal := hPostIdeal)
    ∧ quiescent_PostReferenceIdeal (hPostReferenceIdeal := hPostReferenceIdeal)
    ∧ quiescent_ProjA (hProjA := hProjA)
    ∧ quiescent_ProjAIdeal (hProjAIdeal := hProjAIdeal)
    ∧ quiescent_ProjAReferenceIdeal (hProjAReferenceIdeal := hProjAReferenceIdeal)
    ∧ quiescent_ProjB (hProjB := hProjB)
    ∧ quiescent_ProjBIdeal (hProjBIdeal := hProjBIdeal)
    ∧ quiescent_ProjBReferenceIdeal (hProjBReferenceIdeal := hProjBReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_BiasA (hBiasA := hBiasA)
    ∧ quiescent_BiasAIdeal (hBiasAIdeal := hBiasAIdeal)
    ∧ quiescent_BiasAReferenceIdeal (hBiasAReferenceIdeal := hBiasAReferenceIdeal)
    ∧ preserves_Kernel_KernelIdeal
    ∧ algebraic_KernelIdeal_ReferenceIdeal_pre_tame (hKernelIdeal := hKernelIdeal) (hReferenceIdeal := hReferenceIdeal) (hPre_tame := hPre_tame)
    ∧ preserves_Post_PostIdeal
    ∧ algebraic_PostIdeal_PostReferenceIdeal (hPostIdeal := hPostIdeal) (hPostReferenceIdeal := hPostReferenceIdeal)
    ∧ preserves_ProjA_ProjAIdeal
    ∧ algebraic_ProjAIdeal_ProjAReferenceIdeal (hProjAIdeal := hProjAIdeal) (hProjAReferenceIdeal := hProjAReferenceIdeal)
    ∧ preserves_ProjB_ProjBIdeal
    ∧ algebraic_ProjBIdeal_ProjBReferenceIdeal (hProjBIdeal := hProjBIdeal) (hProjBReferenceIdeal := hProjBReferenceIdeal)
    ∧ preserves_MemKv_MemKvIdeal
    ∧ algebraic_MemKvIdeal_MemKvReferenceIdeal (hMemKvIdeal := hMemKvIdeal) (hMemKvReferenceIdeal := hMemKvReferenceIdeal)
    ∧ preserves_BiasA_BiasAIdeal
    ∧ algebraic_BiasAIdeal_BiasAReferenceIdeal (hBiasAIdeal := hBiasAIdeal) (hBiasAReferenceIdeal := hBiasAReferenceIdeal)
-- ==== Pre_tame.lean ====
abbrev S8x12x8192x128 : Shape := ⟨4, ![8, 12, 8192, 128]⟩
abbrev S8x4x256x128 : Shape := ⟨4, ![8, 4, 256, 128]⟩
abbrev S5x4x384x128 : Shape := ⟨4, ![5, 4, 384, 128]⟩
abbrev S12 : Shape := ⟨1, ![12]⟩
abbrev S4x384x128 : Shape := ⟨3, ![4, 384, 128]⟩
abbrev S_ : Shape := ⟨0, ![]⟩
abbrev S1x4x384x128 : Shape := ⟨4, ![1, 4, 384, 128]⟩

class Facts : Prop where
  bcast_S_S4x384x128 : S_.BroadcastsInDim S4x384x128 (![] : Fin 0 → Fin S4x384x128.rank)
  bitsLt_bf16_f32 : FTy.bits .bf16 < FTy.bits .f32
  bcast_S_S8x12x8192x128 : S_.BroadcastsInDim S8x12x8192x128 (![] : Fin 0 → Fin S8x12x8192x128.rank)
  reducesTo_S8x12x8192x128_S_d0_1_2_3 : S8x12x8192x128.ReducesTo [0, 1, 2, 3] S_
  h_S_ : 0 < S_.numel
  bcast_S_S8x4x256x128 : S_.BroadcastsInDim S8x4x256x128 (![] : Fin 0 → Fin S8x4x256x128.rank)
  reducesTo_S8x4x256x128_S_d0_1_2_3 : S8x4x256x128.ReducesTo [0, 1, 2, 3] S_
  bcast_S_S12 : S_.BroadcastsInDim S12 (![] : Fin 0 → Fin S12.rank)
  reducesTo_S12_S_d0 : S12.ReducesTo [0] S_
  bcast_S_S5x4x384x128 : S_.BroadcastsInDim S5x4x384x128 (![] : Fin 0 → Fin S5x4x384x128.rank)
  reducesTo_S5x4x384x128_S_d0_1_2_3 : S5x4x384x128.ReducesTo [0, 1, 2, 3] S_
  slices_S5x4x384x128_S1x4x384x128_1_0_0_0 : S5x4x384x128.Slices ![1, 0, 0, 0] S1x4x384x128
  shapeCasts_S1x4x384x128_S4x384x128 : S1x4x384x128.ShapeCasts S4x384x128
  reducesTo_S4x384x128_S_d0_1_2 : S4x384x128.ReducesTo [0, 1, 2] S_
  slices_S5x4x384x128_S1x4x384x128_4_0_0_0 : S5x4x384x128.Slices ![4, 0, 0, 0] S1x4x384x128
  slices_S5x4x384x128_S1x4x384x128_0_0_0_0 : S5x4x384x128.Slices ![0, 0, 0, 0] S1x4x384x128
  slices_S5x4x384x128_S1x4x384x128_3_0_0_0 : S5x4x384x128.Slices ![3, 0, 0, 0] S1x4x384x128

variable [Facts]

def fn_part3 {F : FTy → Type} [FloatOps F] (main_arg2 : FVec F S5x4x384x128 .f32) (main_v2 : IVec S4x384x128 32) (main_v3 : IVec S4x384x128 32) (main_v46 : IVec S_ 1) (main_v53 : IVec S4x384x128 1) (main_c_15 : IVec S_ 1) : IVec S_ 1 :=
  let main_v54 : IVec S_ 1 := (fun x v => Host.reduce IntOp.andi x v reducesTo_S4x384x128_S_d0_1_2 h_S_) main_v53 main_c_15
  let main_v55 : IVec S_ 1 := andi main_v46 main_v54
  let main_v56 : IVec S4x384x128 1 := cmpi .sle main_v3 main_v2
  let main_v57 : FVec F S1x4x384x128 .f32 := (extractStridedSlice S1x4x384x128 ![3, 0, 0, 0] · slices_S5x4x384x128_S1x4x384x128_3_0_0_0) main_arg2
  let main_v58 : FVec F S4x384x128 .f32 := shapeCast S4x384x128 main_v57 shapeCasts_S1x4x384x128_S4x384x128
  let main_cst_16 : FVec F S_ .f32 := constant S_ .f32 0x7F800000#32
  let main_v59 : FVec F S_ .f32 := Host.negf main_cst_16
  let main_v60 : FVec F S4x384x128 .f32 := broadcastInDim S4x384x128 ![] bcast_S_S4x384x128 main_v59
  let main_v61 : IVec S4x384x128 1 := cmpf .oeq main_v58 main_v60
  let main_v62 : IVec S4x384x128 1 := ori main_v56 main_v61
  let main_c_17 : IVec S_ 1 := constantI S_ 1 1#1
  let main_v63 : IVec S_ 1 := (fun x v => Host.reduce IntOp.andi x v reducesTo_S4x384x128_S_d0_1_2 h_S_) main_v62 main_c_17
  let main_v64 : IVec S_ 1 := andi main_v55 main_v63
  main_v64

def fn_part2 {F : FTy → Type} [FloatOps F] (main_arg2 : FVec F S5x4x384x128 .f32) (main_v2 : IVec S4x384x128 32) (main_v3 : IVec S4x384x128 32) (main_v32 : IVec S_ 1) (main_v34 : FVec F S4x384x128 .f32) (main_cst_10 : FVec F S_ .f32) : IVec S_ 1 :=
  let main_v35 : FVec F S_ .f32 := Host.negf main_cst_10
  let main_v36 : FVec F S4x384x128 .f32 := broadcastInDim S4x384x128 ![] bcast_S_S4x384x128 main_v35
  let main_v37 : IVec S4x384x128 1 := cmpf .oeq main_v34 main_v36
  let main_c_11 : IVec S_ 1 := constantI S_ 1 1#1
  let main_v38 : IVec S_ 1 := (fun x v => Host.reduce IntOp.andi x v reducesTo_S4x384x128_S_d0_1_2 h_S_) main_v37 main_c_11
  let main_v39 : IVec S_ 1 := andi main_v32 main_v38
  let main_v40 : FVec F S1x4x384x128 .f32 := (extractStridedSlice S1x4x384x128 ![4, 0, 0, 0] · slices_S5x4x384x128_S1x4x384x128_4_0_0_0) main_arg2
  let main_v41 : FVec F S4x384x128 .f32 := shapeCast S4x384x128 main_v40 shapeCasts_S1x4x384x128_S4x384x128
  let main_cst_12 : FVec F S_ .f32 := constant S_ .f32 0x7F800000#32
  let main_v42 : FVec F S_ .f32 := Host.negf main_cst_12
  let main_v43 : FVec F S4x384x128 .f32 := broadcastInDim S4x384x128 ![] bcast_S_S4x384x128 main_v42
  let main_v44 : IVec S4x384x128 1 := cmpf .oeq main_v41 main_v43
  let main_c_13 : IVec S_ 1 := constantI S_ 1 1#1
  let main_v45 : IVec S_ 1 := (fun x v => Host.reduce IntOp.andi x v reducesTo_S4x384x128_S_d0_1_2 h_S_) main_v44 main_c_13
  let main_v46 : IVec S_ 1 := andi main_v39 main_v45
  let main_v47 : IVec S4x384x128 1 := cmpi .sge main_v3 main_v2
  let main_v48 : FVec F S1x4x384x128 .f32 := (extractStridedSlice S1x4x384x128 ![0, 0, 0, 0] · slices_S5x4x384x128_S1x4x384x128_0_0_0_0) main_arg2
  let main_v49 : FVec F S4x384x128 .f32 := shapeCast S4x384x128 main_v48 shapeCasts_S1x4x384x128_S4x384x128
  let main_cst_14 : FVec F S_ .f32 := constant S_ .f32 0x7F800000#32
  let main_v50 : FVec F S_ .f32 := Host.negf main_cst_14
  let main_v51 : FVec F S4x384x128 .f32 := broadcastInDim S4x384x128 ![] bcast_S_S4x384x128 main_v50
  let main_v52 : IVec S4x384x128 1 := cmpf .oeq main_v49 main_v51
  let main_v53 : IVec S4x384x128 1 := ori main_v47 main_v52
  let main_c_15 : IVec S_ 1 := constantI S_ 1 1#1
  fn_part3 (F := F) main_arg2 main_v2 main_v3 main_v46 main_v53 main_c_15

def fn_part1 {F : FTy → Type} [FloatOps F] (main_arg2 : FVec F S5x4x384x128 .f32) (main_arg3 : FVec F S12 .f32) (main_v2 : IVec S4x384x128 32) (main_v3 : IVec S4x384x128 32) (main_v12 : IVec S_ 1) (main_v14 : IVec S8x4x256x128 1) (main_v17 : IVec S8x4x256x128 1) : IVec S_ 1 :=
  let main_v18 : IVec S8x4x256x128 1 := andi main_v14 main_v17
  let main_c_4 : IVec S_ 1 := constantI S_ 1 1#1
  let main_v19 : IVec S_ 1 := (fun x v => Host.reduce IntOp.andi x v reducesTo_S8x4x256x128_S_d0_1_2_3 h_S_) main_v18 main_c_4
  let main_v20 : IVec S_ 1 := andi main_v12 main_v19
  let main_cst_5 : FVec F S_ .f32 := constant S_ .f32 0x7F800000#32
  let main_v21 : FVec F S12 .f32 := broadcastInDim S12 ![] bcast_S_S12 main_cst_5
  let main_v22 : IVec S12 1 := cmpf .olt main_arg3 main_v21
  let main_cst_6 : FVec F S_ .f32 := constant S_ .f32 0x7F800000#32
  let main_v23 : FVec F S_ .f32 := Host.negf main_cst_6
  let main_v24 : FVec F S12 .f32 := broadcastInDim S12 ![] bcast_S_S12 main_v23
  let main_v25 : IVec S12 1 := cmpf .ogt main_arg3 main_v24
  let main_v26 : IVec S12 1 := andi main_v22 main_v25
  let main_c_7 : IVec S_ 1 := constantI S_ 1 1#1
  let main_v27 : IVec S_ 1 := (fun x v => Host.reduce IntOp.andi x v reducesTo_S12_S_d0 h_S_) main_v26 main_c_7
  let main_v28 : IVec S_ 1 := andi main_v20 main_v27
  let main_cst_8 : FVec F S_ .f32 := constant S_ .f32 0x7F800000#32
  let main_v29 : FVec F S5x4x384x128 .f32 := broadcastInDim S5x4x384x128 ![] bcast_S_S5x4x384x128 main_cst_8
  let main_v30 : IVec S5x4x384x128 1 := cmpf .olt main_arg2 main_v29
  let main_c_9 : IVec S_ 1 := constantI S_ 1 1#1
  let main_v31 : IVec S_ 1 := (fun x v => Host.reduce IntOp.andi x v reducesTo_S5x4x384x128_S_d0_1_2_3 h_S_) main_v30 main_c_9
  let main_v32 : IVec S_ 1 := andi main_v28 main_v31
  let main_v33 : FVec F S1x4x384x128 .f32 := (extractStridedSlice S1x4x384x128 ![1, 0, 0, 0] · slices_S5x4x384x128_S1x4x384x128_1_0_0_0) main_arg2
  let main_v34 : FVec F S4x384x128 .f32 := shapeCast S4x384x128 main_v33 shapeCasts_S1x4x384x128_S4x384x128
  let main_cst_10 : FVec F S_ .f32 := constant S_ .f32 0x7F800000#32
  fn_part2 (F := F) main_arg2 main_v2 main_v3 main_v32 main_v34 main_cst_10

def fn {F : FTy → Type} [FloatOps F] (main_arg0 : FVec F S8x12x8192x128 .bf16) (main_arg1 : FVec F S8x4x256x128 .bf16) (main_arg2 : FVec F S5x4x384x128 .f32) (main_arg3 : FVec F S12 .f32) : IVec S_ 1 :=
  let main_v0 : IVec S4x384x128 32 := iotaInDim S4x384x128 32 1
  let main_c : IVec S_ 32 := constantI S_ 32 128#32
  let main_v1 : IVec S4x384x128 32 := broadcastInDim S4x384x128 ![] bcast_S_S4x384x128 main_c
  let main_v2 : IVec S4x384x128 32 := Host.remsi main_v0 main_v1
  let main_v3 : IVec S4x384x128 32 := iotaInDim S4x384x128 32 2
  let main_v4 : FVec F S8x12x8192x128 .f32 := (extf .f32 · bitsLt_bf16_f32) main_arg0
  let main_v5 : FVec F S8x4x256x128 .f32 := (extf .f32 · bitsLt_bf16_f32) main_arg1
  let main_cst : FVec F S_ .f32 := constant S_ .f32 0x7F800000#32
  let main_v6 : FVec F S8x12x8192x128 .f32 := broadcastInDim S8x12x8192x128 ![] bcast_S_S8x12x8192x128 main_cst
  let main_v7 : IVec S8x12x8192x128 1 := cmpf .olt main_v4 main_v6
  let main_cst_0 : FVec F S_ .f32 := constant S_ .f32 0x7F800000#32
  let main_v8 : FVec F S_ .f32 := Host.negf main_cst_0
  let main_v9 : FVec F S8x12x8192x128 .f32 := broadcastInDim S8x12x8192x128 ![] bcast_S_S8x12x8192x128 main_v8
  let main_v10 : IVec S8x12x8192x128 1 := cmpf .ogt main_v4 main_v9
  let main_v11 : IVec S8x12x8192x128 1 := andi main_v7 main_v10
  let main_c_1 : IVec S_ 1 := constantI S_ 1 1#1
  let main_v12 : IVec S_ 1 := (fun x v => Host.reduce IntOp.andi x v reducesTo_S8x12x8192x128_S_d0_1_2_3 h_S_) main_v11 main_c_1
  let main_cst_2 : FVec F S_ .f32 := constant S_ .f32 0x7F800000#32
  let main_v13 : FVec F S8x4x256x128 .f32 := broadcastInDim S8x4x256x128 ![] bcast_S_S8x4x256x128 main_cst_2
  let main_v14 : IVec S8x4x256x128 1 := cmpf .olt main_v5 main_v13
  let main_cst_3 : FVec F S_ .f32 := constant S_ .f32 0x7F800000#32
  let main_v15 : FVec F S_ .f32 := Host.negf main_cst_3
  let main_v16 : FVec F S8x4x256x128 .f32 := broadcastInDim S8x4x256x128 ![] bcast_S_S8x4x256x128 main_v15
  let main_v17 : IVec S8x4x256x128 1 := cmpf .ogt main_v5 main_v16
  fn_part1 (F := F) main_arg2 main_arg3 main_v2 main_v3 main_v12 main_v14 main_v17
-- ==== Kernel.lean ====
abbrev S8x12x8192x128 : Shape := ⟨4, ![8, 12, 8192, 128]⟩
abbrev S8x4x256x128 : Shape := ⟨4, ![8, 4, 256, 128]⟩
abbrev S5x4x384x128 : Shape := ⟨4, ![5, 4, 384, 128]⟩
abbrev S12 : Shape := ⟨1, ![12]⟩
abbrev S4x3x1x1 : Shape := ⟨4, ![4, 3, 1, 1]⟩
abbrev S4x3x128x128 : Shape := ⟨4, ![4, 3, 128, 128]⟩
abbrev S4x384x128 : Shape := ⟨3, ![4, 384, 128]⟩
abbrev S8x8x8192x128 : Shape := ⟨4, ![8, 8, 8192, 128]⟩
abbrev S1x6x2048x128 : Shape := ⟨4, ![1, 6, 2048, 128]⟩
abbrev S1x2x128x128 : Shape := ⟨4, ![1, 2, 128, 128]⟩
abbrev S1x2x2048x128 : Shape := ⟨4, ![1, 2, 2048, 128]⟩
abbrev S1x2x256x128 : Shape := ⟨4, ![1, 2, 256, 128]⟩
abbrev S1x8x2048x128 : Shape := ⟨4, ![1, 8, 2048, 128]⟩
abbrev S1x128 : Shape := ⟨2, ![1, 128]⟩
abbrev S384x128 : Shape := ⟨2, ![384, 128]⟩
abbrev S768x128 : Shape := ⟨2, ![768, 128]⟩
abbrev S1x1x128x128 : Shape := ⟨4, ![1, 1, 128, 128]⟩
abbrev S128x128 : Shape := ⟨2, ![128, 128]⟩
abbrev S384x768 : Shape := ⟨2, ![384, 768]⟩
abbrev S1x1x384x128 : Shape := ⟨4, ![1, 1, 384, 128]⟩
abbrev S1x384x128 : Shape := ⟨3, ![1, 384, 128]⟩
abbrev S384 : Shape := ⟨1, ![384]⟩
abbrev S384x1 : Shape := ⟨2, ![384, 1]⟩
abbrev S768x256 : Shape := ⟨2, ![768, 256]⟩
abbrev S384x256 : Shape := ⟨2, ![384, 256]⟩
abbrev S1x1x2048x128 : Shape := ⟨4, ![1, 1, 2048, 128]⟩
abbrev S2048x128 : Shape := ⟨2, ![2048, 128]⟩
abbrev S4096x128 : Shape := ⟨2, ![4096, 128]⟩
abbrev S1x1x256x128 : Shape := ⟨4, ![1, 1, 256, 128]⟩
abbrev S256x128 : Shape := ⟨2, ![256, 128]⟩
abbrev S4096x256 : Shape := ⟨2, ![4096, 256]⟩
abbrev S4096 : Shape := ⟨1, ![4096]⟩
abbrev S4096x1 : Shape := ⟨2, ![4096, 1]⟩
abbrev S256x256 : Shape := ⟨2, ![256, 256]⟩

abbrev nBuf : Space → Nat
  | .hbm => 8
  | .vmem => 24
  | .smem => 0
  | _ => 0

abbrev bufTy : (tb : Table) → Fin (tcTables nBuf tb) → BufTy
  | .hbm, ⟨0, _⟩ => ⟨S8x12x8192x128, .bf16⟩
  | .hbm, ⟨1, _⟩ => ⟨S8x4x256x128, .bf16⟩
  | .hbm, ⟨2, _⟩ => ⟨S5x4x384x128, .f32⟩
  | .hbm, ⟨3, _⟩ => ⟨S12, .f32⟩
  | .hbm, ⟨4, _⟩ => ⟨S4x3x1x1, .f32⟩
  | .hbm, ⟨5, _⟩ => ⟨S4x3x128x128, .f32⟩
  | .hbm, ⟨6, _⟩ => ⟨S4x384x128, .f32⟩
  | .hbm, ⟨7, _⟩ => ⟨S8x8x8192x128, .bf16⟩
  | .local _ .vmem, ⟨0, _⟩ => ⟨S1x6x2048x128, .bf16⟩
  | .local _ .vmem, ⟨1, _⟩ => ⟨S1x6x2048x128, .bf16⟩
  | .local _ .vmem, ⟨2, _⟩ => ⟨S1x2x128x128, .bf16⟩
  | .local _ .vmem, ⟨3, _⟩ => ⟨S1x2x128x128, .bf16⟩
  | .local _ .vmem, ⟨4, _⟩ => ⟨S1x2x2048x128, .bf16⟩
  | .local _ .vmem, ⟨5, _⟩ => ⟨S1x2x2048x128, .bf16⟩
  | .local _ .vmem, ⟨6, _⟩ => ⟨S1x2x128x128, .bf16⟩
  | .local _ .vmem, ⟨7, _⟩ => ⟨S1x2x128x128, .bf16⟩
  | .local _ .vmem, ⟨8, _⟩ => ⟨S1x2x128x128, .bf16⟩
  | .local _ .vmem, ⟨9, _⟩ => ⟨S1x2x128x128, .bf16⟩
  | .local _ .vmem, ⟨10, _⟩ => ⟨S1x2x2048x128, .bf16⟩
  | .local _ .vmem, ⟨11, _⟩ => ⟨S1x2x2048x128, .bf16⟩
  | .local _ .vmem, ⟨12, _⟩ => ⟨S1x2x128x128, .bf16⟩
  | .local _ .vmem, ⟨13, _⟩ => ⟨S1x2x128x128, .bf16⟩
  | .local _ .vmem, ⟨14, _⟩ => ⟨S1x2x2048x128, .bf16⟩
  | .local _ .vmem, ⟨15, _⟩ => ⟨S1x2x2048x128, .bf16⟩
  | .local _ .vmem, ⟨16, _⟩ => ⟨S1x2x256x128, .bf16⟩
  | .local _ .vmem, ⟨17, _⟩ => ⟨S1x2x256x128, .bf16⟩
  | .local _ .vmem, ⟨18, _⟩ => ⟨S1x2x256x128, .bf16⟩
  | .local _ .vmem, ⟨19, _⟩ => ⟨S1x2x256x128, .bf16⟩
  | .local _ .vmem, ⟨20, _⟩ => ⟨S5x4x384x128, .f32⟩
  | .local _ .vmem, ⟨21, _⟩ => ⟨S4x384x128, .f32⟩
  | .local _ .vmem, ⟨22, _⟩ => ⟨S1x8x2048x128, .bf16⟩
  | .local _ .vmem, ⟨23, _⟩ => ⟨S1x8x2048x128, .bf16⟩
  | _, _ => ⟨S8x12x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 4], ![false, false]⟩

def k0_off1 (i : grid0.Coords) : Fin 4 → Nat :=
  let arg1 : BitVec 32 := BitVec.ofNat 32 (i 1).val
  let c0_i32 : BitVec 32 := 0#32
  let v0 : BitVec 1 := Scalar.cmpi .sgt arg1 c0_i32
  let c0_i32_0 : BitVec 32 := 0#32
  let c1_i32 : BitVec 32 := 1#32
  let v1 : BitVec 32 := Scalar.select v0 c0_i32_0 c1_i32
  let v610 : Index := Scalar.indexCast v1
  let c0_293 : Index := 0#32
  let c0_294 : Index := 0#32
  let c0_295 : Index := 0#32
  ![v610.toNat, 0, 0, 0]
def k0_off2 (i : grid0.Coords) : Fin 4 → Nat :=
  let arg1 : BitVec 32 := BitVec.ofNat 32 (i 1).val
  let c0_i32 : BitVec 32 := 0#32
  let v0 : BitVec 1 := Scalar.cmpi .sgt arg1 c0_i32
  let c0_i32_0 : BitVec 32 := 0#32
  let c1_i32 : BitVec 32 := 1#32
  let v1 : BitVec 32 := Scalar.select v0 c0_i32_0 c1_i32
  let v642 : Index := Scalar.indexCast v1
  let c1_307 : Index := 1#32
  let c0_308 : Index := 0#32
  let c0_309 : Index := 0#32
  ![v642.toNat, 1, 0, 0]
def k0_off3 (i : grid0.Coords) : Fin 4 → Nat :=
  let arg1 : BitVec 32 := BitVec.ofNat 32 (i 1).val
  let c0_i32 : BitVec 32 := 0#32
  let v0 : BitVec 1 := Scalar.cmpi .sgt arg1 c0_i32
  let c0_i32_0 : BitVec 32 := 0#32
  let c1_i32 : BitVec 32 := 1#32
  let v1 : BitVec 32 := Scalar.select v0 c0_i32_0 c1_i32
  let v707 : Index := Scalar.indexCast v1
  let c2_346 : Index := 2#32
  let c0_347 : Index := 0#32
  let c0_348 : Index := 0#32
  ![v707.toNat, 2, 0, 0]
def k0_off4 (i : grid0.Coords) : Fin 4 → Nat :=
  let arg1 : BitVec 32 := BitVec.ofNat 32 (i 1).val
  let c0_i32 : BitVec 32 := 0#32
  let v0 : BitVec 1 := Scalar.cmpi .sgt arg1 c0_i32
  let c0_i32_0 : BitVec 32 := 0#32
  let c1_i32 : BitVec 32 := 1#32
  let v1 : BitVec 32 := Scalar.select v0 c0_i32_0 c1_i32
  let v739 : Index := Scalar.indexCast v1
  let c3_361 : Index := 3#32
  let c0_362 : Index := 0#32
  let c0_363 : Index := 0#32
  ![v739.toNat, 3, 0, 0]
def k0_off5 (i : grid0.Coords) : Fin 4 → Nat :=
  let arg1 : BitVec 32 := BitVec.ofNat 32 (i 1).val
  let c3_i32 : BitVec 32 := 3#32
  let v2 : BitVec 1 := Scalar.cmpi .slt arg1 c3_i32
  let c3_i32_1 : BitVec 32 := 3#32
  let c4_i32 : BitVec 32 := 4#32
  let v3 : BitVec 32 := Scalar.select v2 c3_i32_1 c4_i32
  let v3472 : Index := Scalar.indexCast v3
  let c0_2034 : Index := 0#32
  let c0_2035 : Index := 0#32
  let c0_2036 : Index := 0#32
  ![v3472.toNat, 0, 0, 0]
def k0_off6 (i : grid0.Coords) : Fin 4 → Nat :=
  let arg1 : BitVec 32 := BitVec.ofNat 32 (i 1).val
  let c3_i32 : BitVec 32 := 3#32
  let v2 : BitVec 1 := Scalar.cmpi .slt arg1 c3_i32
  let c3_i32_1 : BitVec 32 := 3#32
  let c4_i32 : BitVec 32 := 4#32
  let v3 : BitVec 32 := Scalar.select v2 c3_i32_1 c4_i32
  let v3504 : Index := Scalar.indexCast v3
  let c1_2049 : Index := 1#32
  let c0_2050 : Index := 0#32
  let c0_2051 : Index := 0#32
  ![v3504.toNat, 1, 0, 0]
def k0_off7 (i : grid0.Coords) : Fin 4 → Nat :=
  let arg1 : BitVec 32 := BitVec.ofNat 32 (i 1).val
  let c3_i32 : BitVec 32 := 3#32
  let v2 : BitVec 1 := Scalar.cmpi .slt arg1 c3_i32
  let c3_i32_1 : BitVec 32 := 3#32
  let c4_i32 : BitVec 32 := 4#32
  let v3 : BitVec 32 := Scalar.select v2 c3_i32_1 c4_i32
  let v3569 : Index := Scalar.indexCast v3
  let c2_2090 : Index := 2#32
  let c0_2091 : Index := 0#32
  let c0_2092 : Index := 0#32
  ![v3569.toNat, 2, 0, 0]
def k0_off8 (i : grid0.Coords) : Fin 4 → Nat :=
  let arg1 : BitVec 32 := BitVec.ofNat 32 (i 1).val
  let c3_i32 : BitVec 32 := 3#32
  let v2 : BitVec 1 := Scalar.cmpi .slt arg1 c3_i32
  let c3_i32_1 : BitVec 32 := 3#32
  let c4_i32 : BitVec 32 := 4#32
  let v3 : BitVec 32 := Scalar.select v2 c3_i32_1 c4_i32
  let v3601 : Index := Scalar.indexCast v3
  let c3_2105 : Index := 3#32
  let c0_2106 : Index := 0#32
  let c0_2107 : Index := 0#32
  ![v3601.toNat, 3, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg1
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  let c0_i32_1 : BitVec 32 := 0#32
  ![arg0.toNat, c3_i32.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![arg0.toNat, c3_i32.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli c16_i32 v0
  let c63_i32 : BitVec 32 := 63#32
  let v2 : BitVec 32 := Scalar.minsi v1 c63_i32
  let c3_i32 : BitVec 32 := 3#32
  let c0_i32 : BitVec 32 := 0#32
  let c0_i32_0 : BitVec 32 := 0#32
  ![arg0.toNat, c3_i32.toNat, v2.toNat, c0_i32.toNat]

def cc0_transform_4 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg1
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  let c0_i32_1 : BitVec 32 := 0#32
  ![arg0.toNat, c4_i32.toNat, v2.toNat, c0_i32_0.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![arg0.toNat, c4_i32.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli c16_i32 v0
  let c63_i32 : BitVec 32 := 63#32
  let v2 : BitVec 32 := Scalar.minsi v1 c63_i32
  let c4_i32 : BitVec 32 := 4#32
  let c0_i32 : BitVec 32 := 0#32
  let c0_i32_0 : BitVec 32 := 0#32
  ![arg0.toNat, c4_i32.toNat, v2.toNat, c0_i32.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![arg0.toNat, c5_i32.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x6x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S5x4x384x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x384x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x8x2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x12x8192x128 : Shape := ⟨4, ![8, 12, 8192, 128]⟩
abbrev S8x4x256x128 : Shape := ⟨4, ![8, 4, 256, 128]⟩
abbrev S5x4x384x128 : Shape := ⟨4, ![5, 4, 384, 128]⟩
abbrev S12 : Shape := ⟨1, ![12]⟩
abbrev S_ : Shape := ⟨0, ![]⟩
abbrev S8x6x8192x128 : Shape := ⟨4, ![8, 6, 8192, 128]⟩
abbrev S8x2x3x8192x2x64 : Shape := ⟨6, ![8, 2, 3, 8192, 2, 64]⟩
abbrev S8x2x2x3x8192x64 : Shape := ⟨6, ![8, 2, 2, 3, 8192, 64]⟩
abbrev S8x4x3x64x128x64 : Shape := ⟨6, ![8, 4, 3, 64, 128, 64]⟩
abbrev S8x2x8192x128 : Shape := ⟨4, ![8, 2, 8192, 128]⟩
abbrev S8x2x8192x2x64 : Shape := ⟨5, ![8, 2, 8192, 2, 64]⟩
abbrev S8x2x2x8192x64 : Shape := ⟨5, ![8, 2, 2, 8192, 64]⟩
abbrev S8x4x8192x64 : Shape := ⟨4, ![8, 4, 8192, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S64 : Shape := ⟨1, ![64]⟩
abbrev S64x1 : Shape := ⟨2, ![64, 1]⟩
abbrev S64x384 : Shape := ⟨2, ![64, 384]⟩
abbrev S1x128x384 : Shape := ⟨3, ![1, 128, 384]⟩
abbrev S64x1x384 : Shape := ⟨3, ![64, 1, 384]⟩
abbrev S64x128x384 : Shape := ⟨3, ![64, 128, 384]⟩
abbrev S1x4x384x128 : Shape := ⟨4, ![1, 4, 384, 128]⟩
abbrev S4x384x128 : Shape := ⟨3, ![4, 384, 128]⟩
abbrev S4x384x384 : Shape := ⟨3, ![4, 384, 384]⟩
abbrev S4x3x128x384 : Shape := ⟨4, ![4, 3, 128, 384]⟩
abbrev S8x4x8448x64 : Shape := ⟨4, ![8, 4, 8448, 64]⟩
abbrev S8x4x66x128x64 : Shape := ⟨5, ![8, 4, 66, 128, 64]⟩
abbrev S8x4x64x128x64 : Shape := ⟨5, ![8, 4, 64, 128, 64]⟩
abbrev S8x4x64x384x64 : Shape := ⟨5, ![8, 4, 64, 384, 64]⟩
abbrev S8x4x64x3x128x384 : Shape := ⟨6, ![8, 4, 64, 3, 128, 384]⟩
abbrev S1x4x1x3x128x384 : Shape := ⟨6, ![1, 4, 1, 3, 128, 384]⟩
abbrev S1x1x64x1x128x384 : Shape := ⟨6, ![1, 1, 64, 1, 128, 384]⟩
abbrev S1x4x1x3x1x1 : Shape := ⟨6, ![1, 4, 1, 3, 1, 1]⟩
abbrev S8x4x64x3x128x1 : Shape := ⟨6, ![8, 4, 64, 3, 128, 1]⟩
abbrev S8x4x64x3x128x385 : Shape := ⟨6, ![8, 4, 64, 3, 128, 385]⟩
abbrev S8x4x64x3x128 : Shape := ⟨5, ![8, 4, 64, 3, 128]⟩
abbrev S8x4x64x64x3x128 : Shape := ⟨6, ![8, 4, 64, 64, 3, 128]⟩
abbrev S8x2x256x128 : Shape := ⟨4, ![8, 2, 256, 128]⟩
abbrev S8x2x256x2x64 : Shape := ⟨5, ![8, 2, 256, 2, 64]⟩
abbrev S8x2x2x8192x256 : Shape := ⟨5, ![8, 2, 2, 8192, 256]⟩
abbrev S8x2x2x8192 : Shape := ⟨4, ![8, 2, 2, 8192]⟩
abbrev S8x2x2x8192x1 : Shape := ⟨5, ![8, 2, 2, 8192, 1]⟩
abbrev S8x2x2x64x8192 : Shape := ⟨5, ![8, 2, 2, 64, 8192]⟩
abbrev S8x8x8192x128 : Shape := ⟨4, ![8, 8, 8192, 128]⟩

abbrev nBuf : Space → Nat
  | .hbm => 148
  | .vmem => 0
  | .smem => 0
  | _ => 0

abbrev hbmTy0_0 (i : Nat) : BufTy := match i % 128 with
  | 0 => ⟨S8x12x8192x128, .bf16⟩
  | 1 => ⟨S8x4x256x128, .bf16⟩
  | 2 => ⟨S5x4x384x128, .f32⟩
  | 3 => ⟨S12, .f32⟩
  | 4 => ⟨S_, .f32⟩
  | 5 => ⟨S_, .f32⟩
  | 6 => ⟨S8x12x8192x128, .f32⟩
  | 7 => ⟨S8x4x256x128, .f32⟩
  | 8 => ⟨S8x6x8192x128, .f32⟩
  | 9 => ⟨S8x2x3x8192x2x64, .f32⟩
  | 10 => ⟨S8x2x2x3x8192x64, .f32⟩
  | 11 => ⟨S8x4x3x64x128x64, .f32⟩
  | 12 => ⟨S8x2x8192x128, .f32⟩
  | 13 => ⟨S8x2x8192x2x64, .f32⟩
  | 14 => ⟨S8x2x2x8192x64, .f32⟩
  | 15 => ⟨S8x4x8192x64, .f32⟩
  | 16 => ⟨S8x2x8192x128, .f32⟩
  | 17 => ⟨S8x2x8192x2x64, .f32⟩
  | 18 => ⟨S8x2x2x8192x64, .f32⟩
  | 19 => ⟨S8x4x8192x64, .f32⟩
  | 20 => ⟨S384, .i32⟩
  | 21 => ⟨S1x384, .i32⟩
  | 22 => ⟨S_, .i32⟩
  | 23 => ⟨S1x384, .i32⟩
  | 24 => ⟨S1x384, .i32⟩
  | 25 => ⟨S128, .i32⟩
  | 26 => ⟨S128x1, .i32⟩
  | 27 => ⟨S128x384, .i32⟩
  | 28 => ⟨S128x384, .i32⟩
  | 29 => ⟨S128x384, .i32⟩
  | 30 => ⟨S128x384, .i32⟩
  | 31 => ⟨S_, .i32⟩
  | 32 => ⟨S128x384, .i32⟩
  | 33 => ⟨S128x384, .i1⟩
  | 34 => ⟨S64, .i32⟩
  | 35 => ⟨S64x1, .i32⟩
  | 36 => ⟨S_, .i32⟩
  | 37 => ⟨S64x1, .i32⟩
  | 38 => ⟨S64x1, .i32⟩
  | 39 => ⟨S_, .i32⟩
  | 40 => ⟨S64x1, .i32⟩
  | 41 => ⟨S64x1, .i32⟩
  | 42 => ⟨S384, .i32⟩
  | 43 => ⟨S1x384, .i32⟩
  | 44 => ⟨S64x384, .i32⟩
  | 45 => ⟨S64x384, .i32⟩
  | 46 => ⟨S64x384, .i32⟩
  | 47 => ⟨S1x128x384, .i1⟩
  | 48 => ⟨S_, .i32⟩
  | 49 => ⟨S64x384, .i32⟩
  | 50 => ⟨S64x384, .i1⟩
  | 51 => ⟨S_, .i32⟩
  | 52 => ⟨S64x384, .i32⟩
  | 53 => ⟨S64x384, .i1⟩
  | 54 => ⟨S64x384, .i1⟩
  | 55 => ⟨S64x1x384, .i1⟩
  | 56 => ⟨S64x128x384, .i1⟩
  | 57 => ⟨S64x128x384, .i1⟩
  | 58 => ⟨S64x128x384, .i1⟩
  | 59 => ⟨S1x4x384x128, .f32⟩
  | 60 => ⟨S4x384x128, .f32⟩
  | 61 => ⟨S1x4x384x128, .f32⟩
  | 62 => ⟨S4x384x128, .f32⟩
  | 63 => ⟨S1x4x384x128, .f32⟩
  | 64 => ⟨S4x384x128, .f32⟩
  | 65 => ⟨S4x384x384, .f32⟩
  | 66 => ⟨S4x3x128x384, .f32⟩
  | 67 => ⟨S_, .f32⟩
  | 68 => ⟨S8x4x8448x64, .f32⟩
  | 69 => ⟨S8x4x66x128x64, .f32⟩
  | 70 => ⟨S8x4x64x128x64, .f32⟩
  | 71 => ⟨S8x4x64x128x64, .f32⟩
  | 72 => ⟨S8x4x64x128x64, .f32⟩
  | 73 => ⟨S8x4x64x384x64, .f32⟩
  | 74 => ⟨S8x4x64x3x128x384, .f32⟩
  | 75 => ⟨S8x4x64x3x128x384, .f32⟩
  | 76 => ⟨S8x4x64x3x128x384, .f32⟩
  | 77 => ⟨S4x3x128x384, .f32⟩
  | 78 => ⟨S4x3x128x384, .f32⟩
  | 79 => ⟨S1x4x1x3x128x384, .f32⟩
  | 80 => ⟨S8x4x64x3x128x384, .f32⟩
  | 81 => ⟨S8x4x64x3x128x384, .f32⟩
  | 82 => ⟨S1x1x64x1x128x384, .i1⟩
  | 83 => ⟨S_, .f32⟩
  | 84 => ⟨S_, .f32⟩
  | 85 => ⟨S8x4x64x3x128x384, .i1⟩
  | 86 => ⟨S8x4x64x3x128x384, .f32⟩
  | 87 => ⟨S8x4x64x3x128x384, .f32⟩
  | 88 => ⟨S12, .f32⟩
  | 89 => ⟨S12, .f32⟩
  | 90 => ⟨S1x4x1x3x1x1, .f32⟩
  | 91 => ⟨S8x4x64x3x128x1, .f32⟩
  | 92 => ⟨S8x4x64x3x128x385, .f32⟩
  | 93 => ⟨S_, .f32⟩
  | 94 => ⟨S8x4x64x3x128, .f32⟩
  | 95 => ⟨S_, .f32⟩
  | 96 => ⟨S8x4x64x3x128, .f32⟩
  | 97 => ⟨S8x4x64x3x128, .f32⟩
  | 98 => ⟨S8x4x64x3x128x1, .f32⟩
  | 99 => ⟨S8x4x64x3x128x385, .f32⟩
  | 100 => ⟨S8x4x64x3x128x385, .f32⟩
  | 101 => ⟨S8x4x64x3x128x385, .f32⟩
  | 102 => ⟨S_, .f32⟩
  | 103 => ⟨S8x4x64x3x128, .f32⟩
  | 104 => ⟨S8x4x64x3x128x1, .f32⟩
  | 105 => ⟨S8x4x64x3x128x385, .f32⟩
  | 106 => ⟨S8x4x64x3x128x385, .f32⟩
  | 107 => ⟨S8x4x64x3x128x384, .f32⟩
  | 108 => ⟨S_, .f32⟩
  | 109 => ⟨S8x4x8448x64, .f32⟩
  | 110 => ⟨S8x4x66x128x64, .f32⟩
  | 111 => ⟨S8x4x64x128x64, .f32⟩
  | 112 => ⟨S8x4x64x128x64, .f32⟩
  | 113 => ⟨S8x4x64x128x64, .f32⟩
  | 114 => ⟨S8x4x64x384x64, .f32⟩
  | 115 => ⟨S8x4x64x64x3x128, .f32⟩
  | 116 => ⟨S8x4x3x64x128x64, .f32⟩
  | 117 => ⟨S8x2x2x3x8192x64, .f32⟩
  | 118 => ⟨S8x2x3x8192x2x64, .f32⟩
  | 119 => ⟨S8x6x8192x128, .f32⟩
  | 120 => ⟨S8x2x8192x128, .f32⟩
  | 121 => ⟨S8x2x8192x2x64, .f32⟩
  | 122 => ⟨S8x2x256x128, .f32⟩
  | 123 => ⟨S8x2x256x2x64, .f32⟩
  | 124 => ⟨S8x2x256x128, .f32⟩
  | 125 => ⟨S8x2x256x2x64, .f32⟩
  | 126 => ⟨S8x2x2x8192x256, .f32⟩
  | 127 => ⟨S8x2x2x8192x256, .f32⟩
  | _ => ⟨S8x12x8192x128, .bf16⟩

abbrev hbmTy0_1 (i : Nat) : BufTy := match i % 128 with
  | 0 => ⟨S8x2x2x8192x256, .f32⟩
  | 1 => ⟨S_, .f32⟩
  | 2 => ⟨S8x2x2x8192, .f32⟩
  | 3 => ⟨S_, .f32⟩
  | 4 => ⟨S8x2x2x8192, .f32⟩
  | 5 => ⟨S8x2x2x8192, .f32⟩
  | 6 => ⟨S8x2x2x8192x1, .f32⟩
  | 7 => ⟨S8x2x2x8192x256, .f32⟩
  | 8 => ⟨S8x2x2x8192x256, .f32⟩
  | 9 => ⟨S8x2x2x8192x256, .f32⟩
  | 10 => ⟨S_, .f32⟩
  | 11 => ⟨S8x2x2x8192, .f32⟩
  | 12 => ⟨S8x2x2x8192x1, .f32⟩
  | 13 => ⟨S8x2x2x8192x256, .f32⟩
  | 14 => ⟨S8x2x2x8192x256, .f32⟩
  | 15 => ⟨S8x2x2x64x8192, .f32⟩
  | 16 => ⟨S8x2x8192x2x64, .f32⟩
  | 17 => ⟨S8x2x8192x128, .f32⟩
  | 18 => ⟨S8x8x8192x128, .f32⟩
  | 19 => ⟨S8x8x8192x128, .bf16⟩
  | _ => ⟨S8x12x8192x128, .bf16⟩

abbrev hbmTy (i : Nat) : BufTy := match i / 128 with
  | 0 => hbmTy0_0 i
  | 1 => hbmTy0_1 i
  | _ => ⟨S8x12x8192x128, .bf16⟩

abbrev bufTy : (tb : Table) → Fin (tcTables nBuf tb) → BufTy
  | .hbm, ⟨i, _⟩ => hbmTy i
  | _, _ => ⟨S8x12x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_1 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_5 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_6 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_7 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_9 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_11 : Ref sig .tc := ⟨.hbm, 129, rfl⟩
abbrev main_v109 : Ref sig .tc := ⟨.hbm, 130, rfl⟩
abbrev main_cst_12 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_13 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩

abbrev nD : Nat := 1
abbrev τ : Topo := Topo.v7x

variable {F : FTy → Type} [FloatOps F]
-- ==== Post.lean ====
abbrev S8x8192x1024 : Shape := ⟨3, ![8, 8192, 1024]⟩
abbrev S8x8x8192x128 : Shape := ⟨4, ![8, 8, 8192, 128]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S1x1024 : Shape := ⟨2, ![1, 1024]⟩
abbrev S1x1024x1024 : Shape := ⟨3, ![1, 1024, 1024]⟩
abbrev S1x8x1024x128 : Shape := ⟨4, ![1, 8, 1024, 128]⟩
abbrev S1x1x512x128 : Shape := ⟨4, ![1, 1, 512, 128]⟩
abbrev S512x128 : Shape := ⟨2, ![512, 128]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S8x8x8192x128, .bf16⟩
  | .hbm, ⟨2, _⟩ => ⟨S1024x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1024x2816, .f32⟩
  | .hbm, ⟨10, _⟩ => ⟨S1024x2816, .f32⟩
  | .hbm, ⟨11, _⟩ => ⟨S1x1024x2816, .f32⟩
  | .hbm, ⟨12, _⟩ => ⟨S1x1024x2816, .f32⟩
  | .hbm, ⟨13, _⟩ => ⟨S2x1024x2816, .f32⟩
  | .hbm, ⟨14, _⟩ => ⟨S2x1024x2816, .bf16⟩
  | .hbm, ⟨15, _⟩ => ⟨S2816x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024x128, .bf16⟩
  | .local _ .vmem, ⟨3, _⟩ => ⟨S1x8x1024x128, .bf16⟩
  | .local _ .vmem, ⟨4, _⟩ => ⟨S1024x1024, .bf16⟩
  | .local _ .vmem, ⟨5, _⟩ => ⟨S2x1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PostReferenceIdeal.lean ====
abbrev S8x8192x1024 : Shape := ⟨3, ![8, 8192, 1024]⟩
abbrev S8x8x8192x128 : Shape := ⟨4, ![8, 8, 8192, 128]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S8x8192x8x128 : Shape := ⟨4, ![8, 8192, 8, 128]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x5632 : Shape := ⟨3, ![8, 8192, 5632]⟩
abbrev S8x8192x2816 : Shape := ⟨3, ![8, 8192, 2816]⟩

abbrev nBuf : Space → Nat
  | .hbm => 76
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8x8192x128, .bf16⟩
  | .hbm, ⟨2, _⟩ => ⟨S1024x1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S8x8x8192x128, .f32⟩
  | .hbm, ⟨9, _⟩ => ⟨S8x8192x8x128, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S8x8192x1, .f32⟩
  | .hbm, ⟨23, _⟩ => ⟨S8x8192x1024, .f32⟩
  | .hbm, ⟨24, _⟩ => ⟨S8x8192x1024, .f32⟩
  | .hbm, ⟨25, _⟩ => ⟨S1x1x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S_, .f32⟩
  | .hbm, ⟨34, _⟩ => ⟨S8x8192x1, .f32⟩
  | .hbm, ⟨35, _⟩ => ⟨S8x8192x1, .f32⟩
  | .hbm, ⟨36, _⟩ => ⟨S_, .f32⟩
  | .hbm, ⟨37, _⟩ => ⟨S8x8192x1, .f32⟩
  | .hbm, ⟨38, _⟩ => ⟨S8x8192x1, .f32⟩
  | .hbm, ⟨39, _⟩ => ⟨S8x8192x1, .f32⟩
  | .hbm, ⟨40, _⟩ => ⟨S8x8192x1024, .f32⟩
  | .hbm, ⟨41, _⟩ => ⟨S8x8192x1024, .f32⟩
  | .hbm, ⟨42, _⟩ => ⟨S1x1x1024, .f32⟩
  | .hbm, ⟨43, _⟩ => ⟨S8x8192x1024, .f32⟩
  | .hbm, ⟨44, _⟩ => ⟨S8x8192x1024, .f32⟩
  | .hbm, ⟨45, _⟩ => ⟨S8x8192x5632, .f32⟩
  | .hbm, ⟨46, _⟩ => ⟨S8x8192x2816, .f32⟩
  | .hbm, ⟨47, _⟩ => ⟨S8x8192x2816, .f32⟩
  | .hbm, ⟨48, _⟩ => ⟨S8x8192x2816, .f32⟩
  | .hbm, ⟨49, _⟩ => ⟨S_, .f32⟩
  | .hbm, ⟨50, _⟩ => ⟨S8x8192x2816, .f32⟩
  | .hbm, ⟨51, _⟩ => ⟨S8x8192x2816, .f32⟩
  | .hbm, ⟨52, _⟩ => ⟨S_, .f32⟩
  | .hbm, ⟨53, _⟩ => ⟨S8x8192x2816, .f32⟩
  | .hbm, ⟨54, _⟩ => ⟨S8x8192x2816, .f32⟩
  | .hbm, ⟨55, _⟩ => ⟨S8x8192x2816, .f32⟩
  | .hbm, ⟨56, _⟩ => ⟨S8x8192x2816, .f32⟩
  | .hbm, ⟨57, _⟩ => ⟨S8x8192x2816, .f32⟩
  | .hbm, ⟨58, _⟩ => ⟨S8x8192x1024, .f32⟩
  | .hbm, ⟨59, _⟩ => ⟨S8x8192x1024, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S_, .f32⟩
  | .hbm, ⟨64, _⟩ => ⟨S8x8192x1, .f32⟩
  | .hbm, ⟨65, _⟩ => ⟨S8x8192x1, .f32⟩
  | .hbm, ⟨66, _⟩ => ⟨S_, .f32⟩
  | .hbm, ⟨67, _⟩ => ⟨S8x8192x1, .f32⟩
  | .hbm, ⟨68, _⟩ => ⟨S8x8192x1, .f32⟩
  | .hbm, ⟨69, _⟩ => ⟨S8x8192x1, .f32⟩
  | .hbm, ⟨70, _⟩ => ⟨S8x8192x1024, .f32⟩
  | .hbm, ⟨71, _⟩ => ⟨S8x8192x1024, .f32⟩
  | .hbm, ⟨72, _⟩ => ⟨S1x1x1024, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_cst_6 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== ProjA.lean ====
abbrev S8x8192x1024 : Shape := ⟨3, ![8, 8192, 1024]⟩
abbrev S1024 : Shape := ⟨1, ![1024]⟩
abbrev S1024x1536 : Shape := ⟨2, ![1024, 1536]⟩
abbrev S1536 : Shape := ⟨1, ![1536]⟩
abbrev S_ : Shape := ⟨0, ![]⟩
abbrev S1536x1 : Shape := ⟨2, ![1536, 1]⟩
abbrev S1x1024 : Shape := ⟨2, ![1, 1024]⟩
abbrev S8x12x8192x128 : Shape := ⟨4, ![8, 12, 8192, 128]⟩
abbrev S1x1024x1024 : Shape := ⟨3, ![1, 1024, 1024]⟩
abbrev S1x12x1024x128 : Shape := ⟨4, ![1, 12, 1024, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x1x512x128 : Shape := ⟨4, ![1, 1, 512, 128]⟩

abbrev nBuf : Space → Nat
  | .hbm => 14
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S1536, .i32⟩
  | .hbm, ⟨4, _⟩ => ⟨S1536, .i1⟩
  | .hbm, ⟨5, _⟩ => ⟨S_, .i32⟩
  | .hbm, ⟨6, _⟩ => ⟨S1536, .i32⟩
  | .hbm, ⟨7, _⟩ => ⟨S1536, .i32⟩
  | .hbm, ⟨8, _⟩ => ⟨S1536, .i32⟩
  | .hbm, ⟨9, _⟩ => ⟨S1536x1, .i32⟩
  | .hbm, ⟨10, _⟩ => ⟨S1024x1536, .f32⟩
  | .hbm, ⟨11, _⟩ => ⟨S1024x1536, .bf16⟩
  | .hbm, ⟨12, _⟩ => ⟨S1x1024, .f32⟩
  | .hbm, ⟨13, _⟩ => ⟨S8x12x8192x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x1536, .bf16⟩
  | .local _ .vmem, ⟨4, _⟩ => ⟨S1x12x1024x128, .bf16⟩
  | .local _ .vmem, ⟨5, _⟩ => ⟨S1x12x1024x128, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x12x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjAIdeal.lean ====
variable {F : FTy → Type} [FloatOps F] [Named F]
def κ : String → Option EReal := fun
  | "q_scale" => some (((8 * (Real.log 2))⁻¹ : ℝ) : EReal)
  | _ => none
-- ==== ProjAReferenceIdeal.lean ====
abbrev S8x8192x1024 : Shape := ⟨3, ![8, 8192, 1024]⟩
abbrev S1024 : Shape := ⟨1, ![1024]⟩
abbrev S1024x1536 : Shape := ⟨2, ![1024, 1536]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x1536 : Shape := ⟨3, ![8, 8192, 1536]⟩
abbrev S8x8192x768 : Shape := ⟨3, ![8, 8192, 768]⟩
abbrev S8x8192x2x2x3x64 : Shape := ⟨6, ![8, 8192, 2, 2, 3, 64]⟩
abbrev S8x2x3x8192x2x64 : Shape := ⟨6, ![8, 2, 3, 8192, 2, 64]⟩
abbrev S8x6x8192x128 : Shape := ⟨4, ![8, 6, 8192, 128]⟩
abbrev S8x8192x512 : Shape := ⟨3, ![8, 8192, 512]⟩
abbrev S8x8192x4x128 : Shape := ⟨4, ![8, 8192, 4, 128]⟩
abbrev S8x4x8192x128 : Shape := ⟨4, ![8, 4, 8192, 128]⟩
abbrev S8x8192x256 : Shape := ⟨3, ![8, 8192, 256]⟩
abbrev S8x8192x2x128 : Shape := ⟨4, ![8, 8192, 2, 128]⟩
abbrev S8x2x8192x128 : Shape := ⟨4, ![8, 2, 8192, 128]⟩
abbrev S8x12x8192x128 : Shape := ⟨4, ![8, 12, 8192, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x1536, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x1536, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x8192x768, .f32⟩
  | .hbm, ⟨25, _⟩ => ⟨S8x8192x768, .f32⟩
  | .hbm, ⟨26, _⟩ => ⟨S8x8192x768, .f32⟩
  | .hbm, ⟨27, _⟩ => ⟨S8x8192x2x2x3x64, .f32⟩
  | .hbm, ⟨28, _⟩ => ⟨S8x2x3x8192x2x64, .f32⟩
  | .hbm, ⟨29, _⟩ => ⟨S8x6x8192x128, .f32⟩
  | .hbm, ⟨30, _⟩ => ⟨S8x8192x512, .f32⟩
  | .hbm, ⟨31, _⟩ => ⟨S8x8192x4x128, .f32⟩
  | .hbm, ⟨32, _⟩ => ⟨S8x4x8192x128, .f32⟩
  | .hbm, ⟨33, _⟩ => ⟨S8x8192x256, .f32⟩
  | .hbm, ⟨34, _⟩ => ⟨S8x8192x256, .f32⟩
  | .hbm, ⟨35, _⟩ => ⟨S8x8192x256, .f32⟩
  | .hbm, ⟨36, _⟩ => ⟨S8x8192x2x128, .f32⟩
  | .hbm, ⟨37, _⟩ => ⟨S8x2x8192x128, .f32⟩
  | .hbm, ⟨38, _⟩ => ⟨S8x12x8192x128, .f32⟩
  | .hbm, ⟨39, _⟩ => ⟨S8x12x8192x128, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== ProjB.lean ====
abbrev S8x8192x1024 : Shape := ⟨3, ![8, 8192, 1024]⟩
abbrev S1024 : Shape := ⟨1, ![1024]⟩
abbrev S1024x2560 : Shape := ⟨2, ![1024, 2560]⟩
abbrev S2560 : Shape := ⟨1, ![2560]⟩
abbrev S_ : Shape := ⟨0, ![]⟩
abbrev S2560x1 : Shape := ⟨2, ![2560, 1]⟩
abbrev S1x1024 : Shape := ⟨2, ![1, 1024]⟩
abbrev S8x20x8192x128 : Shape := ⟨4, ![8, 20, 8192, 128]⟩
abbrev S1x1024x1024 : Shape := ⟨3, ![1, 1024, 1024]⟩
abbrev S1x20x1024x128 : Shape := ⟨4, ![1, 20, 1024, 128]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x2560 : Shape := ⟨2, ![512, 2560]⟩
abbrev S512x128 : Shape := ⟨2, ![512, 128]⟩
abbrev S1x1x512x128 : Shape := ⟨4, ![1, 1, 512, 128]⟩

abbrev nBuf : Space → Nat
  | .hbm => 14
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2560, .f32⟩
  | .hbm, ⟨3, _⟩ => ⟨S2560, .i32⟩
  | .hbm, ⟨4, _⟩ => ⟨S2560, .i1⟩
  | .hbm, ⟨5, _⟩ => ⟨S_, .i32⟩
  | .hbm, ⟨6, _⟩ => ⟨S2560, .i32⟩
  | .hbm, ⟨7, _⟩ => ⟨S2560, .i32⟩
  | .hbm, ⟨8, _⟩ => ⟨S2560, .i32⟩
  | .hbm, ⟨9, _⟩ => ⟨S2560x1, .i32⟩
  | .hbm, ⟨10, _⟩ => ⟨S1024x2560, .f32⟩
  | .hbm, ⟨11, _⟩ => ⟨S1024x2560, .bf16⟩
  | .hbm, ⟨12, _⟩ => ⟨S1x1024, .f32⟩
  | .hbm, ⟨13, _⟩ => ⟨S8x20x8192x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .bf16⟩
  | .local _ .vmem, ⟨4, _⟩ => ⟨S1x20x1024x128, .bf16⟩
  | .local _ .vmem, ⟨5, _⟩ => ⟨S1x20x1024x128, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x20x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjBIdeal.lean ====
variable {F : FTy → Type} [FloatOps F] [Named F]
def κ : String → Option EReal := fun
  | "q_scale" => some (((8 * (Real.log 2))⁻¹ : ℝ) : EReal)
  | _ => none
-- ==== ProjBReferenceIdeal.lean ====
abbrev S8x8192x1024 : Shape := ⟨3, ![8, 8192, 1024]⟩
abbrev S1024 : Shape := ⟨1, ![1024]⟩
abbrev S1024x2560 : Shape := ⟨2, ![1024, 2560]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2560 : Shape := ⟨3, ![8, 8192, 2560]⟩
abbrev S8x8192x1536 : Shape := ⟨3, ![8, 8192, 1536]⟩
abbrev S8x8192x768 : Shape := ⟨3, ![8, 8192, 768]⟩
abbrev S8x8192x256 : Shape := ⟨3, ![8, 8192, 256]⟩
abbrev S8x8192x20x128 : Shape := ⟨4, ![8, 8192, 20, 128]⟩
abbrev S8x20x8192x128 : Shape := ⟨4, ![8, 20, 8192, 128]⟩

abbrev nBuf : Space → Nat
  | .hbm => 35
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x2560, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x2560, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x8192x1536, .f32⟩
  | .hbm, ⟨25, _⟩ => ⟨S8x8192x768, .f32⟩
  | .hbm, ⟨26, _⟩ => ⟨S8x8192x768, .f32⟩
  | .hbm, ⟨27, _⟩ => ⟨S8x8192x768, .f32⟩
  | .hbm, ⟨28, _⟩ => ⟨S8x8192x256, .f32⟩
  | .hbm, ⟨29, _⟩ => ⟨S8x8192x256, .f32⟩
  | .hbm, ⟨30, _⟩ => ⟨S8x8192x256, .f32⟩
  | .hbm, ⟨31, _⟩ => ⟨S8x8192x2560, .f32⟩
  | .hbm, ⟨32, _⟩ => ⟨S8x8192x20x128, .f32⟩
  | .hbm, ⟨33, _⟩ => ⟨S8x20x8192x128, .f32⟩
  | .hbm, ⟨34, _⟩ => ⟨S8x20x8192x128, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== MemKv.lean ====
abbrev S8x256x1024 : Shape := ⟨3, ![8, 256, 1024]⟩
abbrev S4x1024 : Shape := ⟨2, ![4, 1024]⟩
abbrev S4x1024x512 : Shape := ⟨3, ![4, 1024, 512]⟩
abbrev S4x1x1024 : Shape := ⟨3, ![4, 1, 1024]⟩
abbrev S4x8x4x256x128 : Shape := ⟨5, ![4, 8, 4, 256, 128]⟩
abbrev S1x1x1024 : Shape := ⟨3, ![1, 1, 1024]⟩
abbrev S1x1024x512 : Shape := ⟨3, ![1, 1024, 512]⟩
abbrev S1x8x4x256x128 : Shape := ⟨5, ![1, 8, 4, 256, 128]⟩
abbrev S2048x1024 : Shape := ⟨2, ![2048, 1024]⟩
abbrev S1x1024 : Shape := ⟨2, ![1, 1024]⟩
abbrev S2048 : Shape := ⟨1, ![2048]⟩
abbrev S2048x1 : Shape := ⟨2, ![2048, 1]⟩
abbrev S1024x512 : Shape := ⟨2, ![1024, 512]⟩
abbrev S2048x512 : Shape := ⟨2, ![2048, 512]⟩
abbrev S256x128 : Shape := ⟨2, ![256, 128]⟩
abbrev S1x1x1x256x128 : Shape := ⟨5, ![1, 1, 1, 256, 128]⟩

abbrev nBuf : Space → Nat
  | .hbm => 6
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x512, .f32⟩
  | .hbm, ⟨3, _⟩ => ⟨S4x1024x512, .bf16⟩
  | .hbm, ⟨4, _⟩ => ⟨S4x1x1024, .f32⟩
  | .hbm, ⟨5, _⟩ => ⟨S4x8x4x256x128, .bf16⟩
  | .local _ .vmem, ⟨0, _⟩ => ⟨S8x256x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x8x4x256x128, .bf16⟩
  | .local _ .vmem, ⟨6, _⟩ => ⟨S1x8x4x256x128, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S8x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemKvReferenceIdeal.lean ====
abbrev S8x256x1024 : Shape := ⟨3, ![8, 256, 1024]⟩
abbrev S4x1024 : Shape := ⟨2, ![4, 1024]⟩
abbrev S4x1024x512 : Shape := ⟨3, ![4, 1024, 512]⟩
abbrev S_ : Shape := ⟨0, ![]⟩
abbrev S8x256 : Shape := ⟨2, ![8, 256]⟩
abbrev S8x256x1 : Shape := ⟨3, ![8, 256, 1]⟩
abbrev S4x1x1x1024 : Shape := ⟨4, ![4, 1, 1, 1024]⟩
abbrev S1x8x256x1024 : Shape := ⟨4, ![1, 8, 256, 1024]⟩
abbrev S4x8x256x1024 : Shape := ⟨4, ![4, 8, 256, 1024]⟩
abbrev S4x8x256x512 : Shape := ⟨4, ![4, 8, 256, 512]⟩
abbrev S4x8x256x4x128 : Shape := ⟨5, ![4, 8, 256, 4, 128]⟩
abbrev S4x8x4x256x128 : Shape := ⟨5, ![4, 8, 4, 256, 128]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x512, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S4x1x1x1024, .f32⟩
  | .hbm, ⟨17, _⟩ => ⟨S1x8x256x1024, .f32⟩
  | .hbm, ⟨18, _⟩ => ⟨S4x8x256x1024, .f32⟩
  | .hbm, ⟨19, _⟩ => ⟨S4x8x256x1024, .f32⟩
  | .hbm, ⟨20, _⟩ => ⟨S4x8x256x1024, .f32⟩
  | .hbm, ⟨21, _⟩ => ⟨S4x8x256x512, .f32⟩
  | .hbm, ⟨22, _⟩ => ⟨S4x8x256x4x128, .f32⟩
  | .hbm, ⟨23, _⟩ => ⟨S4x8x4x256x128, .f32⟩
  | .hbm, ⟨24, _⟩ => ⟨S4x8x4x256x128, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== BiasA.lean ====
abbrev S32x12 : Shape := ⟨2, ![32, 12]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S1x128x128 : Shape := ⟨3, ![1, 128, 128]⟩
abbrev S3x128x128 : Shape := ⟨3, ![3, 128, 128]⟩
abbrev S384 : Shape := ⟨1, ![384]⟩
abbrev S5x4x384x128 : Shape := ⟨4, ![5, 4, 384, 128]⟩
abbrev S1 : Shape := ⟨1, ![1]⟩
abbrev S1x1x128x128 : Shape := ⟨4, ![1, 1, 128, 128]⟩

abbrev nBuf : Space → Nat
  | .hbm => 63
  | .vmem => 2
  | .smem => 1
  | _ => 0

abbrev bufTy : (tb : Table) → Fin (tcTables nBuf tb) → BufTy
  | .hbm, ⟨0, _⟩ => ⟨S32x12, .f32⟩
  | .hbm, ⟨1, _⟩ => ⟨S128, .i32⟩
  | .hbm, ⟨2, _⟩ => ⟨S128x1, .i32⟩
  | .hbm, ⟨3, _⟩ => ⟨S128, .i32⟩
  | .hbm, ⟨4, _⟩ => ⟨S1x128, .i32⟩
  | .hbm, ⟨5, _⟩ => ⟨S_, .i32⟩
  | .hbm, ⟨6, _⟩ => ⟨S1x128, .i32⟩
  | .hbm, ⟨7, _⟩ => ⟨S1x128, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S1x128, .i32⟩
  | .hbm, ⟨16, _⟩ => ⟨S1x128, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S1x128x128, .i32⟩
  | .hbm, ⟨21, _⟩ => ⟨S1x128x128, .i32⟩
  | .hbm, ⟨22, _⟩ => ⟨S1x128x128, .i32⟩
  | .hbm, ⟨23, _⟩ => ⟨S3x128x128, .i32⟩
  | .hbm, ⟨24, _⟩ => ⟨S3x128x128, .i32⟩
  | .hbm, ⟨25, _⟩ => ⟨S_, .i32⟩
  | .hbm, ⟨26, _⟩ => ⟨S3x128x128, .i32⟩
  | .hbm, ⟨27, _⟩ => ⟨S3x128x128, .i1⟩
  | .hbm, ⟨28, _⟩ => ⟨S_, .i32⟩
  | .hbm, ⟨29, _⟩ => ⟨S_, .i32⟩
  | .hbm, ⟨30, _⟩ => ⟨S3x128x128, .i32⟩
  | .hbm, ⟨31, _⟩ => ⟨S3x128x128, .i32⟩
  | .hbm, ⟨32, _⟩ => ⟨S3x128x128, .i32⟩
  | .hbm, ⟨33, _⟩ => ⟨S3x128x128, .i32⟩
  | .hbm, ⟨34, _⟩ => ⟨S_, .i32⟩
  | .hbm, ⟨35, _⟩ => ⟨S3x128x128, .i32⟩
  | .hbm, ⟨36, _⟩ => ⟨S3x128x128, .i32⟩
  | .hbm, ⟨37, _⟩ => ⟨S3x128x128, .f32⟩
  | .hbm, ⟨38, _⟩ => ⟨S_, .f32⟩
  | .hbm, ⟨39, _⟩ => ⟨S3x128x128, .f32⟩
  | .hbm, ⟨40, _⟩ => ⟨S3x128x128, .f32⟩
  | .hbm, ⟨41, _⟩ => ⟨S3x128x128, .f32⟩
  | .hbm, ⟨42, _⟩ => ⟨S_, .f32⟩
  | .hbm, ⟨43, _⟩ => ⟨S3x128x128, .f32⟩
  | .hbm, ⟨44, _⟩ => ⟨S3x128x128, .f32⟩
  | .hbm, ⟨45, _⟩ => ⟨S_, .f32⟩
  | .hbm, ⟨46, _⟩ => ⟨S3x128x128, .f32⟩
  | .hbm, ⟨47, _⟩ => ⟨S3x128x128, .f32⟩
  | .hbm, ⟨48, _⟩ => ⟨S3x128x128, .i32⟩
  | .hbm, ⟨49, _⟩ => ⟨S_, .i32⟩
  | .hbm, ⟨50, _⟩ => ⟨S3x128x128, .i32⟩
  | .hbm, ⟨51, _⟩ => ⟨S3x128x128, .i32⟩
  | .hbm, ⟨52, _⟩ => ⟨S_, .i32⟩
  | .hbm, ⟨53, _⟩ => ⟨S3x128x128, .i32⟩
  | .hbm, ⟨54, _⟩ => ⟨S3x128x128, .i32⟩
  | .hbm, ⟨55, _⟩ => ⟨S_, .i32⟩
  | .hbm, ⟨56, _⟩ => ⟨S3x128x128, .i32⟩
  | .hbm, ⟨57, _⟩ => ⟨S3x128x128, .i1⟩
  | .hbm, ⟨58, _⟩ => ⟨S3x128x128, .i32⟩
  | .hbm, ⟨59, _⟩ => ⟨S3x128x128, .i32⟩
  | .hbm, ⟨60, _⟩ => ⟨S3x128x128, .i32⟩
  | .hbm, ⟨61, _⟩ => ⟨S384, .f32⟩
  | .hbm, ⟨62, _⟩ => ⟨S5x4x384x128, .f32⟩
  | .local _ .vmem, ⟨0, _⟩ => ⟨S3x128x128, .i32⟩
  | .local _ .vmem, ⟨1, _⟩ => ⟨S5x4x384x128, .f32⟩
  | .local _ .smem, ⟨0, _⟩ => ⟨S384, .f32⟩
  | _, _ => ⟨S32x12, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_1 : Ref sig .tc := ⟨.hbm, 25, rfl⟩
abbrev main_v22 : Ref sig .tc := ⟨.hbm, 26, rfl⟩
abbrev main_v23 : Ref sig .tc := ⟨.hbm, 27, rfl⟩
abbrev main_c_2 : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_c_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .smem S384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x4x384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasAIdeal.lean ====
variable {F : FTy → Type} [FloatOps F] [Named F]
def κ : String → Option EReal := fun
  | "log2e" => some (((Real.log 2)⁻¹ : ℝ) : EReal)
  | _ => none
-- ==== BiasAReferenceIdeal.lean ====
abbrev S32x12 : Shape := ⟨2, ![32, 12]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x12 : Shape := ⟨3, ![128, 384, 12]⟩
abbrev S12x128x384 : Shape := ⟨3, ![12, 128, 384]⟩
abbrev S4x384x3x128 : Shape := ⟨4, ![4, 384, 3, 128]⟩
abbrev S4x384x128 : Shape := ⟨3, ![4, 384, 128]⟩
abbrev S4x384x1x128 : Shape := ⟨4, ![4, 384, 1, 128]⟩
abbrev S1x4x384x128 : Shape := ⟨4, ![1, 4, 384, 128]⟩
abbrev S5x4x384x128 : Shape := ⟨4, ![5, 4, 384, 128]⟩

abbrev nBuf : Space → Nat
  | .hbm => 86
  | .vmem => 0
  | .smem => 0
  | _ => 0

abbrev bufTy : (tb : Table) → Fin (tcTables nBuf tb) → BufTy
  | .hbm, ⟨0, _⟩ => ⟨S32x12, .f32⟩
  | .hbm, ⟨1, _⟩ => ⟨S384, .i32⟩
  | .hbm, ⟨2, _⟩ => ⟨S1x384, .i32⟩
  | .hbm, ⟨3, _⟩ => ⟨S_, .i32⟩
  | .hbm, ⟨4, _⟩ => ⟨S1x384, .i32⟩
  | .hbm, ⟨5, _⟩ => ⟨S1x384, .i32⟩
  | .hbm, ⟨6, _⟩ => ⟨S128, .i32⟩
  | .hbm, ⟨7, _⟩ => ⟨S128x1, .i32⟩
  | .hbm, ⟨8, _⟩ => ⟨S128x384, .i32⟩
  | .hbm, ⟨9, _⟩ => ⟨S128x384, .i32⟩
  | .hbm, ⟨10, _⟩ => ⟨S128x384, .i32⟩
  | .hbm, ⟨11, _⟩ => ⟨S128x384, .i32⟩
  | .hbm, ⟨12, _⟩ => ⟨S_, .i32⟩
  | .hbm, ⟨13, _⟩ => ⟨S128x384, .i32⟩
  | .hbm, ⟨14, _⟩ => ⟨S128x384, .i32⟩
  | .hbm, ⟨15, _⟩ => ⟨S128x384, .f32⟩
  | .hbm, ⟨16, _⟩ => ⟨S_, .f32⟩
  | .hbm, ⟨17, _⟩ => ⟨S128x384, .f32⟩
  | .hbm, ⟨18, _⟩ => ⟨S128x384, .f32⟩
  | .hbm, ⟨19, _⟩ => ⟨S128x384, .f32⟩
  | .hbm, ⟨20, _⟩ => ⟨S_, .f32⟩
  | .hbm, ⟨21, _⟩ => ⟨S128x384, .f32⟩
  | .hbm, ⟨22, _⟩ => ⟨S128x384, .f32⟩
  | .hbm, ⟨23, _⟩ => ⟨S_, .f32⟩
  | .hbm, ⟨24, _⟩ => ⟨S128x384, .f32⟩
  | .hbm, ⟨25, _⟩ => ⟨S128x384, .f32⟩
  | .hbm, ⟨26, _⟩ => ⟨S128x384, .i32⟩
  | .hbm, ⟨27, _⟩ => ⟨S_, .i32⟩
  | .hbm, ⟨28, _⟩ => ⟨S128x384, .i32⟩
  | .hbm, ⟨29, _⟩ => ⟨S128x384, .i32⟩
  | .hbm, ⟨30, _⟩ => ⟨S_, .i32⟩
  | .hbm, ⟨31, _⟩ => ⟨S128x384, .i32⟩
  | .hbm, ⟨32, _⟩ => ⟨S128x384, .i1⟩
  | .hbm, ⟨33, _⟩ => ⟨S_, .i32⟩
  | .hbm, ⟨34, _⟩ => ⟨S_, .i32⟩
  | .hbm, ⟨35, _⟩ => ⟨S128x384, .i32⟩
  | .hbm, ⟨36, _⟩ => ⟨S128x384, .i32⟩
  | .hbm, ⟨37, _⟩ => ⟨S128x384, .i32⟩
  | .hbm, ⟨38, _⟩ => ⟨S_, .i32⟩
  | .hbm, ⟨39, _⟩ => ⟨S128x384, .i32⟩
  | .hbm, ⟨40, _⟩ => ⟨S128x384, .i1⟩
  | .hbm, ⟨41, _⟩ => ⟨S_, .i32⟩
  | .hbm, ⟨42, _⟩ => ⟨S128x384, .i32⟩
  | .hbm, ⟨43, _⟩ => ⟨S128x384, .i32⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S_, .i32⟩
  | .hbm, ⟨48, _⟩ => ⟨S128x384, .i32⟩
  | .hbm, ⟨49, _⟩ => ⟨S128x384, .i1⟩
  | .hbm, ⟨50, _⟩ => ⟨S_, .i32⟩
  | .hbm, ⟨51, _⟩ => ⟨S128x384, .i32⟩
  | .hbm, ⟨52, _⟩ => ⟨S128x384, .i32⟩
  | .hbm, ⟨53, _⟩ => ⟨S128x384, .i32⟩
  | .hbm, ⟨54, _⟩ => ⟨S128x384x1, .i32⟩
  | .hbm, ⟨55, _⟩ => ⟨S128x384x12, .f32⟩
  | .hbm, ⟨56, _⟩ => ⟨S12x128x384, .f32⟩
  | .hbm, ⟨57, _⟩ => ⟨S_, .f32⟩
  | .hbm, ⟨58, _⟩ => ⟨S_, .f32⟩
  | .hbm, ⟨59, _⟩ => ⟨S12x128x384, .f32⟩
  | .hbm, ⟨60, _⟩ => ⟨S12x128x384, .f32⟩
  | .hbm, ⟨61, _⟩ => ⟨S_, .i32⟩
  | .hbm, ⟨62, _⟩ => ⟨S128x384, .i32⟩
  | .hbm, ⟨63, _⟩ => ⟨S128x384, .i1⟩
  | .hbm, ⟨64, _⟩ => ⟨S_, .f32⟩
  | .hbm, ⟨65, _⟩ => ⟨S_, .f32⟩
  | .hbm, ⟨66, _⟩ => ⟨S12x128x384, .i1⟩
  | .hbm, ⟨67, _⟩ => ⟨S12x128x384, .f32⟩
  | .hbm, ⟨68, _⟩ => ⟨S12x128x384, .f32⟩
  | .hbm, ⟨69, _⟩ => ⟨S4x384x3x128, .f32⟩
  | .hbm, ⟨70, _⟩ => ⟨S_, .f32⟩
  | .hbm, ⟨71, _⟩ => ⟨S4x384x128, .f32⟩
  | .hbm, ⟨72, _⟩ => ⟨S4x384x1x128, .f32⟩
  | .hbm, ⟨73, _⟩ => ⟨S4x384x128, .f32⟩
  | .hbm, ⟨74, _⟩ => ⟨S4x384x1x128, .f32⟩
  | .hbm, ⟨75, _⟩ => ⟨S4x384x128, .f32⟩
  | .hbm, ⟨76, _⟩ => ⟨S4x384x1x128, .f32⟩
  | .hbm, ⟨77, _⟩ => ⟨S4x384x128, .f32⟩
  | .hbm, ⟨78, _⟩ => ⟨S4x384x128, .f32⟩
  | .hbm, ⟨79, _⟩ => ⟨S4x384x128, .f32⟩
  | .hbm, ⟨80, _⟩ => ⟨S1x4x384x128, .f32⟩
  | .hbm, ⟨81, _⟩ => ⟨S1x4x384x128, .f32⟩
  | .hbm, ⟨82, _⟩ => ⟨S1x4x384x128, .f32⟩
  | .hbm, ⟨83, _⟩ => ⟨S1x4x384x128, .f32⟩
  | .hbm, ⟨84, _⟩ => ⟨S1x4x384x128, .f32⟩
  | .hbm, ⟨85, _⟩ => ⟨S5x4x384x128, .f32⟩
  | _, _ => ⟨S32x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_c_6 : Ref sig .tc := ⟨.hbm, 34, rfl⟩
abbrev main_call0_v0 : Ref sig .tc := ⟨.hbm, 35, rfl⟩
abbrev main_call0_v1 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v46 : Ref sig .tc := ⟨.hbm, 68, rfl⟩
abbrev main_v47 : Ref sig .tc := ⟨.hbm, 69, rfl⟩
abbrev main_cst_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩

abbrev nD : Nat := 1
abbrev τ : Topo := Topo.v7x

variable {F : FTy → Type} [FloatOps F]
-- ==== Proof.Unit.lean ====
/- One tile of the windowed attention as one function of the blocks a grid point reads: the sub-block `s` of 128 queries,
   the pair `p` of key heads, the slot `t` of queries. Every tile the kernel stores is this function (`Tiles.lean`). -/
module

public import proofs.«01_k».proof.Proof.Gen.KernelIdeal.Value

@[expose] public section

noncomputable section

namespace Cert.KernelIdeal.Attn

open Idealize.ShloMosaic Cert.KernelIdeal.Gen

variable {F : FTy → Type} [FloatOps F]

/-- The lanes of the first head of a pair, for a tile. -/
def loMask : IVec S128x128 1 := broadcastTo S128x128 (shapeCast S1x128 k0_pay2 shapeCasts_S1x128_S1x128) broadcasts_S1x128_S128x128

/-- A key or value tile with the second head's lanes zeroed. -/
def loHalf (x : Vec F S1x1x128x128 .bf16) : FVec F S128x128 .bf16 :=
  select loMask (shapeCast S128x128 x shapeCasts_S1x1x128x128_S128x128) (broadcast S128x128 (Scalar.ofBits .bf16 0x0000#16))

/-- A key or value tile with the first head's lanes zeroed. -/
def hiHalf (x : Vec F S1x1x128x128 .bf16) : FVec F S128x128 .bf16 :=
  select loMask (broadcast S128x128 (Scalar.ofBits .bf16 0x0000#16)) (shapeCast S128x128 x shapeCasts_S1x1x128x128_S128x128)

/-- Three neighbouring tiles for both heads: 384 rows of the first, then 384 of the second. -/
def window (x0 x1 x2 : Vec F S1x1x128x128 .bf16) : FVec F S768x128 .bf16 :=
  concatenate S768x128 0 [⟨S128x128, loHalf x0⟩, ⟨S128x128, loHalf x1⟩, ⟨S128x128, loHalf x2⟩, ⟨S128x128, hiHalf x0⟩, ⟨S128x128, hiHalf x1⟩, ⟨S128x128, hiHalf x2⟩] concatenates_S128x128_S128x128_S128x128_S128x128_S128x128_S128x128_S768x128_d0

/-- The products of three stacked query tiles with the window's keys. -/
def scores (q0 q1 q2 k0 k1 k2 : Vec F S1x1x128x128 .bf16) : FVec F S384x768 .f32 :=
  matmul dot_S384x128_S768x128_S384x768_1_1_0_0_n_n none
    (concatenate S384x128 0 [⟨S128x128, shapeCast S128x128 q0 shapeCasts_S1x1x128x128_S128x128⟩, ⟨S128x128, shapeCast S128x128 q1 shapeCasts_S1x1x128x128_S128x128⟩, ⟨S128x128, shapeCast S128x128 q2 shapeCasts_S1x1x128x128_S128x128⟩] concatenates_S128x128_S128x128_S128x128_S384x128_d0)
    (window k0 k1 k2) (constant S384x768 .f32 0x00000000#32)

/-- A slice of 128 columns of the products with its bias. -/
def biased (sc : FVec F S384x128 .f32) (b : Vec F S1x1x384x128 .f32) : FVec F S384x128 .f32 :=
  addf sc (shapeCast S384x128 b shapeCasts_S1x1x384x128_S384x128)

/-- A sink's rows. -/
def sinkRows (s : Vec F S1x384x128 .f32) : FVec F S384x128 .f32 := shapeCast S384x128 s shapeCasts_S1x384x128_S384x128

/-- The row maximum of three slices and the sink, on every lane. -/
def rowMax (a b c s : FVec F S384x128 .f32) : FVec F S384x128 .f32 :=
  maximumf (broadcastTo S384x128 (shapeCast S384x1 (multiReduction .maximumf [1] S384 (maximumf (maximumf a b) c) 0xFF800000#32 reduces_S384x128_S384 (.inl rfl) rfl) shapeCasts_S384_S384x1) broadcasts_S384x1_S384x128) s

/-- The powers of two above a row maximum. -/
def pows (a mx : FVec F S384x128 .f32) : FVec F S384x128 .bf16 := truncf .bf16 (exp2 (subf a mx)) bitsLt_bf16_f32

/-- Numerators and row sums of both heads from the powers and the values, divided. -/
def ratio (e0 e1 e2 e3 e4 e5 : FVec F S384x128 .bf16) (t0 t1 : FVec F S384x128 .f32) (v0 v1 v2 : Vec F S1x1x128x128 .bf16) :
    FVec F S384x128 .f32 :=
  have oa : FVec F S384x256 .f32 := matmul dot_S384x768_S768x256_S384x256_1_0_0_1_n_n none
    (concatenate S384x768 1 [⟨S384x128, e0⟩, ⟨S384x128, e1⟩, ⟨S384x128, e2⟩, ⟨S384x128, e3⟩, ⟨S384x128, e4⟩, ⟨S384x128, e5⟩] concatenates_S384x128_S384x128_S384x128_S384x128_S384x128_S384x128_S384x768_d1)
    (concatenate S768x256 1 [⟨S768x128, window v0 v1 v2⟩, ⟨S768x128, k0_pay3 (F := F)⟩] concatenates_S768x128_S768x128_S768x256_d1)
    (constant S384x256 .f32 0x00000000#32)
  divf (extractStridedSlice S384x128 ![0, 0] oa slices_S384x256_o0_0_S384x128)
    (addf (extractStridedSlice S384x128 ![0, 128] oa slices_S384x256_o0_128_S384x128) (select k0_pay4 t0 t1))

/-- Three stacked tiles of results. -/
def three (q0 q1 q2 k0 k1 k2 v0 v1 v2 : Vec F S1x1x128x128 .bf16) (b0 b1 b2 : Vec F S1x1x384x128 .f32) (s0 : Vec F S1x384x128 .f32)
    (b3 b4 b5 : Vec F S1x1x384x128 .f32) (s1 : Vec F S1x384x128 .f32) : FVec F S384x128 .f32 :=
  have sc := scores q0 q1 q2 k0 k1 k2
  have a0 := biased (extractStridedSlice S384x128 ![0, 0] sc slices_S384x768_o0_0_S384x128) b0
  have a1 := biased (extractStridedSlice S384x128 ![0, 128] sc slices_S384x768_o0_128_S384x128) b1
  have a2 := biased (extractStridedSlice S384x128 ![0, 256] sc slices_S384x768_o0_256_S384x128) b2
  have a3 := biased (extractStridedSlice S384x128 ![0, 384] sc slices_S384x768_o0_384_S384x128) b3
  have a4 := biased (extractStridedSlice S384x128 ![0, 512] sc slices_S384x768_o0_512_S384x128) b4
  have a5 := biased (extractStridedSlice S384x128 ![0, 640] sc slices_S384x768_o0_640_S384x128) b5
  have m0 := rowMax a0 a1 a2 (sinkRows s0)
  have m1 := rowMax a3 a4 a5 (sinkRows s1)
  ratio (pows a0 m0) (pows a1 m0) (pows a2 m0) (pows a3 m1) (pows a4 m1) (pows a5 m1)
    (exp2 (subf (sinkRows s0) m0)) (exp2 (subf (sinkRows s1) m1)) v0 v1 v2

theorem slices_three (t : Fin 3) : S384x128.Slices ![128 * (t : ℕ), 0] S128x128 := by
  fin_cases t <;> decide

/-- One of the three tiles, as stored. -/
def oneOf (t : Fin 3) (x : FVec F S384x128 .f32) : FVec F S1x1x128x128 .bf16 :=
  shapeCast S1x1x128x128 (truncf .bf16 (extractStridedSlice S128x128 ![128 * (t : ℕ), 0] x (slices_three t)) bitsLt_bf16_f32)
    shapeCasts_S128x128_S1x1x128x128

section Loads

variable (X0 : Vec F S1x6x2048x128 .bf16) (X1 : Vec F S1x2x128x128 .bf16) (X2 : Vec F S1x2x2048x128 .bf16)
  (X3 : Vec F S1x2x128x128 .bf16) (X10 : Vec F S5x4x384x128 .f32) (X11 : Vec F S4x384x128 .f32)

theorem inb_q (s : Fin 16) (g : Fin 6) : ∀ a, (![0, (g : ℕ), 128 * (s : ℕ), 0] : Fin 4 → ℕ) a + S1x1x128x128.size a ≤ S1x6x2048x128.size a := by
  intro a; fin_cases a <;> simp [S1x1x128x128, S1x6x2048x128] <;> omega

theorem inb_h (p : Fin 2) : ∀ a, (![0, (p : ℕ), 0, 0] : Fin 4 → ℕ) a + S1x1x128x128.size a ≤ S1x2x128x128.size a := by
  intro a; fin_cases a <;> simp [S1x1x128x128, S1x2x128x128] <;> omega

theorem inb_c (p : Fin 2) (s : ℕ) (h : s < 16) : ∀ a, (![0, (p : ℕ), 128 * s, 0] : Fin 4 → ℕ) a + S1x1x128x128.size a ≤ S1x2x2048x128.size a := by
  intro a; fin_cases a <;> simp [S1x1x128x128, S1x2x2048x128] <;> omega

theorem inb_b (v : Fin 5) (g : Fin 4) : ∀ a, (![(v : ℕ), (g : ℕ), 0, 0] : Fin 4 → ℕ) a + S1x1x384x128.size a ≤ S5x4x384x128.size a := by
  intro a; fin_cases a <;> simp [S1x1x384x128, S5x4x384x128] <;> omega

theorem inb_s (g : Fin 4) : ∀ a, (![(g : ℕ), 0, 0] : Fin 3 → ℕ) a + S1x384x128.size a ≤ S4x384x128.size a := by
  intro a; fin_cases a <;> simp [S1x384x128, S4x384x128] <;> omega

/-- The query tile of sub-block `s` in group `g`. -/
def qTile (s : Fin 16) (g : Fin 6) : Vec F S1x1x128x128 .bf16 :=
  View.ld X0 (Rect.unit (s := S1x6x2048x128) ![0, (g : ℕ), 128 * (s : ℕ), 0] S1x1x128x128.size (inb_q s g))

/-- Tile `j` of the eighteen key tiles around a block: one before, sixteen of the block, one after. -/
def kTile (p : Fin 2) : ℕ → Vec F S1x1x128x128 .bf16
  | 0 => View.ld X1 (Rect.unit (s := S1x2x128x128) ![0, (p : ℕ), 0, 0] S1x1x128x128.size (inb_h p))
  | j + 1 => if h : j < 16 then View.ld X2 (Rect.unit (s := S1x2x2048x128) ![0, (p : ℕ), 128 * j, 0] S1x1x128x128.size (inb_c p j h))
    else View.ld X3 (Rect.unit (s := S1x2x128x128) ![0, (p : ℕ), 0, 0] S1x1x128x128.size (inb_h p))

/-- A bias tile. -/
def bTile (v : Fin 5) (g : Fin 4) : Vec F S1x1x384x128 .f32 :=
  View.ld X10 (Rect.unit (s := S5x4x384x128) ![(v : ℕ), (g : ℕ), 0, 0] S1x1x384x128.size (inb_b v g))

/-- The bias tile of the keys before a sub-block. -/
def bPrev (i : grid0.Coords) (g : Fin 4) : Fin 16 → Vec F S1x1x384x128 .f32
  | 0 => match g with
    | 0 => View.ld X10 (Rect.unit (s := S5x4x384x128) (k0_off1 i) S1x1x384x128.size (k0_off1_inb i))
    | 1 => View.ld X10 (Rect.unit (s := S5x4x384x128) (k0_off2 i) S1x1x384x128.size (k0_off2_inb i))
    | 2 => View.ld X10 (Rect.unit (s := S5x4x384x128) (k0_off3 i) S1x1x384x128.size (k0_off3_inb i))
    | 3 => View.ld X10 (Rect.unit (s := S5x4x384x128) (k0_off4 i) S1x1x384x128.size (k0_off4_inb i))
  | _ => bTile X10 0 g

/-- The bias tile of the keys after a sub-block. -/
def bNext (i : grid0.Coords) (g : Fin 4) : Fin 16 → Vec F S1x1x384x128 .f32
  | 15 => match g with
    | 0 => View.ld X10 (Rect.unit (s := S5x4x384x128) (k0_off5 i) S1x1x384x128.size (k0_off5_inb i))
    | 1 => View.ld X10 (Rect.unit (s := S5x4x384x128) (k0_off6 i) S1x1x384x128.size (k0_off6_inb i))
    | 2 => View.ld X10 (Rect.unit (s := S5x4x384x128) (k0_off7 i) S1x1x384x128.size (k0_off7_inb i))
    | 3 => View.ld X10 (Rect.unit (s := S5x4x384x128) (k0_off8 i) S1x1x384x128.size (k0_off8_inb i))
  | _ => bTile X10 3 g

/-- A sink's tile. -/
def sTile (g : Fin 4) : Vec F S1x384x128 .f32 :=
  View.ld X11 (Rect.unit (s := S4x384x128) ![(g : ℕ), 0, 0] S1x384x128.size (inb_s g))

end Loads

/-- What the kernel stores for the sub-block `s`, the pair `p`, the slot `t`. -/
def tile (X0 : Vec F S1x6x2048x128 .bf16) (X1 : Vec F S1x2x128x128 .bf16) (X2 : Vec F S1x2x2048x128 .bf16)
    (X3 : Vec F S1x2x128x128 .bf16) (X4 : Vec F S1x2x128x128 .bf16) (X5 : Vec F S1x2x2048x128 .bf16)
    (X6 : Vec F S1x2x128x128 .bf16) (X10 : Vec F S5x4x384x128 .f32) (X11 : Vec F S4x384x128 .f32)
    (i : grid0.Coords) (s : Fin 16) (p : Fin 2) (t : Fin 3) : FVec F S1x1x128x128 .bf16 :=
  oneOf t (three
    (qTile X0 s ⟨3 * p, by omega⟩) (qTile X0 s ⟨3 * p + 1, by omega⟩) (qTile X0 s ⟨3 * p + 2, by omega⟩)
    (kTile X1 X2 X3 p s) (kTile X1 X2 X3 p (s + 1)) (kTile X1 X2 X3 p (s + 2))
    (kTile X4 X5 X6 p s) (kTile X4 X5 X6 p (s + 1)) (kTile X4 X5 X6 p (s + 2))
    (bPrev X10 i ⟨2 * p, by omega⟩ s) (bTile X10 2 ⟨2 * p, by omega⟩) (bNext X10 i ⟨2 * p, by omega⟩ s) (sTile X11 ⟨2 * p, by omega⟩)
    (bPrev X10 i ⟨2 * p + 1, by omega⟩ s) (bTile X10 2 ⟨2 * p + 1, by omega⟩) (bNext X10 i ⟨2 * p + 1, by omega⟩ s) (sTile X11 ⟨2 * p + 1, by omega⟩))

/-- A group of memory heads: 2048 rows at once, for both heads. -/
def memHeads (q : Vec F S1x1x2048x128 .bf16) (k v : Vec F S1x1x256x128 .bf16) : FVec F S1x1x2048x128 .bf16 :=
  k0_pay843 k0_pay2 (k0_pay841 k0_pay2 q k v) (k0_pay842 k0_pay2 q k v)

end Cert.KernelIdeal.Attn

end
-- ==== Proof.Tiles.lean ====
/- The block a grid point leaves: ninety-six tiles of the windowed attention and two groups of memory heads. -/
module

public import proofs.«01_k».proof.Proof.Unit
public import Idealize.ShloMosaic.PureOps.Ideal
import Idealize.ShloMosaic.Lib.Pipeline.ValueKit

@[expose] public section

noncomputable section

namespace Cert.KernelIdeal.Attn

open Idealize.ShloMosaic Cert.KernelIdeal.Gen

theorem inb_o (s : Fin 16) (g : Fin 6) : ∀ a, (![0, (g : ℕ), 128 * (s : ℕ), 0] : Fin 4 → ℕ) a + S1x1x128x128.size a ≤ S1x8x2048x128.size a := by
  intro a; fin_cases a <;> simp [S1x1x128x128, S1x8x2048x128] <;> omega

theorem inb_m (g : Fin 2) : ∀ a, (![0, 6 + (g : ℕ), 0, 0] : Fin 4 → ℕ) a + S1x1x2048x128.size a ≤ S1x8x2048x128.size a := by
  intro a; fin_cases a <;> simp [S1x1x2048x128, S1x8x2048x128] <;> omega

variable (m : (ℓ : Loc nD τ sig) → Buf (Elt Ideal) ℓ)

/-- The tile the point `t` stores for sub-block `s`, pair `p`, slot `e`. -/
abbrev tileAt (c : Dev nD) (t : Fin cfg0.N) (s : Fin 16) (p : Fin 2) (e : Fin 3) : FVec Ideal S1x1x128x128 .bf16 :=
  tile (F := Ideal) (iblk m c 0 t) (iblk m c 1 t) (iblk m c 2 t) (iblk m c 3 t) (iblk m c 4 t) (iblk m c 5 t) (iblk m c 6 t)
    (iblk m c 10 t) (iblk m c 11 t) (grid0.coords t) s p e

/-- The tile number `k` in the order of the stores, with its place. -/
def piece (c : Dev nD) (t : Fin cfg0.N) (s : Fin 16) (p : Fin 2) (e : Fin 3) : View.Piece (Elt Ideal) S1x8x2048x128 .bf16 :=
  ⟨Rect.unit (s := S1x8x2048x128) ![0, ((⟨3 * p + e, by omega⟩ : Fin 6) : ℕ), 128 * (s : ℕ), 0] S1x1x128x128.size (inb_o s ⟨3 * p + e, by omega⟩), tileAt m c t s p e⟩

/-- The first `n` tiles, the last store first. -/
def pieces (c : Dev nD) (t : Fin cfg0.N) : ℕ → List (View.Piece (Elt Ideal) S1x8x2048x128 .bf16)
  | 0 => []
  | n + 1 => piece m c t (Fin.ofNat 16 (n / 6)) (Fin.ofNat 2 (n / 3)) (Fin.ofNat 3 n) :: pieces c t n

theorem tail_eq {α : Type} {a b : α} {l l' : List α} (h : a = b) (h' : l = l') : a :: l = b :: l' := h ▸ h' ▸ rfl

set_option maxRecDepth 100000 in
set_option maxHeartbeats 0 in
theorem outs_eq (c : Dev nD) (t : Fin cfg0.N) : outsAt0 m c t = View.canon
    (⟨Rect.unit (s := S1x8x2048x128) ![0, 7, 0, 0] S1x1x2048x128.size (inb_m 1), memHeads (F := Ideal) (View.ld (iblk m c 7 t) (Rect.unit (s := S1x2x2048x128) ![0, 1, 0, 0] S1x1x2048x128.size inb_S1x2x2048x128_S1x1x2048x128_0_1_0_0)) (View.ld (iblk m c 8 t) (Rect.unit (s := S1x2x256x128) ![0, 1, 0, 0] S1x1x256x128.size inb_S1x2x256x128_S1x1x256x128_0_1_0_0)) (View.ld (iblk m c 9 t) (Rect.unit (s := S1x2x256x128) ![0, 1, 0, 0] S1x1x256x128.size inb_S1x2x256x128_S1x1x256x128_0_1_0_0))⟩
    :: ⟨Rect.unit (s := S1x8x2048x128) ![0, 6, 0, 0] S1x1x2048x128.size (inb_m 0), memHeads (F := Ideal) (View.ld (iblk m c 7 t) (Rect.unit (s := S1x2x2048x128) ![0, 0, 0, 0] S1x1x2048x128.size inb_S1x2x2048x128_S1x1x2048x128_0_0_0_0)) (View.ld (iblk m c 8 t) (Rect.unit (s := S1x2x256x128) ![0, 0, 0, 0] S1x1x256x128.size inb_S1x2x256x128_S1x1x256x128_0_0_0_0)) (View.ld (iblk m c 9 t) (Rect.unit (s := S1x2x256x128) ![0, 0, 0, 0] S1x1x256x128.size inb_S1x2x256x128_S1x1x256x128_0_0_0_0))⟩
    :: pieces m c t 96) := by
  unfold outsAt0
  frame_out
  refine congrArg View.canon ?_
  refine tail_eq ?_ (tail_eq ?_ ?_)
  · rfl
  · rfl
  · iterate 96 (refine tail_eq ?_ ?_; · rfl)
    rfl

end Cert.KernelIdeal.Attn

end
-- ==== Proof.Soft.lean ====
/- Weighted means with weights that are powers: subtracting a real maximum from the exponents, or taking powers of e of the
   exponents times ln 2 in place of powers of 2, leaves the mean as it is. -/
module

public import Idealize.ShloMosaic.PureOps.Ideal

@[expose] public section

noncomputable section

namespace Cert.Soft

open Idealize.ShloMosaic

/-- The mean of `v` under the weights `2 ^ x`, with the weight `2 ^ s` of one more entry whose value is 0. -/
def attn {n : ℕ} (x v : Fin n → EReal) (s : EReal) : EReal :=
  Ideal.div (∑ k, Ideal.exp2 (x k) * v k) ((∑ k, Ideal.exp2 (x k)) + Ideal.exp2 s)

/-- An entry of weight 0 contributes 0 whatever its value. -/
theorem attn_congr {n : ℕ} {x x' v v' : Fin n → EReal} {s s' : EReal} (hx : ∀ k, x k = x' k)
    (hv : ∀ k, x' k ≠ ⊥ → v k = v' k) (hs : s = s') : attn x v s = attn x' v' s' := by
  obtain rfl : x = x' := funext hx
  subst hs
  unfold attn
  congr 1
  refine Finset.sum_congr rfl fun k _ => ?_
  by_cases h : x k = ⊥
  · rw [h, Ideal.exp2_bot, zero_mul, zero_mul]
  · rw [hv k h]

theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem log2_pos : 0 < Real.log 2 := Real.log_pos (by norm_num)

/-- The weight of an exponent below infinity, and what it becomes under a shift by a real. -/
theorem weight (x : EReal) (hx : x ≠ ⊤) : ∃ w : ℝ, 0 ≤ w ∧ (x ≠ ⊥ → 0 < w) ∧ Ideal.exp2 x = (w : EReal) ∧
    (∀ r : ℝ, Ideal.exp2 (x - r) = ((w * Real.rpow 2 (-r) : ℝ) : EReal)) ∧
    (∀ r : ℝ, Ideal.exp (x * ((Real.log 2 : ℝ) : EReal) - r) = ((w * Real.exp (-r) : ℝ) : EReal)) := by
  induction x using EReal.rec with
  | bot =>
    refine ⟨0, le_rfl, fun h => absurd rfl h, by simp, fun r => by simp, fun r => ?_⟩
    rw [EReal.bot_mul_coe_of_pos log2_pos, EReal.bot_sub, Ideal.exp_bot]; simp
  | coe x =>
    refine ⟨Real.rpow 2 x, (Real.rpow_pos_of_pos (by norm_num) x).le, fun _ => Real.rpow_pos_of_pos (by norm_num) x,
      Ideal.exp2_coe x, fun r => ?_, fun r => ?_⟩
    · rw [← EReal.coe_sub, Ideal.exp2_coe, sub_eq_add_neg]
      exact congrArg _ (Real.rpow_add (by norm_num) x (-r))
    · rw [← EReal.coe_mul, ← EReal.coe_sub, Ideal.exp_coe, sub_eq_add_neg, Real.exp_add]
      congr 2
      show _ = (2 : ℝ) ^ x
      rw [Real.rpow_def_of_pos (by norm_num), mul_comm]
  | top => exact absurd rfl hx

section

variable {n : ℕ} (x v : Fin n → EReal) (s : EReal) (hx : ∀ k, x k ≠ ⊤) (hv : ∀ k, v k ≠ ⊤ ∧ v k ≠ ⊥) (hs : s ≠ ⊤)
  (hp : s ≠ ⊥ ∨ ∃ k, x k ≠ ⊥)

include hx hv hs hp

/-- The mean as a quotient of reals. -/
theorem attn_real : ∃ (w V : Fin n → ℝ) (u : ℝ), (∀ k, v k = (V k : EReal)) ∧ 0 < (∑ k, w k) + u ∧
    (∀ r : ℝ, ∀ k, Ideal.exp2 (x k - r) = ((w k * Real.rpow 2 (-r) : ℝ) : EReal)) ∧
    (∀ r : ℝ, Ideal.exp2 (s - r) = ((u * Real.rpow 2 (-r) : ℝ) : EReal)) ∧
    (∀ r : ℝ, ∀ k, Ideal.exp (x k * ((Real.log 2 : ℝ) : EReal) - r) = ((w k * Real.exp (-r) : ℝ) : EReal)) ∧
    (∀ r : ℝ, Ideal.exp (s * ((Real.log 2 : ℝ) : EReal) - r) = ((u * Real.exp (-r) : ℝ) : EReal)) ∧
    attn x v s = (((∑ k, w k * V k) / ((∑ k, w k) + u) : ℝ) : EReal) := by
  choose w hw0 hwp hw hw2 hwe using fun k => weight (x k) (hx k)
  obtain ⟨u, hu0, hup, hu, hu2, hue⟩ := weight s hs
  have hV : ∀ k, v k = ((v k).toReal : EReal) := fun k => (EReal.coe_toReal (hv k).1 (hv k).2).symm
  have hpos : 0 < (∑ k, w k) + u := by
    rcases hp with h | ⟨k, hk⟩
    · exact add_pos_of_nonneg_of_pos (Finset.sum_nonneg fun k _ => hw0 k) (hup h)
    · exact add_pos_of_pos_of_nonneg (Finset.sum_pos' (fun k _ => hw0 k) ⟨k, Finset.mem_univ k, hwp k hk⟩) hu0
  refine ⟨w, fun k => (v k).toReal, u, hV, hpos, fun r k => hw2 k r, hu2, fun r k => hwe k r, hue, ?_⟩
  unfold attn
  rw [Finset.sum_congr rfl fun k _ => show Ideal.exp2 (x k) * v k = ((w k * (v k).toReal : ℝ) : EReal) by rw [hw, EReal.coe_mul, ← hV],
    Finset.sum_congr rfl fun k _ => hw k, hu, ← coe_sum, ← coe_sum, ← EReal.coe_add, Ideal.div_coe hpos.ne', ← EReal.coe_mul,
    mul_one_div]

/-- Powers of 2 above a real maximum, summed and then divided. -/
theorem attn_shift (r : EReal) (hr : r ≠ ⊤ ∧ r ≠ ⊥) :
    Ideal.div (∑ k, Ideal.exp2 (x k - r) * v k) ((∑ k, Ideal.exp2 (x k - r)) + Ideal.exp2 (s - r)) = attn x v s := by
  lift r to ℝ using hr
  obtain ⟨w, V, u, hV, hpos, hw, hu, -, -, h⟩ := attn_real x v s hx hv hs hp
  have h2 : 0 < Real.rpow 2 (-r) := Real.rpow_pos_of_pos (by norm_num) _
  have hden : (∑ k, w k * Real.rpow 2 (-r)) + u * Real.rpow 2 (-r) = ((∑ k, w k) + u) * Real.rpow 2 (-r) := by
    rw [← Finset.sum_mul, add_mul]
  have hne : (∑ k, w k * Real.rpow 2 (-r)) + u * Real.rpow 2 (-r) ≠ 0 := by rw [hden]; exact (mul_pos hpos h2).ne'
  rw [h, Finset.sum_congr rfl fun k _ => show Ideal.exp2 (x k - r) * v k = ((w k * Real.rpow 2 (-r) * V k : ℝ) : EReal) by
      rw [hw, hV, EReal.coe_mul (w k * _)],
    Finset.sum_congr rfl fun k _ => hw r k, hu, ← coe_sum, ← coe_sum, ← EReal.coe_add, Ideal.div_coe hne, ← EReal.coe_mul, hden]
  congr 1
  rw [Finset.sum_congr rfl fun k _ => mul_right_comm (w k) _ (V k), ← Finset.sum_mul]
  have := hpos.ne'; have := h2.ne'
  field_simp

/-- Powers of e of the exponents times ln 2 above a real maximum, each divided by the sum first. -/
theorem attn_softmax (r : EReal) (hr : r ≠ ⊤ ∧ r ≠ ⊥) :
    ∑ k, v k * Ideal.div (Ideal.exp (x k * ((Real.log 2 : ℝ) : EReal) - r))
      ((∑ k, Ideal.exp (x k * ((Real.log 2 : ℝ) : EReal) - r)) + Ideal.exp (s * ((Real.log 2 : ℝ) : EReal) - r)) = attn x v s := by
  lift r to ℝ using hr
  obtain ⟨w, V, u, hV, hpos, -, -, hw, hu, h⟩ := attn_real x v s hx hv hs hp
  have h2 : 0 < Real.exp (-r) := Real.exp_pos _
  have hden : (∑ k, w k * Real.exp (-r)) + u * Real.exp (-r) = ((∑ k, w k) + u) * Real.exp (-r) := by
    rw [← Finset.sum_mul, add_mul]
  have hne : (∑ k, w k * Real.exp (-r)) + u * Real.exp (-r) ≠ 0 := by rw [hden]; exact (mul_pos hpos h2).ne'
  rw [h, Finset.sum_congr rfl fun k _ => hw r k, hu, ← coe_sum, ← EReal.coe_add,
    Finset.sum_congr rfl fun k _ => show v k * Ideal.div _ _ = ((V k * (w k * Real.exp (-r) * (1 / ((∑ k, w k * Real.exp (-r)) + u * Real.exp (-r)))) : ℝ) : EReal) by
      rw [hw, hV, Ideal.div_coe hne, ← EReal.coe_mul, ← EReal.coe_mul], ← coe_sum, hden]
  congr 1
  rw [Finset.sum_div]
  refine Finset.sum_congr rfl fun k _ => ?_
  have := hpos.ne'; have := h2.ne'
  field_simp

end

end Cert.Soft

end
-- ==== Proof.UnitAt.lean ====
/- The functions of `Unit.lean` read at an index. -/
module

public import proofs.«01_k».proof.Proof.Unit
public import proofs.«01_k».proof.Proof.Soft
public import Idealize.ShloMosaic.PureOps.Ideal
public import Idealize.ShloMosaic.Lib.Pointwise
import Idealize.ShloMosaic.Lib.Pipeline.ValueKit

@[expose] public section

set_option maxRecDepth 16384

noncomputable section

namespace Cert.KernelIdeal.Attn

open Idealize.ShloMosaic Cert.KernelIdeal.Gen

/-- Three columns of 128 entries as one of 384. -/
def lad3 {α : Type} (f0 f1 f2 : Fin 128 → α) (k : Fin 384) : α :=
  if h : (k : ℕ) < 128 then f0 ⟨k, h⟩ else if h : (k : ℕ) - 128 < 128 then f1 ⟨(k : ℕ) - 128, h⟩ else f2 ⟨(k : ℕ) - 128 - 128, by omega⟩

/-- Six columns of 128 entries as one of 768. -/
def lad6 {α : Type} (f0 f1 f2 f3 f4 f5 : Fin 128 → α) (k : Fin 768) : α :=
  if h : (k : ℕ) < 128 then f0 ⟨k, h⟩ else if h : (k : ℕ) - 128 < 128 then f1 ⟨(k : ℕ) - 128, h⟩
  else if h : (k : ℕ) - 128 - 128 < 128 then f2 ⟨(k : ℕ) - 128 - 128, h⟩
  else if h : (k : ℕ) - 128 - 128 - 128 < 128 then f3 ⟨(k : ℕ) - 128 - 128 - 128, h⟩
  else if h : (k : ℕ) - 128 - 128 - 128 - 128 < 128 then f4 ⟨(k : ℕ) - 128 - 128 - 128 - 128, h⟩
  else f5 ⟨(k : ℕ) - 128 - 128 - 128 - 128 - 128, by omega⟩

theorem lad6_lo {α : Type} (f0 f1 f2 f3 f4 f5 : Fin 128 → α) (k : Fin 384) :
    lad6 f0 f1 f2 f3 f4 f5 ⟨k, by omega⟩ = lad3 f0 f1 f2 k := by
  unfold lad6 lad3
  by_cases h : (k : ℕ) < 128
  · simp only [dif_pos h]
  · by_cases h' : (k : ℕ) - 128 < 128
    · simp only [dif_neg h, dif_pos h']
    · simp only [dif_neg h, dif_neg h', dif_pos (show (k : ℕ) - 128 - 128 < 128 by omega)]

theorem lad6_hi {α : Type} (f0 f1 f2 f3 f4 f5 : Fin 128 → α) (k : Fin 384) :
    lad6 f0 f1 f2 f3 f4 f5 ⟨384 + k, by omega⟩ = lad3 f3 f4 f5 k := by
  unfold lad6 lad3
  simp only [dif_neg (show ¬ 384 + (k : ℕ) < 128 by omega), dif_neg (show ¬ 384 + (k : ℕ) - 128 < 128 by omega),
    dif_neg (show ¬ 384 + (k : ℕ) - 128 - 128 < 128 by omega), show 384 + (k : ℕ) - 128 - 128 - 128 = k by omega]

theorem lad3_map {α β : Type} (g : α → β) (f0 f1 f2 : Fin 128 → α) (k : Fin 384) :
    g (lad3 f0 f1 f2 k) = lad3 (fun i => g (f0 i)) (fun i => g (f1 i)) (fun i => g (f2 i)) k := by
  unfold lad3; split
  · rfl
  · split <;> rfl

/-- A sum over 128 lanes of which the second half is 0. -/
theorem sum_lo (f g : Fin 128 → EReal) :
    (∑ x : Fin 128, f x * (if (x : ℕ) < 64 then g x else 0)) = ∑ d : Fin 64, f ⟨d, by omega⟩ * g ⟨d, by omega⟩ := by
  rw [Fin.sum_univ_two_halves 64 64 rfl]
  simp only [show ∀ d : Fin 64, (d : ℕ) < 64 from fun d => d.isLt, if_true, show ∀ d : Fin 64, ¬ 64 + (d : ℕ) < 64 from fun d => by omega,
    if_false, mul_zero, Finset.sum_const_zero, add_zero]

/-- A sum over 128 lanes of which the first half is 0. -/
theorem sum_hi (f g : Fin 128 → EReal) :
    (∑ x : Fin 128, f x * (if (x : ℕ) < 64 then 0 else g x)) = ∑ d : Fin 64, f ⟨64 + d, by omega⟩ * g ⟨64 + d, by omega⟩ := by
  rw [Fin.sum_univ_two_halves 64 64 rfl]
  simp only [show ∀ d : Fin 64, (d : ℕ) < 64 from fun d => d.isLt, if_true, show ∀ d : Fin 64, ¬ 64 + (d : ℕ) < 64 from fun d => by omega,
    if_false, mul_zero, Finset.sum_const_zero, zero_add]

theorem select_lane {α : Type} (c : Fin 128) (x y : α) :
    Scalar.select (IntOp.cmpi CmpIPredicate.slt (BitVec.ofNat 32 (c : ℕ)) 64#32) x y = if (c : ℕ) < 64 then x else y := by
  have : ∀ c : Fin 128, IntOp.cmpi CmpIPredicate.slt (BitVec.ofNat 32 (c : ℕ)) 64#32 = if (c : ℕ) < 64 then 1#1 else 0#1 := by decide +kernel
  rw [this c]
  split <;> rfl

theorem loHalf_at (x : FVec Ideal S1x1x128x128 .bf16) (r c : Fin 128) :
    loHalf (F := Ideal) x (ix2 r c) = if (c : ℕ) < 64 then x (ix4 0 0 r c) else (0 : EReal) := by
  pointwise [loHalf, loMask, k0_pay2]
  exact select_lane c _ _

theorem hiHalf_at (x : FVec Ideal S1x1x128x128 .bf16) (r c : Fin 128) :
    hiHalf (F := Ideal) x (ix2 r c) = if (c : ℕ) < 64 then (0 : EReal) else x (ix4 0 0 r c) := by
  pointwise [hiHalf, loMask, k0_pay2]
  exact select_lane c _ _

/-- Three tiles at a row of 384 and a lane. -/
def tri (x0 x1 x2 : FVec Ideal S1x1x128x128 .bf16) (k : Fin 384) (c : Fin 128) : EReal :=
  lad3 (fun i => x0 (ix4 0 0 i c)) (fun i => x1 (ix4 0 0 i c)) (fun i => x2 (ix4 0 0 i c)) k

theorem tri_lo (x0 x1 x2 : FVec Ideal S1x1x128x128 .bf16) (k : Fin 384) (c : Fin 128) :
    lad3 (fun i => loHalf (F := Ideal) x0 (ix2 i c)) (fun i => loHalf (F := Ideal) x1 (ix2 i c)) (fun i => loHalf (F := Ideal) x2 (ix2 i c)) k
      = if (c : ℕ) < 64 then tri x0 x1 x2 k c else (0 : EReal) := by
  simp only [loHalf_at]
  exact (lad3_map (fun e : EReal => if (c : ℕ) < 64 then e else 0) _ _ _ k).symm

theorem tri_hi (x0 x1 x2 : FVec Ideal S1x1x128x128 .bf16) (k : Fin 384) (c : Fin 128) :
    lad3 (fun i => hiHalf (F := Ideal) x0 (ix2 i c)) (fun i => hiHalf (F := Ideal) x1 (ix2 i c)) (fun i => hiHalf (F := Ideal) x2 (ix2 i c)) k
      = if (c : ℕ) < 64 then (0 : EReal) else tri x0 x1 x2 k c := by
  simp only [hiHalf_at]
  exact (lad3_map (fun e : EReal => if (c : ℕ) < 64 then 0 else e) _ _ _ k).symm

/-- Three tables at a row and one of 384 columns. -/
def cols (b0 b1 b2 : FVec Ideal S384x128 .f32) (r k : Fin 384) : EReal :=
  lad3 (fun i => b0 (ix2 r i)) (fun i => b1 (ix2 r i)) (fun i => b2 (ix2 r i)) k

theorem scores_all (q0 q1 q2 k0 k1 k2 : FVec Ideal S1x1x128x128 .bf16) (r : Fin 384) (k : Fin 768) :
    scores (F := Ideal) q0 q1 q2 k0 k1 k2 (ix2 r k) = ∑ x : Fin 128, tri q0 q1 q2 r x *
      lad6 (fun i => loHalf (F := Ideal) k0 (ix2 i x)) (fun i => loHalf (F := Ideal) k1 (ix2 i x)) (fun i => loHalf (F := Ideal) k2 (ix2 i x))
        (fun i => hiHalf (F := Ideal) k0 (ix2 i x)) (fun i => hiHalf (F := Ideal) k1 (ix2 i x)) (fun i => hiHalf (F := Ideal) k2 (ix2 i x)) k := by
  pointwise [scores, window]
  rfl

theorem scores_lo (q0 q1 q2 k0 k1 k2 : FVec Ideal S1x1x128x128 .bf16) (r : Fin 384) (k : Fin 384) :
    scores (F := Ideal) q0 q1 q2 k0 k1 k2 (ix2 r ⟨k, by omega⟩) = ∑ d : Fin 64, tri q0 q1 q2 r ⟨d, by omega⟩ * tri k0 k1 k2 k ⟨d, by omega⟩ := by
  rw [scores_all]
  simp only [lad6_lo, tri_lo]
  exact sum_lo _ _

theorem scores_hi (q0 q1 q2 k0 k1 k2 : FVec Ideal S1x1x128x128 .bf16) (r : Fin 384) (k : Fin 384) :
    scores (F := Ideal) q0 q1 q2 k0 k1 k2 (ix2 r ⟨384 + k, by omega⟩) = ∑ d : Fin 64, tri q0 q1 q2 r ⟨64 + d, by omega⟩ * tri k0 k1 k2 k ⟨64 + d, by omega⟩ := by
  rw [scores_all]
  simp only [lad6_hi, tri_hi]
  exact sum_hi _ _

theorem ratio_all (e0 e1 e2 e3 e4 e5 : FVec Ideal S384x128 .bf16) (t0 t1 : FVec Ideal S384x128 .f32)
    (v0 v1 v2 : FVec Ideal S1x1x128x128 .bf16) (r : Fin 384) (c : Fin 128) :
    ratio (F := Ideal) e0 e1 e2 e3 e4 e5 t0 t1 v0 v1 v2 (ix2 r c) = Ideal.div
      (∑ x : Fin 768, lad6 (fun i => e0 (ix2 r i)) (fun i => e1 (ix2 r i)) (fun i => e2 (ix2 r i)) (fun i => e3 (ix2 r i)) (fun i => e4 (ix2 r i)) (fun i => e5 (ix2 r i)) x *
        lad6 (fun i => loHalf (F := Ideal) v0 (ix2 i c)) (fun i => loHalf (F := Ideal) v1 (ix2 i c)) (fun i => loHalf (F := Ideal) v2 (ix2 i c))
        (fun i => hiHalf (F := Ideal) v0 (ix2 i c)) (fun i => hiHalf (F := Ideal) v1 (ix2 i c)) (fun i => hiHalf (F := Ideal) v2 (ix2 i c)) x)
      ((∑ x : Fin 768, (lad6 (fun i => e0 (ix2 r i)) (fun i => e1 (ix2 r i)) (fun i => e2 (ix2 r i)) (fun i => e3 (ix2 r i)) (fun i => e4 (ix2 r i)) (fun i => e5 (ix2 r i)) x : EReal) *
          (if _h : (x : ℕ) < 384 then if (c : ℕ) < 64 then 1 else 0 else 1 - if (c : ℕ) < 64 then 1 else 0)) +
        if (c : ℕ) < 64 then t0 (ix2 r c) else t1 (ix2 r c)) := by
  generalize hR : Ideal.div (_ : EReal) _ = R
  pointwise [ratio, window, k0_pay3, k0_pay4]
  simp only [select_lane]
  rw [← hR]
  rfl

theorem ratio_lo (e0 e1 e2 e3 e4 e5 : FVec Ideal S384x128 .bf16) (t0 t1 : FVec Ideal S384x128 .f32)
    (v0 v1 v2 : FVec Ideal S1x1x128x128 .bf16) (r : Fin 384) (c : Fin 128) (hc : (c : ℕ) < 64) :
    ratio (F := Ideal) e0 e1 e2 e3 e4 e5 t0 t1 v0 v1 v2 (ix2 r c) = Ideal.div
      (∑ k : Fin 384, cols e0 e1 e2 r k * tri v0 v1 v2 k c) ((∑ k : Fin 384, cols e0 e1 e2 r k) + t0 (ix2 r c)) := by
  rw [ratio_all, Fin.sum_univ_two_halves 384 384 rfl, Fin.sum_univ_two_halves 384 384 rfl]
  simp only [lad6_lo, lad6_hi, tri_lo, tri_hi, if_pos hc, show ∀ k : Fin 384, (k : ℕ) < 384 from fun k => k.isLt, dif_pos,
    show ∀ k : Fin 384, ¬ 384 + (k : ℕ) < 384 from fun k => by omega, not_false_eq_true, dif_neg, mul_zero, mul_one, Finset.sum_const_zero, add_zero,
    show (1 : EReal) - 1 = 0 from by rw [← EReal.coe_one, ← EReal.coe_sub, sub_self, EReal.coe_zero]]
  rfl

theorem ratio_hi (e0 e1 e2 e3 e4 e5 : FVec Ideal S384x128 .bf16) (t0 t1 : FVec Ideal S384x128 .f32)
    (v0 v1 v2 : FVec Ideal S1x1x128x128 .bf16) (r : Fin 384) (c : Fin 128) (hc : ¬ (c : ℕ) < 64) :
    ratio (F := Ideal) e0 e1 e2 e3 e4 e5 t0 t1 v0 v1 v2 (ix2 r c) = Ideal.div
      (∑ k : Fin 384, cols e3 e4 e5 r k * tri v0 v1 v2 k c) ((∑ k : Fin 384, cols e3 e4 e5 r k) + t1 (ix2 r c)) := by
  rw [ratio_all, Fin.sum_univ_two_halves 384 384 rfl, Fin.sum_univ_two_halves 384 384 rfl]
  simp only [lad6_lo, lad6_hi, tri_lo, tri_hi, if_neg hc, show ∀ k : Fin 384, (k : ℕ) < 384 from fun k => k.isLt, dif_pos,
    show ∀ k : Fin 384, ¬ 384 + (k : ℕ) < 384 from fun k => by omega, not_false_eq_true, dif_neg, mul_zero, mul_one, Finset.sum_const_zero, zero_add,
    sub_zero]
  rfl

/-- The row maximum is real when the entries are below infinity and the sink is real, and the same on every lane of equal sinks. -/
theorem rowMax_at (a b c s : FVec Ideal S384x128 .f32) (r : Fin 384) (σ : EReal) (hs : ∀ l, s (ix2 r l) = σ) (hσ : σ ≠ ⊤ ∧ σ ≠ ⊥)
    (h : ∀ k, cols a b c r k ≠ ⊤) : ∃ M : EReal, (M ≠ ⊤ ∧ M ≠ ⊥) ∧ ∀ l, rowMax (F := Ideal) a b c s (ix2 r l) = M := by
  refine ⟨max (Finset.fold max (⊥ : EReal) (fun x => max (max (a (ix2 r x)) (b (ix2 r x))) (c (ix2 r x))) Finset.univ) σ, ⟨?_, ?_⟩, fun l => ?_⟩
  · refine ne_of_lt (max_lt ((Finset.fold_max_lt _).2 ⟨bot_lt_top, fun x _ => max_lt (max_lt ?_ ?_) ?_⟩) (lt_top_iff_ne_top.2 hσ.1))
    · have := h ⟨x, by omega⟩
      unfold cols lad3 at this
      simp only [dif_pos x.isLt] at this
      exact lt_top_iff_ne_top.2 this
    · have := h ⟨128 + x, by omega⟩
      unfold cols lad3 at this
      simp only [dif_neg (show ¬ 128 + (x : ℕ) < 128 by omega), dif_pos (show 128 + (x : ℕ) - 128 < 128 by omega)] at this
      simp only [show 128 + (x : ℕ) - 128 = x by omega] at this
      exact lt_top_iff_ne_top.2 this
    · have := h ⟨256 + x, by omega⟩
      unfold cols lad3 at this
      simp only [dif_neg (show ¬ 256 + (x : ℕ) < 128 by omega), dif_neg (show ¬ 256 + (x : ℕ) - 128 < 128 by omega), show 256 + (x : ℕ) - 128 - 128 = x by omega] at this
      exact lt_top_iff_ne_top.2 this
  · exact ne_of_gt (lt_of_lt_of_le (bot_lt_iff_ne_bot.2 hσ.2) (le_max_right _ _))
  · pointwise [rowMax]
    rw [hs l]
    rfl

theorem pows_at (a mx : FVec Ideal S384x128 .f32) (r : Fin 384) (l : Fin 128) :
    pows (F := Ideal) a mx (ix2 r l) = Ideal.exp2 (a (ix2 r l) - mx (ix2 r l)) := by
  pointwise [pows]
  rfl

theorem sinkRows_at (s : FVec Ideal S1x384x128 .f32) (r : Fin 384) (l : Fin 128) : sinkRows (F := Ideal) s (ix2 r l) = s (ix3 0 r l) := by
  pointwise [sinkRows]

theorem oneOf_at (t : Fin 3) (x : FVec Ideal S384x128 .f32) (r l : Fin 128) :
    oneOf (F := Ideal) t x (ix4 0 0 r l) = x (ix2 ⟨128 * t + r, by omega⟩ l) := by
  pointwise [oneOf]

/-- Three bias tiles at a row and one of 384 columns. -/
def bias (b0 b1 b2 : FVec Ideal S1x1x384x128 .f32) (r k : Fin 384) : EReal :=
  lad3 (fun i => b0 (ix4 0 0 r i)) (fun i => b1 (ix4 0 0 r i)) (fun i => b2 (ix4 0 0 r i)) k

theorem biased_at (sc : FVec Ideal S384x128 .f32) (b : FVec Ideal S1x1x384x128 .f32) (r : Fin 384) (l : Fin 128) :
    biased (F := Ideal) sc b (ix2 r l) = sc (ix2 r l) + b (ix4 0 0 r l) := by
  pointwise [biased]

theorem cols_biased (a0 a1 a2 : FVec Ideal S384x128 .f32) (f : Fin 384 → EReal) (b0 b1 b2 : FVec Ideal S1x1x384x128 .f32) (r k : Fin 384)
    (h0 : ∀ l : Fin 128, a0 (ix2 r l) = f ⟨l, by omega⟩) (h1 : ∀ l : Fin 128, a1 (ix2 r l) = f ⟨128 + l, by omega⟩)
    (h2 : ∀ l : Fin 128, a2 (ix2 r l) = f ⟨256 + l, by omega⟩) :
    cols (biased (F := Ideal) a0 b0) (biased (F := Ideal) a1 b1) (biased (F := Ideal) a2 b2) r k = f k + bias b0 b1 b2 r k := by
  unfold cols bias lad3
  by_cases h : (k : ℕ) < 128
  · simp only [dif_pos h, biased_at, h0]
  · by_cases h' : (k : ℕ) - 128 < 128
    · simp only [dif_neg h, dif_pos h', biased_at, h1]
      congr 2
      exact Fin.ext (by simp only []; omega)
    · simp only [dif_neg h, dif_neg h', biased_at, h2]
      congr 2
      exact Fin.ext (by simp only []; omega)

theorem cols_pows (a0 a1 a2 mx : FVec Ideal S384x128 .f32) (r k : Fin 384) (M : EReal) (hM : ∀ l, mx (ix2 r l) = M) :
    cols (pows (F := Ideal) a0 mx) (pows (F := Ideal) a1 mx) (pows (F := Ideal) a2 mx) r k = Ideal.exp2 (cols a0 a1 a2 r k - M) := by
  unfold cols
  simp only [pows_at, hM]
  exact (lad3_map (fun e : EReal => Ideal.exp2 (e - M)) _ _ _ k).symm

theorem expSink_at (s : FVec Ideal S1x384x128 .f32) (mx : FVec Ideal S384x128 .f32) (r : Fin 384) (l : Fin 128) :
    exp2 (F := Ideal) (subf (sinkRows (F := Ideal) s) mx) (ix2 r l) = Ideal.exp2 (s (ix3 0 r l) - mx (ix2 r l)) := by
  pointwise [sinkRows]
  rfl

section Three

variable (q0 q1 q2 k0 k1 k2 v0 v1 v2 : FVec Ideal S1x1x128x128 .bf16) (b0 b1 b2 : FVec Ideal S1x1x384x128 .f32) (s0 : FVec Ideal S1x384x128 .f32)
  (b3 b4 b5 : FVec Ideal S1x1x384x128 .f32) (s1 : FVec Ideal S1x384x128 .f32) (r : Fin 384) (c : Fin 128) (σ : EReal)

/-- The weight of one head: products and bias. -/
def scoreLo (k : Fin 384) : EReal := (∑ d : Fin 64, tri q0 q1 q2 r ⟨d, by omega⟩ * tri k0 k1 k2 k ⟨d, by omega⟩) + bias b0 b1 b2 r k

/-- The weight of the other head: products and bias. -/
def scoreHi (k : Fin 384) : EReal := (∑ d : Fin 64, tri q0 q1 q2 r ⟨64 + d, by omega⟩ * tri k0 k1 k2 k ⟨64 + d, by omega⟩) + bias b3 b4 b5 r k

theorem three_lo (hc : (c : ℕ) < 64) (hs : ∀ l, s0 (ix3 0 r l) = σ) (hσ : σ ≠ ⊤ ∧ σ ≠ ⊥)
    (hx : ∀ k, scoreLo q0 q1 q2 k0 k1 k2 b0 b1 b2 r k ≠ ⊤) (hv : ∀ k, tri v0 v1 v2 k c ≠ ⊤ ∧ tri v0 v1 v2 k c ≠ ⊥) :
    three (F := Ideal) q0 q1 q2 k0 k1 k2 v0 v1 v2 b0 b1 b2 s0 b3 b4 b5 s1 (ix2 r c)
      = Soft.attn (scoreLo q0 q1 q2 k0 k1 k2 b0 b1 b2 r) (fun k => tri v0 v1 v2 k c) σ := by
  have key := fun k => cols_biased
    (extractStridedSlice S384x128 ![0, 0] (scores (F := Ideal) q0 q1 q2 k0 k1 k2) slices_S384x768_o0_0_S384x128)
    (extractStridedSlice S384x128 ![0, 128] (scores (F := Ideal) q0 q1 q2 k0 k1 k2) slices_S384x768_o0_128_S384x128)
    (extractStridedSlice S384x128 ![0, 256] (scores (F := Ideal) q0 q1 q2 k0 k1 k2) slices_S384x768_o0_256_S384x128)
    (fun k => ∑ d : Fin 64, tri q0 q1 q2 r ⟨d, by omega⟩ * tri k0 k1 k2 k ⟨d, by omega⟩) b0 b1 b2 r k
    (fun l => by rw [← scores_lo]; pointwise) (fun l => by rw [← scores_lo]; pointwise) (fun l => by rw [← scores_lo]; pointwise)
  obtain ⟨M, hM, hMl⟩ := rowMax_at _ _ _ (sinkRows (F := Ideal) s0) r σ (fun l => (sinkRows_at s0 r l).trans (hs l)) hσ
    (fun k => by rw [key k]; exact hx k)
  unfold three
  refine (ratio_lo _ _ _ _ _ _ _ _ _ _ _ r c hc).trans ?_
  simp only [cols_pows _ _ _ _ r _ M hMl, key]
  rw [expSink_at, hs, hMl]
  exact Soft.attn_shift _ _ σ hx hv hσ.1 (Or.inl hσ.2) M hM

theorem three_hi (hc : ¬ (c : ℕ) < 64) (hs : ∀ l, s1 (ix3 0 r l) = σ) (hσ : σ ≠ ⊤ ∧ σ ≠ ⊥)
    (hx : ∀ k, scoreHi q0 q1 q2 k0 k1 k2 b3 b4 b5 r k ≠ ⊤) (hv : ∀ k, tri v0 v1 v2 k c ≠ ⊤ ∧ tri v0 v1 v2 k c ≠ ⊥) :
    three (F := Ideal) q0 q1 q2 k0 k1 k2 v0 v1 v2 b0 b1 b2 s0 b3 b4 b5 s1 (ix2 r c)
      = Soft.attn (scoreHi q0 q1 q2 k0 k1 k2 b3 b4 b5 r) (fun k => tri v0 v1 v2 k c) σ := by
  have key := fun k => cols_biased
    (extractStridedSlice S384x128 ![0, 384] (scores (F := Ideal) q0 q1 q2 k0 k1 k2) slices_S384x768_o0_384_S384x128)
    (extractStridedSlice S384x128 ![0, 512] (scores (F := Ideal) q0 q1 q2 k0 k1 k2) slices_S384x768_o0_512_S384x128)
    (extractStridedSlice S384x128 ![0, 640] (scores (F := Ideal) q0 q1 q2 k0 k1 k2) slices_S384x768_o0_640_S384x128)
    (fun k => ∑ d : Fin 64, tri q0 q1 q2 r ⟨64 + d, by omega⟩ * tri k0 k1 k2 k ⟨64 + d, by omega⟩) b3 b4 b5 r k
    (fun l => by rw [← scores_hi]; pointwise)
    (fun l => by rw [← scores_hi]; pointwise; exact congrArg _ (congrArg (ix2 r) (Fin.ext (show 512 + (l : ℕ) = 384 + (128 + (l : ℕ)) by omega))))
    (fun l => by rw [← scores_hi]; pointwise; exact congrArg _ (congrArg (ix2 r) (Fin.ext (show 640 + (l : ℕ) = 384 + (256 + (l : ℕ)) by omega))))
  obtain ⟨M, hM, hMl⟩ := rowMax_at _ _ _ (sinkRows (F := Ideal) s1) r σ (fun l => (sinkRows_at s1 r l).trans (hs l)) hσ
    (fun k => by rw [key k]; exact hx k)
  unfold three
  refine (ratio_hi _ _ _ _ _ _ _ _ _ _ _ r c hc).trans ?_
  simp only [cols_pows _ _ _ _ r _ M hMl, key]
  rw [expSink_at, hs, hMl]
  exact Soft.attn_shift _ _ σ hx hv hσ.1 (Or.inl hσ.2) M hM

end Three

end Cert.KernelIdeal.Attn

end
-- ==== Proof.Loads.lean ====
/- The tiles a grid point reads, entry by entry: each is an entry of an argument array. -/
module

public import proofs.«01_k».proof.Proof.Unit
public import Idealize.ShloMosaic.PureOps.Ideal
public import Idealize.ShloMosaic.Lib.Pointwise
import Idealize.ShloMosaic.Lib.Pipeline.ValueKit

@[expose] public section

set_option maxRecDepth 16384

noncomputable section

namespace Cert.KernelIdeal.Attn

open Idealize.ShloMosaic Idealize.ShloMosaic.TcCoe Cert.KernelIdeal.Gen

variable (m : (ℓ : Loc nD τ sig) → Buf (Elt Ideal) ℓ)

/-- The projections. -/
abbrev P (c : Dev nD) : FVec Ideal S8x12x8192x128 .bf16 := m ((c : Thread nD τ).loc main_arg0)

/-- The memory keys and values. -/
abbrev Mem (c : Dev nD) : FVec Ideal S8x4x256x128 .bf16 := m ((c : Thread nD τ).loc main_arg1)

/-- The bias table. -/
abbrev T (c : Dev nD) : FVec Ideal S5x4x384x128 .f32 := m ((c : Thread nD τ).loc main_arg2)

/-- The sinks. -/
abbrev Sk (c : Dev nD) : FVec Ideal S12 .f32 := m ((c : Thread nD τ).loc main_arg3)

theorem idx : ∀ t : Fin cfg0.N, win0_0.index t = ![t.val / 4, 0, t.val % 4, 0] ∧ win0_1.index t = ![t.val / 4, 3, 16 * (t.val % 4) - 1, 0]
    ∧ win0_2.index t = ![t.val / 4, 3, t.val % 4, 0] ∧ win0_3.index t = ![t.val / 4, 3, min (16 * (t.val % 4) + 16) 63, 0]
    ∧ win0_4.index t = ![t.val / 4, 4, 16 * (t.val % 4) - 1, 0]
    ∧ win0_5.index t = ![t.val / 4, 4, t.val % 4, 0] ∧ win0_6.index t = ![t.val / 4, 4, min (16 * (t.val % 4) + 16) 63, 0]
    ∧ win0_7.index t = ![t.val / 4, 5, t.val % 4, 0] ∧ win0_8.index t = ![t.val / 4, 0, 0, 0] ∧ win0_9.index t = ![t.val / 4, 1, 0, 0]
    ∧ win0_10.index t = ![0, 0, 0, 0] ∧ win0_11.index t = ![0, 0, 0] ∧ win0_12.index t = ![t.val / 4, 0, t.val % 4, 0] :=
  (by decide +kernel : ∀ t : Fin grid0.N, _)

theorem coords_val : ∀ t : Fin cfg0.N, (grid0.coords t 0).val = t.val / 4 ∧ (grid0.coords t 1).val = t.val % 4 :=
  (by decide +kernel : ∀ t : Fin grid0.N, _)

theorem lt32 (t : Fin cfg0.N) : t.val < 32 := t.isLt

theorem blk0 (c : Dev nD) (t : Fin cfg0.N) (b : Fin 8) (hb : (b : ℕ) = t.val / 4) (g : Fin 6) (R : Fin 2048) (l : Fin 128) :
    iblk m c 0 t (ix4 0 g R l) = P m c (ix4 b ⟨g, by omega⟩ ⟨2048 * (t.val % 4) + R, by omega⟩ l) := by
  blk_ext [iblk, V, idx t]

/-- The row of key `a` of block `N - 1` (blocks past the ends are the end blocks). -/
def keyRow (N : ℕ) (a : Fin 128) : Fin 8192 := ⟨128 * min (N - 1) 63 + a, by omega⟩

theorem qTile_at (c : Dev nD) (t : Fin cfg0.N) (b : Fin 8) (hb : (b : ℕ) = t.val / 4) (s : Fin 16) (g : Fin 6) (a l : Fin 128) :
    qTile (F := Ideal) (iblk m c 0 t) s g (ix4 0 0 a l)
      = P m c (ix4 b ⟨g, by omega⟩ ⟨128 * (16 * (t.val % 4) + s) + a, by omega⟩ l) := by
  pointwise [qTile]
  blk_ext [iblk, V, idx t]

theorem kTile_at (c : Dev nD) (t : Fin cfg0.N) (b : Fin 8) (hb : (b : ℕ) = t.val / 4) (p : Fin 2) (j : ℕ) (hj : j < 18) (a l : Fin 128) :
    kTile (F := Ideal) (iblk m c 1 t) (iblk m c 2 t) (iblk m c 3 t) p j (ix4 0 0 a l)
      = P m c (ix4 b ⟨6 + p, by omega⟩ (keyRow (16 * (t.val % 4) + j) a) l) := by
  have ht := lt32 t
  rcases j with _ | j
  · pointwise [kTile, keyRow]
    blk_ext [iblk, V, idx t]
  · by_cases h : j < 16
    · simp only [kTile, dif_pos h]
      pointwise [keyRow]
      blk_ext [iblk, V, idx t]
    · obtain rfl : j = 16 := by omega
      simp only [kTile, dif_neg h]
      pointwise [keyRow]
      blk_ext [iblk, V, idx t]

theorem vTile_at (c : Dev nD) (t : Fin cfg0.N) (b : Fin 8) (hb : (b : ℕ) = t.val / 4) (p : Fin 2) (j : ℕ) (hj : j < 18) (a l : Fin 128) :
    kTile (F := Ideal) (iblk m c 4 t) (iblk m c 5 t) (iblk m c 6 t) p j (ix4 0 0 a l)
      = P m c (ix4 b ⟨8 + p, by omega⟩ (keyRow (16 * (t.val % 4) + j) a) l) := by
  have ht := lt32 t
  rcases j with _ | j
  · pointwise [kTile, keyRow]
    blk_ext [iblk, V, idx t]
  · by_cases h : j < 16
    · simp only [kTile, dif_pos h]
      pointwise [keyRow]
      blk_ext [iblk, V, idx t]
    · obtain rfl : j = 16 := by omega
      simp only [kTile, dif_neg h]
      pointwise [keyRow]
      blk_ext [iblk, V, idx t]

theorem bTile_at (c : Dev nD) (t : Fin cfg0.N) (v : Fin 5) (g : Fin 4) (r : Fin 384) (l : Fin 128) :
    bTile (F := Ideal) (iblk m c 10 t) v g (ix4 0 0 r l) = T m c (ix4 v g r l) := by
  pointwise [bTile]
  blk_ext [iblk, V, idx t]

theorem bOff_at (c : Dev nD) (t : Fin cfg0.N) (o : Fin 4 → ℕ) (h : ∀ a, o a + S1x1x384x128.size a ≤ S5x4x384x128.size a) (v : Fin 5) (g : Fin 4)
    (ho : o = ![(v : ℕ), (g : ℕ), 0, 0]) (r : Fin 384) (l : Fin 128) :
    View.ld (iblk m c 10 t) (Rect.unit (s := S5x4x384x128) o S1x1x384x128.size h) (ix4 0 0 r l) = T m c (ix4 v g r l) := by
  subst ho
  exact bTile_at m c t v g r l

theorem bPrev_at (c : Dev nD) (t : Fin cfg0.N) (g : Fin 4) (s : Fin 16) (r : Fin 384) (l : Fin 128) :
    bPrev (F := Ideal) (iblk m c 10 t) (grid0.coords t) g s (ix4 0 0 r l)
      = T m c (ix4 (if 16 * (t.val % 4) + s = 0 then 1 else 0) g r l) := by
  have ht := (coords_val t).2
  by_cases hs : s = 0
  · subst hs
    have e : ((if (grid0.coords t 1).val > 0 then 0 else 1 : ℕ)) = ((if 16 * (t.val % 4) + ((0 : Fin 16) : ℕ) = 0 then 1 else 0 : Fin 5) : ℕ) := by
      rw [ht]
      by_cases h : t.val % 4 = 0
      · simp [h]
      · rw [if_pos (by omega), if_neg (by simp only [Fin.val_zero]; omega)]; rfl
    fin_cases g <;>
    · refine bOff_at m c t _ _ _ _ ?_ r l
      first
        | exact (k0_off1_eq _).trans (by rw [e])
        | exact (k0_off2_eq _).trans (by rw [e])
        | exact (k0_off3_eq _).trans (by rw [e])
        | exact (k0_off4_eq _).trans (by rw [e])
  · rw [if_neg (by have : (s : ℕ) ≠ 0 := fun h => hs (Fin.ext h); omega)]
    rw [← bTile_at]
    unfold bPrev
    split
    · exact absurd rfl hs
    · rfl

theorem bNext_at (c : Dev nD) (t : Fin cfg0.N) (g : Fin 4) (s : Fin 16) (r : Fin 384) (l : Fin 128) :
    bNext (F := Ideal) (iblk m c 10 t) (grid0.coords t) g s (ix4 0 0 r l)
      = T m c (ix4 (if 16 * (t.val % 4) + s = 63 then 4 else 3) g r l) := by
  have ht := (coords_val t).2
  by_cases hs : s = 15
  · subst hs
    have e : ((if (grid0.coords t 1).val < 3 then 3 else 4 : ℕ)) = ((if 16 * (t.val % 4) + ((15 : Fin 16) : ℕ) = 63 then 4 else 3 : Fin 5) : ℕ) := by
      rw [ht]
      by_cases h : t.val % 4 = 3
      · simp [h]
      · rw [if_pos (by omega), if_neg (by show ¬ 16 * (t.val % 4) + 15 = 63; omega)]; rfl
    fin_cases g <;>
    · refine bOff_at m c t _ _ _ _ ?_ r l
      first
        | exact (k0_off5_eq _).trans (by rw [e])
        | exact (k0_off6_eq _).trans (by rw [e])
        | exact (k0_off7_eq _).trans (by rw [e])
        | exact (k0_off8_eq _).trans (by rw [e])
  · rw [if_neg (by have : (s : ℕ) ≠ 15 := fun h => hs (Fin.ext h); omega)]
    rw [← bTile_at]
    unfold bNext
    split
    · exact absurd rfl hs
    · rfl

/-- The table of sinks the host lays out: each sink on 128 rows and all lanes. -/
def sinkTab (x : FVec Ideal S12 .f32) : FVec Ideal S4x384x128 .f32 :=
  shapeCast S4x384x128 (broadcastInDim S4x3x128x128 ![0, 1, 2, 3] bcast_S4x3x1x1_S4x3x128x128_0_1_2_3 (shapeCast S4x3x1x1 x shapeCasts_S12_S4x3x1x1))
    shapeCasts_S4x3x128x128_S4x384x128

theorem V_sink (c : Dev nD) : V m c main_v2 = sinkTab (Sk m c) := by
  unfold V hostOps0
  after_results
  try rfl

theorem sinkTab_at (x : FVec Ideal S12 .f32) (g : Fin 4) (r : Fin 384) (l : Fin 128) :
    sinkTab x (ix3 g r l) = x (ix1 ⟨3 * g + r / 128, by omega⟩) := by
  pointwise [sinkTab]
  exact congrArg x (congrArg ix1 (Fin.ext (by simp only []; omega)))

theorem sTile_at (c : Dev nD) (t : Fin cfg0.N) (g : Fin 4) (r : Fin 384) (l : Fin 128) :
    sTile (F := Ideal) (iblk m c 11 t) g (ix3 0 r l) = Sk m c (ix1 ⟨3 * g + r / 128, by omega⟩) := by
  rw [← sinkTab_at (Sk m c) g r l, ← V_sink]
  pointwise [sTile]
  blk_ext [iblk, idx t]

theorem qm_at (c : Dev nD) (t : Fin cfg0.N) (b : Fin 8) (hb : (b : ℕ) = t.val / 4) (g : Fin 2) (R : Fin 2048) (l : Fin 128) :
    iblk m c 7 t (ix4 0 g R l) = P m c (ix4 b ⟨10 + g, by omega⟩ ⟨2048 * (t.val % 4) + R, by omega⟩ l) := by
  blk_ext [iblk, V, idx t]

theorem mk_at (c : Dev nD) (t : Fin cfg0.N) (b : Fin 8) (hb : (b : ℕ) = t.val / 4) (g : Fin 2) (R : Fin 256) (l : Fin 128) :
    iblk m c 8 t (ix4 0 g R l) = Mem m c (ix4 b ⟨g, by omega⟩ R l) := by
  blk_ext [iblk, V, idx t]

theorem mv_at (c : Dev nD) (t : Fin cfg0.N) (b : Fin 8) (hb : (b : ℕ) = t.val / 4) (g : Fin 2) (R : Fin 256) (l : Fin 128) :
    iblk m c 9 t (ix4 0 g R l) = Mem m c (ix4 b ⟨2 + g, by omega⟩ R l) := by
  blk_ext [iblk, V, idx t]

end Cert.KernelIdeal.Attn

end
-- ==== Proof.Spec.lean ====
/- The windowed attention and the memory heads as formulas over the argument arrays' entries: what both programs compute. -/
module

public import proofs.«01_k».proof.Proof.Soft

@[expose] public section

noncomputable section

namespace Cert.Spec

open Idealize.ShloMosaic

/-- The position of key `k` of the window of block `n` (blocks past the ends are the end blocks; they are masked). -/
def key (n : Fin 64) (k : Fin 384) : Fin 8192 := ⟨128 * min ((n : ℕ) + k / 128 - 1) 63 + k % 128, by omega⟩

/-- Whether query `a` of block `n` sees key `k` of its window. -/
def ok (n : Fin 64) (a : Fin 128) (k : Fin 384) : Prop :=
  ((k : ℕ) < 128 → 1 ≤ (n : ℕ) ∧ (a : ℕ) ≤ k) ∧ (256 ≤ (k : ℕ) → (n : ℕ) < 63 ∧ (k : ℕ) ≤ 256 + a)

/-- The table of the bias of key `k`. -/
def var (k : Fin 384) : Fin 5 := if (k : ℕ) < 128 then 0 else if (k : ℕ) < 256 then 2 else 3

section

variable (P : Fin 8 → Fin 12 → Fin 8192 → Fin 128 → EReal) (M : Fin 8 → Fin 4 → Fin 256 → Fin 128 → EReal)
  (T : Fin 5 → Fin 4 → Fin 384 → Fin 128 → EReal) (S : Fin 12 → EReal)

/-- The product of a query and a key of one head. -/
def dot (b : Fin 8) (p : Fin 2) (e : Fin 3) (hh : Fin 2) (n : Fin 64) (a : Fin 128) (k : Fin 384) : EReal :=
  ∑ d : Fin 64, P b ⟨3 * p + e, by omega⟩ ⟨128 * n + a, by omega⟩ ⟨64 * hh + d, by omega⟩ * P b ⟨6 + p, by omega⟩ (key n k) ⟨64 * hh + d, by omega⟩

open Classical in
/-- The weight's exponent: product plus bias, `-∞` where the key is not seen. -/
def score (b : Fin 8) (p : Fin 2) (e : Fin 3) (hh : Fin 2) (n : Fin 64) (a : Fin 128) (k : Fin 384) : EReal :=
  if ok n a k then dot P b p e hh n a k + T (var k) ⟨2 * p + hh, by omega⟩ ⟨128 * e + a, by omega⟩ ⟨k % 128, by omega⟩ else ⊥

/-- A value of the window. -/
def val (b : Fin 8) (p : Fin 2) (hh : Fin 2) (d : Fin 64) (n : Fin 64) (k : Fin 384) : EReal := P b ⟨8 + p, by omega⟩ (key n k) ⟨64 * hh + d, by omega⟩

/-- A result of the windowed heads. -/
def loc (b : Fin 8) (p : Fin 2) (e : Fin 3) (hh : Fin 2) (d : Fin 64) (n : Fin 64) (a : Fin 128) : EReal :=
  Soft.attn (score P T b p e hh n a) (val P b p hh d n) (S ⟨3 * (2 * p + hh) + e, by omega⟩)

/-- A result of the memory heads. -/
def mem (b : Fin 8) (g : Fin 2) (hh : Fin 2) (d : Fin 64) (R : Fin 8192) : EReal :=
  Soft.attn (fun k : Fin 256 => ∑ d' : Fin 64, P b ⟨10 + g, by omega⟩ R ⟨64 * hh + d', by omega⟩ * M b ⟨g, by omega⟩ k ⟨64 * hh + d', by omega⟩)
    (fun k => M b ⟨2 + g, by omega⟩ k ⟨64 * hh + d, by omega⟩) ⊥

/-- A result: groups 0 to 5 are windowed heads, 6 and 7 memory heads. -/
def out (b : Fin 8) (g : Fin 8) (R : Fin 8192) (l : Fin 128) : EReal :=
  if h : (g : ℕ) < 6 then loc P T S b ⟨g / 3, by omega⟩ ⟨g % 3, by omega⟩ ⟨l / 64, by omega⟩ ⟨l % 64, by omega⟩ ⟨R / 128, by omega⟩ ⟨R % 128, by omega⟩
  else mem P M b ⟨g - 6, by omega⟩ ⟨l / 64, by omega⟩ ⟨l % 64, by omega⟩ R

/-- The arguments are real, but for the bias, which is `-∞` where a key is not seen. -/
structure Tame : Prop where
  proj : ∀ b g R l, P b g R l ≠ ⊤ ∧ P b g R l ≠ ⊥
  memkv : ∀ b g R l, M b g R l ≠ ⊤ ∧ M b g R l ≠ ⊥
  sink : ∀ h, S h ≠ ⊤ ∧ S h ≠ ⊥
  bias : ∀ v g r l, T v g r l ≠ ⊤
  first : ∀ g r l, T 1 g r l = ⊥
  last : ∀ g r l, T 4 g r l = ⊥
  before : ∀ g (r : Fin 384) (l : Fin 128), (l : ℕ) < r % 128 → T 0 g r l = ⊥
  after : ∀ g (r : Fin 384) (l : Fin 128), (r : ℕ) % 128 < l → T 3 g r l = ⊥

end

theorem out_loc (P : Fin 8 → Fin 12 → Fin 8192 → Fin 128 → EReal) (M : Fin 8 → Fin 4 → Fin 256 → Fin 128 → EReal)
    (T : Fin 5 → Fin 4 → Fin 384 → Fin 128 → EReal) (S : Fin 12 → EReal) (b : Fin 8) (p : Fin 2) (e : Fin 3) (hh : Fin 2) (d : Fin 64) (n : Fin 64) (a : Fin 128)
    (g : Fin 8) (R : Fin 8192) (l : Fin 128) (hg : (g : ℕ) = 3 * p + e) (hR : (R : ℕ) = 128 * n + a) (hl : (l : ℕ) = 64 * hh + d) :
    out P M T S b g R l = loc P T S b p e hh d n a := by
  unfold out
  rw [dif_pos (by omega)]
  congr 1 <;> exact Fin.ext (by simp only []; omega)

theorem out_mem (P : Fin 8 → Fin 12 → Fin 8192 → Fin 128 → EReal) (M : Fin 8 → Fin 4 → Fin 256 → Fin 128 → EReal)
    (T : Fin 5 → Fin 4 → Fin 384 → Fin 128 → EReal) (S : Fin 12 → EReal) (b : Fin 8) (u : Fin 2) (hh : Fin 2) (d : Fin 64)
    (g : Fin 8) (R : Fin 8192) (l : Fin 128) (hg : (g : ℕ) = 6 + u) (hl : (l : ℕ) = 64 * hh + d) :
    out P M T S b g R l = mem P M b u hh d R := by
  unfold out
  rw [dif_neg (by omega)]
  congr 1 <;> exact Fin.ext (by simp only []; omega)

theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

theorem sum_real {n : ℕ} (f : Fin n → EReal) (h : ∀ k, f k ≠ ⊤ ∧ f k ≠ ⊥) : (∑ k, f k) ≠ ⊤ ∧ (∑ k, f k) ≠ ⊥ := by
  have : (∑ k, f k) = ((∑ k, (f k).toReal : ℝ) : EReal) := by
    rw [Soft.coe_sum]
    exact Finset.sum_congr rfl fun k _ => (EReal.coe_toReal (h k).1 (h k).2).symm
  rw [this]
  exact ⟨EReal.coe_ne_top _, EReal.coe_ne_bot _⟩

variable {P : Fin 8 → Fin 12 → Fin 8192 → Fin 128 → EReal} {M : Fin 8 → Fin 4 → Fin 256 → Fin 128 → EReal}
  {T : Fin 5 → Fin 4 → Fin 384 → Fin 128 → EReal} {S : Fin 12 → EReal}

theorem dot_real (h : Tame P M T S) (b p e hh n a k) : dot P b p e hh n a k ≠ ⊤ ∧ dot P b p e hh n a k ≠ ⊥ :=
  sum_real _ fun _ => mul_real (h.proj _ _ _ _) (h.proj _ _ _ _)

theorem score_ne_top (h : Tame P M T S) (b p e hh n a k) : score P T b p e hh n a k ≠ ⊤ := by
  unfold score
  split
  · exact EReal.add_ne_top (dot_real h _ _ _ _ _ _ _).1 (h.bias _ _ _ _)
  · exact bot_ne_top

/-- The table the kernel reads for key `k` of block `n`: the end blocks have their own. -/
def varAt (n : Fin 64) (k : Fin 384) : Fin 5 :=
  if (k : ℕ) < 128 then (if (n : ℕ) = 0 then 1 else 0) else if (k : ℕ) < 256 then 2 else if (n : ℕ) = 63 then 4 else 3

theorem score_eq (h : Tame P M T S) (b p e hh n a k) :
    dot P b p e hh n a k + T (varAt n k) ⟨2 * p + hh, by omega⟩ ⟨128 * e + a, by omega⟩ ⟨k % 128, by omega⟩ = score P T b p e hh n a k := by
  unfold score
  by_cases ho : ok n a k
  · rw [if_pos ho]
    congr 2
    unfold varAt var
    unfold ok at ho
    by_cases h1 : (k : ℕ) < 128
    · rw [if_pos h1, if_pos h1, if_neg (by have := (ho.1 h1).1; omega)]
    · by_cases h2 : (k : ℕ) < 256
      · rw [if_neg h1, if_neg h1, if_pos h2, if_pos h2]
      · rw [if_neg h1, if_neg h1, if_neg h2, if_neg h2, if_neg (by have := (ho.2 (by omega)).1; omega)]
  · rw [if_neg ho]
    have : T (varAt n k) ⟨2 * p + hh, by omega⟩ ⟨128 * e + a, by omega⟩ ⟨k % 128, by omega⟩ = ⊥ := by
      unfold varAt
      unfold ok at ho
      by_cases h1 : (k : ℕ) < 128
      · rw [if_pos h1]
        by_cases hn : (n : ℕ) = 0
        · rw [if_pos hn]; exact h.first _ _ _
        · rw [if_neg hn]; exact h.before _ _ _ (by simp only []; omega)
      · by_cases h2 : (k : ℕ) < 256
        · omega
        · rw [if_neg h1, if_neg h2]
          by_cases hn : (n : ℕ) = 63
          · rw [if_pos hn]; exact h.last _ _ _
          · rw [if_neg hn]; exact h.after _ _ _ (by simp only []; omega)
    rw [this, EReal.add_bot]

end Cert.Spec

end
-- ==== Proof.TileAt.lean ====
/- A tile the kernel stores, entry by entry: the windowed attention of its position. -/
module

public import proofs.«01_k».proof.Proof.UnitAt
public import proofs.«01_k».proof.Proof.Loads
public import proofs.«01_k».proof.Proof.Spec
import Idealize.ShloMosaic.Lib.Pipeline.ValueKit

@[expose] public section

set_option maxRecDepth 16384

noncomputable section

namespace Cert.KernelIdeal.Attn

open Idealize.ShloMosaic Idealize.ShloMosaic.TcCoe Cert.KernelIdeal.Gen

variable (m : (ℓ : Loc nD τ sig) → Buf (Elt Ideal) ℓ)

/-- The projections by coordinates. -/
abbrev PF (c : Dev nD) : Fin 8 → Fin 12 → Fin 8192 → Fin 128 → EReal := fun b g R l => P m c (ix4 b g R l)

/-- The memory keys and values by coordinates. -/
abbrev MF (c : Dev nD) : Fin 8 → Fin 4 → Fin 256 → Fin 128 → EReal := fun b g R l => Mem m c (ix4 b g R l)

/-- The bias table by coordinates. -/
abbrev TF (c : Dev nD) : Fin 5 → Fin 4 → Fin 384 → Fin 128 → EReal := fun v g r l => T m c (ix4 v g r l)

/-- The sinks by coordinates. -/
abbrev SF (c : Dev nD) : Fin 12 → EReal := fun h => Sk m c (ix1 h)

theorem lad3_eq {α : Type} (f0 f1 f2 : Fin 128 → α) (G : Fin 3 → Fin 128 → α) (h0 : ∀ i, f0 i = G 0 i) (h1 : ∀ i, f1 i = G 1 i) (h2 : ∀ i, f2 i = G 2 i)
    (k : Fin 384) : lad3 f0 f1 f2 k = G ⟨k / 128, by omega⟩ ⟨k % 128, by omega⟩ := by
  unfold lad3
  by_cases h : (k : ℕ) < 128
  · rw [dif_pos h, h0]
    exact congrArg₂ G (Fin.ext (by simp only [Fin.val_zero]; omega)) (Fin.ext (by simp only []; omega))
  · by_cases h' : (k : ℕ) - 128 < 128
    · rw [dif_neg h, dif_pos h', h1]
      exact congrArg₂ G (Fin.ext (by simp only [Fin.val_one]; omega)) (Fin.ext (by simp only []; omega))
    · rw [dif_neg h, dif_neg h', h2]
      exact congrArg₂ G (Fin.ext (by simp only [Fin.val_two]; omega)) (Fin.ext (by simp only []; omega))

section

variable (c : Dev nD) (t : Fin cfg0.N) (b : Fin 8) (hb : (b : ℕ) = t.val / 4) (s : Fin 16) (p : Fin 2) (e : Fin 3) (n : Fin 64)
  (hn : (n : ℕ) = 16 * (t.val % 4) + s)

include hb hn

theorem tri_q (a x : Fin 128) : tri (qTile (F := Ideal) (iblk m c 0 t) s ⟨3 * p, by omega⟩) (qTile (F := Ideal) (iblk m c 0 t) s ⟨3 * p + 1, by omega⟩)
    (qTile (F := Ideal) (iblk m c 0 t) s ⟨3 * p + 2, by omega⟩) ⟨128 * e + a, by omega⟩ x = PF m c b ⟨3 * p + e, by omega⟩ ⟨128 * n + a, by omega⟩ x := by
  unfold tri
  rw [lad3_eq _ _ _ (fun j i => P m c (ix4 b ⟨3 * p + j, by omega⟩ ⟨128 * n + i, by omega⟩ x))
    (fun i => by rw [qTile_at m c t b hb]; congr 2; exact Fin.ext (by simp only []; omega))
    (fun i => by rw [qTile_at m c t b hb]; congr 2; exact Fin.ext (by simp only []; omega))
    (fun i => by rw [qTile_at m c t b hb]; congr 2; exact Fin.ext (by simp only []; omega))]
  refine congrArg (P m c) ?_
  congr 1
  · exact Fin.ext (by simp only []; omega)
  · exact Fin.ext (by simp only []; omega)

theorem tri_k (k : Fin 384) (x : Fin 128) : tri (kTile (F := Ideal) (iblk m c 1 t) (iblk m c 2 t) (iblk m c 3 t) p s) (kTile (F := Ideal) (iblk m c 1 t) (iblk m c 2 t) (iblk m c 3 t) p (s + 1))
    (kTile (F := Ideal) (iblk m c 1 t) (iblk m c 2 t) (iblk m c 3 t) p (s + 2)) k x = PF m c b ⟨6 + p, by omega⟩ (Spec.key n k) x := by
  unfold tri
  rw [lad3_eq _ _ _ (fun j i => P m c (ix4 b ⟨6 + p, by omega⟩ (keyRow (n + j) i) x))
    (fun i => by rw [kTile_at m c t b hb p _ (by omega)]; simp only [Fin.val_zero, hn, Nat.add_zero])
    (fun i => by rw [kTile_at m c t b hb p _ (by omega)]; simp only [Fin.val_one, hn, Nat.add_assoc])
    (fun i => by rw [kTile_at m c t b hb p _ (by omega)]; simp only [Fin.val_two, hn, Nat.add_assoc])]
  rfl

theorem tri_v (k : Fin 384) (x : Fin 128) : tri (kTile (F := Ideal) (iblk m c 4 t) (iblk m c 5 t) (iblk m c 6 t) p s) (kTile (F := Ideal) (iblk m c 4 t) (iblk m c 5 t) (iblk m c 6 t) p (s + 1))
    (kTile (F := Ideal) (iblk m c 4 t) (iblk m c 5 t) (iblk m c 6 t) p (s + 2)) k x = PF m c b ⟨8 + p, by omega⟩ (Spec.key n k) x := by
  unfold tri
  rw [lad3_eq _ _ _ (fun j i => P m c (ix4 b ⟨8 + p, by omega⟩ (keyRow (n + j) i) x))
    (fun i => by rw [vTile_at m c t b hb p _ (by omega)]; simp only [Fin.val_zero, hn, Nat.add_zero])
    (fun i => by rw [vTile_at m c t b hb p _ (by omega)]; simp only [Fin.val_one, hn, Nat.add_assoc])
    (fun i => by rw [vTile_at m c t b hb p _ (by omega)]; simp only [Fin.val_two, hn, Nat.add_assoc])]
  rfl

omit hb in
theorem bias_at (g : Fin 4) (r k : Fin 384) : bias (bPrev (F := Ideal) (iblk m c 10 t) (grid0.coords t) g s) (bTile (F := Ideal) (iblk m c 10 t) 2 g)
    (bNext (F := Ideal) (iblk m c 10 t) (grid0.coords t) g s) r k = TF m c (Spec.varAt n k) g r ⟨k % 128, by omega⟩ := by
  unfold bias
  rw [lad3_eq _ _ _ (fun j i => T m c (ix4 (![if (n : ℕ) = 0 then 1 else 0, 2, if (n : ℕ) = 63 then 4 else 3] j) g r i))
    (fun i => by rw [bPrev_at, ← hn]; rfl) (fun i => by rw [bTile_at]; rfl) (fun i => by rw [bNext_at, ← hn]; rfl)]
  refine congrArg (fun v => T m c (ix4 v g r ⟨k % 128, by omega⟩)) ?_
  unfold Spec.varAt
  by_cases h : (k : ℕ) < 128
  · rw [if_pos h, show (⟨k / 128, by omega⟩ : Fin 3) = 0 from Fin.ext (by simp only [Fin.val_zero]; omega)]; rfl
  · by_cases h' : (k : ℕ) < 256
    · rw [if_neg h, if_pos h', show (⟨k / 128, by omega⟩ : Fin 3) = 1 from Fin.ext (by simp only [Fin.val_one]; omega)]; rfl
    · rw [if_neg h, if_neg h', show (⟨k / 128, by omega⟩ : Fin 3) = 2 from Fin.ext (by simp only [Fin.val_two]; omega)]; rfl

theorem tile_at (H : Spec.Tame (PF m c) (MF m c) (TF m c) (SF m c)) (a : Fin 128) (hh : Fin 2) (d : Fin 64) :
    tile (F := Ideal) (iblk m c 0 t) (iblk m c 1 t) (iblk m c 2 t) (iblk m c 3 t) (iblk m c 4 t) (iblk m c 5 t) (iblk m c 6 t)
      (iblk m c 10 t) (iblk m c 11 t) (grid0.coords t) s p e (ix4 0 0 a ⟨64 * hh + d, by omega⟩)
      = Spec.loc (PF m c) (TF m c) (SF m c) b p e hh d n a := by
  unfold tile
  rw [oneOf_at]
  have hS : ∀ (h : Fin 2) (l : Fin 128), sTile (F := Ideal) (iblk m c 11 t) ⟨2 * p + h, by omega⟩ (ix3 0 ⟨128 * e + a, by omega⟩ l)
      = SF m c ⟨3 * (2 * p + h) + e, by omega⟩ := fun h l => by
    rw [sTile_at]
    exact congrArg (Sk m c) (congrArg ix1 (Fin.ext (by simp only []; omega)))
  have hh2 : hh = 0 ∨ hh = 1 := by omega
  rcases hh2 with rfl | rfl
  · have hx : ∀ k, scoreLo (qTile (F := Ideal) (iblk m c 0 t) s ⟨3 * p, by omega⟩) (qTile (F := Ideal) (iblk m c 0 t) s ⟨3 * p + 1, by omega⟩) (qTile (F := Ideal) (iblk m c 0 t) s ⟨3 * p + 2, by omega⟩)
        (kTile (F := Ideal) (iblk m c 1 t) (iblk m c 2 t) (iblk m c 3 t) p s) (kTile (F := Ideal) (iblk m c 1 t) (iblk m c 2 t) (iblk m c 3 t) p (s + 1)) (kTile (F := Ideal) (iblk m c 1 t) (iblk m c 2 t) (iblk m c 3 t) p (s + 2))
        (bPrev (F := Ideal) (iblk m c 10 t) (grid0.coords t) ⟨2 * p, by omega⟩ s) (bTile (F := Ideal) (iblk m c 10 t) 2 ⟨2 * p, by omega⟩) (bNext (F := Ideal) (iblk m c 10 t) (grid0.coords t) ⟨2 * p, by omega⟩ s)
        ⟨128 * e + a, by omega⟩ k = Spec.score (PF m c) (TF m c) b p e 0 n a k := fun k => by
      unfold scoreLo
      rw [bias_at m c t b s n hn, ← Spec.score_eq H]
      refine congrArg₂ _ (Finset.sum_congr rfl fun d _ => ?_) rfl
      rw [tri_q m c t b hb s p e n hn, tri_k m c t b hb s p n hn]
      congr 2 <;> exact Fin.ext (by simp only [Fin.val_zero]; omega)
    refine (three_lo _ _ _ _ _ _ _ _ _ _ _ _ _ _ _ _ _ _ _ (SF m c ⟨3 * (2 * p + (0 : Fin 2)) + e, by omega⟩) (by simp only [Fin.val_zero]; omega) (hS 0) (H.sink _)
      (fun k => by rw [hx]; exact Spec.score_ne_top H _ _ _ _ _ _ _) (fun k => by rw [tri_v m c t b hb s p n hn]; exact H.proj _ _ _ _)).trans ?_
    unfold Spec.loc
    exact Soft.attn_congr hx (fun k _ => tri_v m c t b hb s p n hn k _) rfl
  · have hx : ∀ k, scoreHi (qTile (F := Ideal) (iblk m c 0 t) s ⟨3 * p, by omega⟩) (qTile (F := Ideal) (iblk m c 0 t) s ⟨3 * p + 1, by omega⟩) (qTile (F := Ideal) (iblk m c 0 t) s ⟨3 * p + 2, by omega⟩)
        (kTile (F := Ideal) (iblk m c 1 t) (iblk m c 2 t) (iblk m c 3 t) p s) (kTile (F := Ideal) (iblk m c 1 t) (iblk m c 2 t) (iblk m c 3 t) p (s + 1)) (kTile (F := Ideal) (iblk m c 1 t) (iblk m c 2 t) (iblk m c 3 t) p (s + 2))
        (bPrev (F := Ideal) (iblk m c 10 t) (grid0.coords t) ⟨2 * p + 1, by omega⟩ s) (bTile (F := Ideal) (iblk m c 10 t) 2 ⟨2 * p + 1, by omega⟩) (bNext (F := Ideal) (iblk m c 10 t) (grid0.coords t) ⟨2 * p + 1, by omega⟩ s)
        ⟨128 * e + a, by omega⟩ k = Spec.score (PF m c) (TF m c) b p e 1 n a k := fun k => by
      unfold scoreHi
      rw [bias_at m c t b s n hn, ← Spec.score_eq H]
      refine congrArg₂ _ (Finset.sum_congr rfl fun d _ => ?_) rfl
      rw [tri_q m c t b hb s p e n hn, tri_k m c t b hb s p n hn]
      congr 2 <;> exact Fin.ext (by simp only [Fin.val_one]; omega)
    refine (three_hi _ _ _ _ _ _ _ _ _ _ _ _ _ _ _ _ _ _ _ (SF m c ⟨3 * (2 * p + (1 : Fin 2)) + e, by omega⟩) (by simp only [Fin.val_one]; omega) (hS 1) (H.sink _)
      (fun k => by rw [hx]; exact Spec.score_ne_top H _ _ _ _ _ _ _) (fun k => by rw [tri_v m c t b hb s p n hn]; exact H.proj _ _ _ _)).trans ?_
    unfold Spec.loc
    exact Soft.attn_congr hx (fun k _ => tri_v m c t b hb s p n hn k _) rfl

end

end Cert.KernelIdeal.Attn

end
-- ==== Proof.MemAt.lean ====
/- The memory heads of a grid point, entry by entry. -/
module

public import proofs.«01_k».proof.Proof.TileAt
import Idealize.ShloMosaic.Lib.Pipeline.ValueKit

@[expose] public section

set_option maxRecDepth 16384

noncomputable section

namespace Cert.KernelIdeal.Attn

open Idealize.ShloMosaic Idealize.ShloMosaic.TcCoe Cert.KernelIdeal.Gen

section Ops

variable {F : FTy → Type} [FloatOps F]

/-- The lanes of the first head, for a block of queries. -/
def memMask : IVec S2048x128 1 := broadcastTo S2048x128 (shapeCast S1x128 k0_pay2 shapeCasts_S1x128_S1x128) broadcasts_S1x128_S2048x128

/-- The products of both heads' queries, one under the other, with the memory keys. -/
def memScores (q : Vec F S1x1x2048x128 .bf16) (k : Vec F S1x1x256x128 .bf16) : FVec F S4096x256 .f32 :=
  have z : FVec F S2048x128 .bf16 := broadcast S2048x128 (Scalar.ofBits .bf16 0x0000#16)
  have q' : FVec F S2048x128 .bf16 := shapeCast S2048x128 q shapeCasts_S1x1x2048x128_S2048x128
  matmul dot_S4096x128_S256x128_S4096x256_1_1_0_0_n_n none
    (concatenate S4096x128 0 [⟨S2048x128, select memMask q' z⟩, ⟨S2048x128, select memMask z q'⟩] concatenates_S2048x128_S2048x128_S4096x128_d0)
    (shapeCast S256x128 k shapeCasts_S1x1x256x128_S256x128) (constant S4096x256 .f32 0x00000000#32)

/-- The powers of two above the row maximum. -/
def memPows (s : FVec F S4096x256 .f32) : FVec F S4096x256 .bf16 :=
  truncf .bf16 (exp2 (subf s (broadcastTo S4096x256 (shapeCast S4096x1 (multiReduction .maximumf [1] S4096 s 0xFF800000#32 reduces_S4096x256_S4096 (.inl rfl) rfl)
    shapeCasts_S4096_S4096x1) broadcasts_S4096x1_S4096x256))) bitsLt_bf16_f32

/-- Weighted sums over row sums, each head's lanes from its own rows. -/
def memQuot (e : FVec F S4096x256 .bf16) (v : Vec F S1x1x256x128 .bf16) : FVec F S1x1x2048x128 .bf16 :=
  have w : FVec F S4096x256 .f32 := matmul dot_S4096x256_S256x256_S4096x256_1_0_0_1_n_n none e
    (concatenate S256x256 1 [⟨S256x128, shapeCast S256x128 v shapeCasts_S1x1x256x128_S256x128⟩, ⟨S256x128, broadcast S256x128 (Scalar.ofBits .bf16 0x3F80#16)⟩] concatenates_S256x128_S256x128_S256x256_d1)
    (constant S4096x256 .f32 0x00000000#32)
  have o : FVec F S4096x128 .f32 := divf (extractStridedSlice S4096x128 ![0, 0] w slices_S4096x256_o0_0_S4096x128)
    (extractStridedSlice S4096x128 ![0, 128] w slices_S4096x256_o0_128_S4096x128)
  shapeCast S1x1x2048x128 (truncf .bf16 (select memMask (extractStridedSlice S2048x128 ![0, 0] o slices_S4096x128_o0_0_S2048x128)
    (extractStridedSlice S2048x128 ![2048, 0] o slices_S4096x128_o2048_0_S2048x128)) bitsLt_bf16_f32) shapeCasts_S2048x128_S1x1x2048x128

theorem memHeads_eq (q : Vec F S1x1x2048x128 .bf16) (k v : Vec F S1x1x256x128 .bf16) :
    memHeads q k v = memQuot (memPows (memScores q k)) v := rfl

end Ops

variable (q : FVec Ideal S1x1x2048x128 .bf16) (k v : FVec Ideal S1x1x256x128 .bf16)

theorem memScores_lo (R : Fin 2048) (j : Fin 256) :
    memScores (F := Ideal) q k (ix2 ⟨R, by omega⟩ j) = ∑ d : Fin 64, q (ix4 0 0 R ⟨d, by omega⟩) * k (ix4 0 0 j ⟨d, by omega⟩) := by
  pointwise [memScores, memMask, k0_pay2]
  simp only [select_lane, dif_pos R.isLt]
  rw [← sum_lo (fun x => q (ix4 0 0 R x)) (fun x => k (ix4 0 0 j x))]
  refine Finset.sum_congr rfl fun x _ => ?_
  split <;> simp

theorem memScores_hi (R : Fin 2048) (j : Fin 256) :
    memScores (F := Ideal) q k (ix2 ⟨2048 + R, by omega⟩ j) = ∑ d : Fin 64, q (ix4 0 0 R ⟨64 + d, by omega⟩) * k (ix4 0 0 j ⟨64 + d, by omega⟩) := by
  pointwise [memScores, memMask, k0_pay2]
  simp only [select_lane]
  rw [← sum_hi (fun x => q (ix4 0 0 R x)) (fun x => k (ix4 0 0 j x))]
  refine Finset.sum_congr rfl fun x _ => ?_
  split <;> simp

theorem memPows_at (s : FVec Ideal S4096x256 .f32) (r : Fin 4096) (h : ∀ j, s (ix2 r j) ≠ ⊤ ∧ s (ix2 r j) ≠ ⊥) :
    ∃ M : EReal, (M ≠ ⊤ ∧ M ≠ ⊥) ∧ ∀ j, memPows (F := Ideal) s (ix2 r j) = Ideal.exp2 (s (ix2 r j) - M) := by
  refine ⟨Finset.fold max (⊥ : EReal) (fun x => s (ix2 r x)) Finset.univ, ⟨?_, ?_⟩, fun j => ?_⟩
  · exact ne_of_lt ((Finset.fold_max_lt _).2 ⟨bot_lt_top, fun x _ => lt_top_iff_ne_top.2 (h x).1⟩)
  · exact ne_of_gt (lt_of_lt_of_le (bot_lt_iff_ne_bot.2 (h 0).2) ((Finset.le_fold_max _).2 (Or.inr ⟨0, Finset.mem_univ _, le_rfl⟩)))
  · pointwise [memPows]
    rfl

theorem memQuot_at (e : FVec Ideal S4096x256 .bf16) (R : Fin 2048) (l : Fin 128) :
    memQuot (F := Ideal) e v (ix4 0 0 R l) = if (l : ℕ) < 64
      then Ideal.div (∑ j : Fin 256, e (ix2 ⟨R, by omega⟩ j) * v (ix4 0 0 j l)) (∑ j : Fin 256, e (ix2 ⟨R, by omega⟩ j))
      else Ideal.div (∑ j : Fin 256, e (ix2 ⟨2048 + R, by omega⟩ j) * v (ix4 0 0 j l)) (∑ j : Fin 256, e (ix2 ⟨2048 + R, by omega⟩ j)) := by
  rw [← select_lane l]
  pointwise [memQuot, memMask, k0_pay2]

theorem memHeads_at (hq : ∀ R l, q (ix4 0 0 R l) ≠ ⊤ ∧ q (ix4 0 0 R l) ≠ ⊥) (hk : ∀ j l, k (ix4 0 0 j l) ≠ ⊤ ∧ k (ix4 0 0 j l) ≠ ⊥)
    (hv : ∀ j l, v (ix4 0 0 j l) ≠ ⊤ ∧ v (ix4 0 0 j l) ≠ ⊥) (R : Fin 2048) (hh : Fin 2) (d : Fin 64) :
    memHeads (F := Ideal) q k v (ix4 0 0 R ⟨64 * hh + d, by omega⟩)
      = Soft.attn (fun j : Fin 256 => ∑ d' : Fin 64, q (ix4 0 0 R ⟨64 * hh + d', by omega⟩) * k (ix4 0 0 j ⟨64 * hh + d', by omega⟩))
        (fun j => v (ix4 0 0 j ⟨64 * hh + d, by omega⟩)) ⊥ := by
  rw [memHeads_eq, memQuot_at]
  have hr : ∀ j, (∑ d' : Fin 64, q (ix4 0 0 R ⟨64 * hh + d', by omega⟩) * k (ix4 0 0 j ⟨64 * hh + d', by omega⟩)) ≠ ⊤
      ∧ (∑ d' : Fin 64, q (ix4 0 0 R ⟨64 * hh + d', by omega⟩) * k (ix4 0 0 j ⟨64 * hh + d', by omega⟩)) ≠ ⊥ :=
    fun j => Spec.sum_real _ fun _ => Spec.mul_real (hq _ _) (hk _ _)
  have hh2 : hh = 0 ∨ hh = 1 := by omega
  have fin : ∀ M : EReal, (M ≠ ⊤ ∧ M ≠ ⊥) → Ideal.exp2 (⊥ - M) = 0 := fun M _ => by rw [EReal.bot_sub, Ideal.exp2_bot]
  rcases hh2 with rfl | rfl
  · have e : ∀ j, memScores (F := Ideal) q k (ix2 ⟨R, by omega⟩ j) = ∑ d' : Fin 64, q (ix4 0 0 R ⟨64 * (0 : Fin 2) + d', by omega⟩) * k (ix4 0 0 j ⟨64 * (0 : Fin 2) + d', by omega⟩) := fun j => by
      rw [memScores_lo]
      refine Finset.sum_congr rfl fun d' _ => ?_
      congr 3 <;> exact Fin.ext (by simp only [Fin.val_zero]; omega)
    obtain ⟨M, hM, hp⟩ := memPows_at (memScores (F := Ideal) q k) ⟨R, by omega⟩ (fun j => by rw [e]; exact hr j)
    rw [if_pos (by simp only [Fin.val_zero]; omega)]
    simp only [hp, e]
    rw [← Soft.attn_shift _ _ ⊥ (fun j => (hr j).1) (fun j => hv j _) bot_ne_top (Or.inr ⟨0, (hr 0).2⟩) M hM, fin M hM, add_zero]
  · have e : ∀ j, memScores (F := Ideal) q k (ix2 ⟨2048 + R, by omega⟩ j) = ∑ d' : Fin 64, q (ix4 0 0 R ⟨64 * (1 : Fin 2) + d', by omega⟩) * k (ix4 0 0 j ⟨64 * (1 : Fin 2) + d', by omega⟩) := fun j => by
      rw [memScores_hi]
      refine Finset.sum_congr rfl fun d' _ => ?_
      congr 3
    obtain ⟨M, hM, hp⟩ := memPows_at (memScores (F := Ideal) q k) ⟨2048 + R, by omega⟩ (fun j => by rw [e]; exact hr j)
    rw [if_neg (by simp only [Fin.val_one]; omega)]
    simp only [hp, e]
    rw [← Soft.attn_shift _ _ ⊥ (fun j => (hr j).1) (fun j => hv j _) bot_ne_top (Or.inr ⟨0, (hr 0).2⟩) M hM, fin M hM, add_zero]

end Cert.KernelIdeal.Attn

end
-- ==== Proof.Final.lean ====
/- The kernel's result array: the windowed attention and the memory heads of the argument arrays. -/
module

public import proofs.«01_k».proof.Proof.Tiles
public import proofs.«01_k».proof.Proof.MemAt
import Idealize.ShloMosaic.Lib.Pipeline.ValueKit

@[expose] public section

set_option maxRecDepth 16384

noncomputable section

namespace Cert.KernelIdeal.Attn

open Idealize.ShloMosaic Idealize.ShloMosaic.TcCoe Cert.KernelIdeal.Gen

variable (m : (ℓ : Loc nD τ sig) → Buf (Elt Ideal) ℓ)

/-- The result array. -/
def OUT (c : Dev nD) : FVec Ideal S8x8x8192x128 .bf16 := fun i => Spec.out (PF m c) (MF m c) (TF m c) (SF m c) (i 0) (i 1) (i 2) (i 3)

theorem mem_pieces (c : Dev nD) (t : Fin cfg0.N) (k : ℕ) : ∀ n, k < n →
    piece m c t (Fin.ofNat 16 (k / 6)) (Fin.ofNat 2 (k / 3)) (Fin.ofNat 3 k) ∈ pieces m c t n
  | 0, h => absurd h (Nat.not_lt_zero _)
  | n + 1, h => by
    unfold pieces
    rcases Nat.lt_succ_iff_lt_or_eq.1 h with h | rfl
    · exact List.mem_cons_of_mem _ (mem_pieces c t k n h)
    · exact List.mem_cons_self

theorem of_mem_pieces (c : Dev nD) (t : Fin cfg0.N) (q : View.Piece (Elt Ideal) S1x8x2048x128 .bf16) : ∀ n, q ∈ pieces m c t n →
    ∃ s p e, q = piece m c t s p e
  | 0, h => absurd h List.not_mem_nil
  | n + 1, h => by
    unfold pieces at h
    rcases List.mem_cons.1 h with h | h
    · exact ⟨_, _, _, h⟩
    · exact of_mem_pieces c t q n h

variable (c : Dev nD) (t : Fin cfg0.N) (b : Fin 8) (hb : (b : ℕ) = t.val / 4)

include hb

theorem piece_at (H : Spec.Tame (PF m c) (MF m c) (TF m c) (SF m c)) (s : Fin 16) (p : Fin 2) (e : Fin 3) (a l : Fin 128) (g : Fin 8) (R : Fin 8192)
    (hg : (g : ℕ) = 3 * p + e) (hR : (R : ℕ) = 2048 * (t.val % 4) + (128 * s + a)) :
    tileAt m c t s p e (ix4 0 0 a l) = Spec.out (PF m c) (MF m c) (TF m c) (SF m c) b g R l := by
  obtain ⟨hh, d, rfl⟩ : ∃ (hh : Fin 2) (d : Fin 64), l = ⟨64 * hh + d, by omega⟩ :=
    ⟨⟨l / 64, by omega⟩, ⟨l % 64, by omega⟩, Fin.ext (by simp only []; omega)⟩
  rw [Spec.out_loc _ _ _ _ b p e hh d ⟨16 * (t.val % 4) + s, by omega⟩ a g R _ hg (by simp only []; omega) rfl]
  exact tile_at m c t b hb s p e ⟨16 * (t.val % 4) + s, by omega⟩ rfl H a hh d

theorem memPiece_at (H : Spec.Tame (PF m c) (MF m c) (TF m c) (SF m c)) (u : Fin 2) (q : FVec Ideal S1x1x2048x128 .bf16) (k v : FVec Ideal S1x1x256x128 .bf16)
    (hq : ∀ R l, q (ix4 0 0 R l) = iblk m c 7 t (ix4 0 u R l)) (hk : ∀ R l, k (ix4 0 0 R l) = iblk m c 8 t (ix4 0 u R l))
    (hv : ∀ R l, v (ix4 0 0 R l) = iblk m c 9 t (ix4 0 u R l)) (R : Fin 2048) (l : Fin 128) (g : Fin 8) (R' : Fin 8192)
    (hg : (g : ℕ) = 6 + u) (hR : (R' : ℕ) = 2048 * (t.val % 4) + R) :
    memHeads (F := Ideal) q k v (ix4 0 0 R l) = Spec.out (PF m c) (MF m c) (TF m c) (SF m c) b g R' l := by
  obtain ⟨hh, d, rfl⟩ : ∃ (hh : Fin 2) (d : Fin 64), l = ⟨64 * hh + d, by omega⟩ :=
    ⟨⟨l / 64, by omega⟩, ⟨l % 64, by omega⟩, Fin.ext (by simp only []; omega)⟩
  have hq' : ∀ R l, q (ix4 0 0 R l) = PF m c b ⟨10 + u, by omega⟩ ⟨2048 * (t.val % 4) + R, by omega⟩ l := fun R l => (hq R l).trans (qm_at m c t b hb u R l)
  have hk' : ∀ R l, k (ix4 0 0 R l) = MF m c b ⟨u, by omega⟩ R l := fun R l => (hk R l).trans (mk_at m c t b hb u R l)
  have hv' : ∀ R l, v (ix4 0 0 R l) = MF m c b ⟨2 + u, by omega⟩ R l := fun R l => (hv R l).trans (mv_at m c t b hb u R l)
  rw [Spec.out_mem _ _ _ _ b u hh d g R' _ hg rfl]
  refine (memHeads_at q k v (fun R l => by rw [hq']; exact H.proj _ _ _ _) (fun R l => by rw [hk']; exact H.memkv _ _ _ _)
    (fun R l => by rw [hv']; exact H.memkv _ _ _ _) R hh d).trans ?_
  unfold Spec.mem
  refine Soft.attn_congr (fun j => Finset.sum_congr rfl fun d _ => ?_) (fun j _ => hv' _ _) rfl
  rw [hq', hk', show (⟨2048 * (t.val % 4) + R, by omega⟩ : Fin 8192) = R' from Fin.ext (by simp only []; omega)]

theorem tile_piece_of (H : Spec.Tame (PF m c) (MF m c) (TF m c) (SF m c)) (s : Fin 16) (p : Fin 2) (e : Fin 3) (x : S1x1x128x128.Idx)
    (g : Fin 8) (R : Fin 2048) (l : Fin 128)
    (hg : (g : ℕ) = 3 * p + e) (hR : (R : ℕ) = 128 * s + (x 2 : ℕ)) (hl : (l : ℕ) = (x 3 : ℕ)) :
    tileAt m c t s p e x = Spec.out (PF m c) (MF m c) (TF m c) (SF m c) b g ⟨2048 * (t.val % 4) + R, by omega⟩ l := by
  obtain ⟨x0, x1, a, l', rfl⟩ : ∃ (x0 x1 : Fin 1) (a l' : Fin 128), x = ix4 x0 x1 a l' := ⟨x 0, x 1, x 2, x 3, by idx_vars x⟩
  obtain rfl : x0 = 0 := by omega
  obtain rfl : x1 = 0 := by omega
  obtain rfl : l' = l := Fin.ext hl.symm
  exact piece_at m c t b hb H s p e a l' g _ hg (by show 2048 * (t.val % 4) + (R : ℕ) = _; rw [hR]; rfl)

theorem mem_piece_of (H : Spec.Tame (PF m c) (MF m c) (TF m c) (SF m c)) (u : Fin 2) (q : FVec Ideal S1x1x2048x128 .bf16) (k v : FVec Ideal S1x1x256x128 .bf16)
    (hq : ∀ R l, q (ix4 0 0 R l) = iblk m c 7 t (ix4 0 u R l)) (hk : ∀ R l, k (ix4 0 0 R l) = iblk m c 8 t (ix4 0 u R l))
    (hv : ∀ R l, v (ix4 0 0 R l) = iblk m c 9 t (ix4 0 u R l)) (x : S1x1x2048x128.Idx) (g : Fin 8) (R : Fin 2048) (l : Fin 128)
    (hg : (g : ℕ) = 6 + u) (hR : (R : ℕ) = (x 2 : ℕ)) (hl : (l : ℕ) = (x 3 : ℕ)) :
    memHeads (F := Ideal) q k v x = Spec.out (PF m c) (MF m c) (TF m c) (SF m c) b g ⟨2048 * (t.val % 4) + R, by omega⟩ l := by
  obtain ⟨x0, x1, a, l', rfl⟩ : ∃ (x0 x1 : Fin 1) (a : Fin 2048) (l' : Fin 128), x = ix4 x0 x1 a l' := ⟨x 0, x 1, x 2, x 3, by idx_vars x⟩
  obtain rfl : x0 = 0 := by omega
  obtain rfl : x1 = 0 := by omega
  obtain rfl : l' = l := Fin.ext hl.symm
  obtain rfl : a = R := Fin.ext hR.symm
  exact memPiece_at m c t b hb H u q k v hq hk hv a l' g _ hg rfl

/-- What a point leaves at an entry of its block. -/
theorem outs_at (H : Spec.Tame (PF m c) (MF m c) (TF m c) (SF m c)) (g : Fin 8) (R : Fin 2048) (l : Fin 128) :
    outsAt0 m c t (ix4 0 g R l) = Spec.out (PF m c) (MF m c) (TF m c) (SF m c) b g ⟨2048 * (t.val % 4) + R, by omega⟩ l := by
  rw [outs_eq]
  refine View.canon_eq_of_allAt _ _ _ ?_ ?_
  · by_cases hg : (g : ℕ) < 6
    · refine ⟨_, List.mem_cons_of_mem _ (List.mem_cons_of_mem _ (mem_pieces m c t (6 * (R / 128) + g) 96 (by omega))), ?_⟩
      unfold piece
      apply Rect.mem_set_unit.mpr
      intro a
      have k1 : (6 * ((R : ℕ) / 128) + g) / 6 % 16 = R / 128 := by omega
      have k2 : 3 * ((6 * ((R : ℕ) / 128) + g) / 3 % 2) + (6 * ((R : ℕ) / 128) + g) % 3 = g := by omega
      fin_cases a
      · exact ⟨Nat.zero_le _, Nat.zero_lt_one⟩
      · show 3 * ((6 * ((R : ℕ) / 128) + g) / 3 % 2) + (6 * ((R : ℕ) / 128) + g) % 3 ≤ (g : ℕ) ∧ (g : ℕ) < 3 * ((6 * ((R : ℕ) / 128) + g) / 3 % 2) + (6 * ((R : ℕ) / 128) + g) % 3 + 1
        omega
      · show 128 * ((6 * ((R : ℕ) / 128) + g) / 6 % 16) ≤ (R : ℕ) ∧ (R : ℕ) < 128 * ((6 * ((R : ℕ) / 128) + g) / 6 % 16) + 128
        omega
      · exact ⟨Nat.zero_le _, by show (l : ℕ) < 0 + 128; omega⟩
      exact inb_o _ ⟨_, by omega⟩
    · by_cases h6 : (g : ℕ) = 6
      · refine ⟨_, List.mem_cons_of_mem _ List.mem_cons_self, ?_⟩
        apply Rect.mem_set_unit.mpr
        intro a
        fin_cases a
        · exact ⟨Nat.zero_le _, Nat.zero_lt_one⟩
        · show 6 ≤ (g : ℕ) ∧ (g : ℕ) < 7; omega
        · exact ⟨Nat.zero_le _, by show (R : ℕ) < 0 + 2048; omega⟩
        · exact ⟨Nat.zero_le _, by show (l : ℕ) < 0 + 128; omega⟩
        exact inb_m 0
      · refine ⟨_, List.mem_cons_self, ?_⟩
        apply Rect.mem_set_unit.mpr
        intro a
        fin_cases a
        · exact ⟨Nat.zero_le _, Nat.zero_lt_one⟩
        · show 7 ≤ (g : ℕ) ∧ (g : ℕ) < 8; omega
        · exact ⟨Nat.zero_le _, by show (R : ℕ) < 0 + 2048; omega⟩
        · exact ⟨Nat.zero_le _, by show (l : ℕ) < 0 + 128; omega⟩
        exact inb_m 1
  · refine View.allAt_cons_unit _ _ _ _ _ (fun x hx => ?_) (View.allAt_cons_unit _ _ _ _ _ (fun x hx => ?_) fun q hq x hx => ?_)
    · have g1 : (g : ℕ) = 7 + (x 1 : ℕ) := hx 1
      have g0 : (x 1 : ℕ) < 1 := (x 1).isLt
      have g2 : (R : ℕ) = 0 + (x 2 : ℕ) := hx 2
      have g3 : (l : ℕ) = 0 + (x 3 : ℕ) := hx 3
      exact mem_piece_of m c t b hb H 1 _ _ _ (fun R l => by pointwise) (fun R l => by pointwise) (fun R l => by pointwise) x g R l (by show (g : ℕ) = 7; omega) (by omega) (by omega)
    · have g1 : (g : ℕ) = 6 + (x 1 : ℕ) := hx 1
      have g0 : (x 1 : ℕ) < 1 := (x 1).isLt
      have g2 : (R : ℕ) = 0 + (x 2 : ℕ) := hx 2
      have g3 : (l : ℕ) = 0 + (x 3 : ℕ) := hx 3
      exact mem_piece_of m c t b hb H 0 _ _ _ (fun R l => by pointwise) (fun R l => by pointwise) (fun R l => by pointwise) x g R l (by show (g : ℕ) = 6; omega) (by omega) (by omega)
    · obtain ⟨s, p, e, rfl⟩ := of_mem_pieces m c t q 96 hq
      have g0 : (x 1 : ℕ) < 1 := (x 1).isLt
      have g1 : 3 * (p : ℕ) + e + 1 * (x 1 : ℕ) = g := congrArg (fun y : S1x8x2048x128.Idx => (y 1 : ℕ)) hx
      have g2 : 128 * (s : ℕ) + 1 * (x 2 : ℕ) = R := congrArg (fun y : S1x8x2048x128.Idx => (y 2 : ℕ)) hx
      have g3 : 0 + 1 * (x 3 : ℕ) = l := congrArg (fun y : S1x8x2048x128.Idx => (y 3 : ℕ)) hx
      exact tile_piece_of m c t b hb H s p e x g R l (by omega) (by omega) (by omega)

omit hb in
/-- The result array after the run. -/
theorem final (H : Spec.Tame (PF m c) (MF m c) (TF m c) (SF m c)) : (dats m 0 c).arrAt 12 (cfgs 0).N = OUT m c := by
  refine (dats m 0 c).arrAt_eq_of_covers 12 _ (by decide +kernel) fun t _ y => ?_
  blk_simp
  rw [after0_12]
  have ht := lt32 t
  obtain ⟨y0, g, R, l, rfl⟩ : ∃ (y0 : Fin 1) (g : Fin 8) (R : Fin 2048) (l : Fin 128), y = ix4 y0 g R l := ⟨y 0, y 1, y 2, y 3, by idx_vars y⟩
  obtain rfl : y0 = 0 := by omega
  refine (outs_at m c t ⟨t.val / 4, by omega⟩ rfl H g R l).trans ?_
  unfold OUT
  congr 1 <;> (refine Fin.ext ?_; blk_simp [idx t]; try first | rfl | (dsimp only; omega))

end Cert.KernelIdeal.Attn

end
-- ==== Proof.RefMask.lean ====
/- The reference's two tests for a masked pair, decided over every pair. -/
module

public import proofs.«01_k».proof.Proof.Gen.ReferenceIdeal.Read
public import proofs.«01_k».proof.Proof.Spec
public import Idealize.ShloMosaic.PureOps.Ideal
public import Idealize.ShloMosaic.Lib.Pointwise
import Idealize.ShloMosaic.Lib.Pipeline.ValueKit

@[expose] public section

set_option maxRecDepth 16384

noncomputable section

namespace Cert.ReferenceIdeal.Attn

open Idealize.ShloMosaic Cert.ReferenceIdeal Cert.ReferenceIdeal.Gen Cert.ReferenceIdeal.Read

variable (x0 : FVec Ideal S8x12x8192x128 .bf16) (x1 : FVec Ideal S8x4x256x128 .bf16) (x2 : FVec Ideal S5x4x384x128 .f32) (x3 : FVec Ideal S12 .f32)

/-- A pair is in the window when the key is at most 128 places from the query. -/
theorem win (a : Fin 128) (k : Fin 384) : IntOp.cmpi .sle (IntOp.absi (IntOp.subi (IntOp.subi (BitVec.ofNat 32 k.val) 128#32) (BitVec.ofNat 32 a.val))) 128#32 = BitVec.ofBool (decide (a.val ≤ k.val ∧ k.val ≤ a.val + 256)) := by
  revert a k
  decide +kernel

/-- A key is in the sequence when its place is at least 0 and less than 8192. -/
theorem rng (n : Fin 64) (k : Fin 384) : IntOp.andi (IntOp.cmpi .sge (IntOp.addi (IntOp.subi (IntOp.muli 128#32 (BitVec.ofNat 32 n.val)) 128#32) (BitVec.ofNat 32 k.val)) 0#32) (IntOp.cmpi .slt (IntOp.addi (IntOp.subi (IntOp.muli 128#32 (BitVec.ofNat 32 n.val)) 128#32) (BitVec.ofNat 32 k.val)) 8192#32) = BitVec.ofBool (decide (128 ≤ 128 * n.val + k.val ∧ 128 * n.val + k.val - 128 < 8192)) := by
  revert n k
  decide +kernel

end Cert.ReferenceIdeal.Attn

end
-- ==== Proof.RefAt.lean ====
/- The reference's intermediate arrays, entry by entry. -/
module

public import proofs.«01_k».proof.Proof.Gen.ReferenceIdeal.Read
public import proofs.«01_k».proof.Proof.Spec
public import proofs.«01_k».proof.Proof.RefMask
public import Idealize.ShloMosaic.PureOps.Ideal
public import Idealize.ShloMosaic.Lib.Pointwise
import Idealize.ShloMosaic.Lib.Pipeline.ValueKit

@[expose] public section

set_option maxRecDepth 16384

noncomputable section

namespace Cert.ReferenceIdeal.Attn

open Idealize.ShloMosaic Cert.ReferenceIdeal Cert.ReferenceIdeal.Gen Cert.ReferenceIdeal.Read

variable (x0 : FVec Ideal S8x12x8192x128 .bf16) (x1 : FVec Ideal S8x4x256x128 .bf16) (x2 : FVec Ideal S5x4x384x128 .f32) (x3 : FVec Ideal S12 .f32)

/-- The query, key and value head groups as the windowed attention reads them. -/
def PR (b : Fin 8) (g : Fin 12) (R : Fin 8192) (l : Fin 128) : EReal := x0 (ix4 b g R l)

/-- The memory's keys and values. -/
def MR (b : Fin 8) (g : Fin 4) (k : Fin 256) (l : Fin 128) : EReal := x1 (ix4 b g k l)

/-- The five bias tables. -/
def TR (v : Fin 5) (h : Fin 4) (r : Fin 384) (k : Fin 128) : EReal := x2 (ix4 v h r k)

/-- The sinks, one a head. -/
def SR (j : Fin 12) : EReal := x3 (ix1 j)

theorem v10_at (b : Fin 8) (p : Fin 2) (hh : Fin 2) (R : Fin 8192) (d : Fin 64) :
    val_main_v10 (F := Ideal) x0 (ix4 b ⟨2 * p + hh, by omega⟩ R d) = PR x0 b ⟨6 + p, by omega⟩ R ⟨64 * hh + d, by omega⟩ := by
  unfold PR
  pointwise [val_main_v10, val_main_v9, val_main_v8, val_main_v7, val_main_v1]
  refine congrArg x0 ?_
  congr 1 <;> exact Fin.ext (by dsimp only; omega)

theorem v14_at (b : Fin 8) (p : Fin 2) (hh : Fin 2) (R : Fin 8192) (d : Fin 64) :
    val_main_v14 (F := Ideal) x0 (ix4 b ⟨2 * p + hh, by omega⟩ R d) = PR x0 b ⟨8 + p, by omega⟩ R ⟨64 * hh + d, by omega⟩ := by
  unfold PR
  pointwise [val_main_v14, val_main_v13, val_main_v12, val_main_v11, val_main_v1]
  refine congrArg x0 ?_
  congr 1 <;> exact Fin.ext (by dsimp only; omega)

theorem v6_at (b : Fin 8) (p : Fin 2) (hh : Fin 2) (e : Fin 3) (n : Fin 64) (a : Fin 128) (d : Fin 64) :
    val_main_v6 (F := Ideal) x0 (ix6 b ⟨2 * p + hh, by omega⟩ e n a d)
      = PR x0 b ⟨3 * p + e, by omega⟩ ⟨128 * n + a, by omega⟩ ⟨64 * hh + d, by omega⟩ := by
  unfold PR
  pointwise [val_main_v6, val_main_v5, val_main_v4, val_main_v3, val_main_v1]
  refine congrArg x0 ?_
  congr 1 <;> exact Fin.ext (by dsimp only; omega)

/-- A key's place is in the sequence. -/
def inSeq (n : Fin 64) (k : Fin 384) : Prop := 128 ≤ 128 * n.val + k.val ∧ 128 * n.val + k.val - 128 < 8192

instance (n : Fin 64) (k : Fin 384) : Decidable (inSeq n k) := inferInstanceAs (Decidable (_ ∧ _))

theorem inSeq_of_ok {n : Fin 64} {a : Fin 128} {k : Fin 384} (h : Spec.ok n a k) : inSeq n k := by
  unfold Spec.ok at h
  unfold inSeq
  omega

theorem pick (n : Fin 64) (k : Fin 384) (f : Fin 8192 → EReal) (c : Prop) [Decidable c] (hc : c ↔ inSeq n k)
    (r : c → Fin 8192) (hr : ∀ h, (r h).val = 128 * n.val + k.val - 128) :
    (if h : c then f (r h) else 0) = if inSeq n k then f (Spec.key n k) else 0 := by
  by_cases h : c
  · rw [dif_pos h, if_pos (hc.1 h)]
    refine congrArg f (Fin.ext ?_)
    have h1 := hc.1 h
    unfold inSeq at h1
    rw [hr h]
    unfold Spec.key
    dsimp only
    omega
  · rw [dif_neg h, if_neg fun h1 => h (hc.2 h1)]

/-- The window's three blocks side by side are one run of rows. -/
theorem three (n : Fin 64) (k : Fin 384) (f : Fin 8192 → EReal) {j : ℕ} (hj : j < 4) :
    (if h : k.val < 128 then
      if h1 : j < 4 ∧ 128 ≤ n.val * 128 + k.val ∧ n.val * 128 + k.val - 128 < 8192 then f ⟨n.val * 128 + k.val - 128, h1.2.2⟩ else 0
    else if h : k.val - 128 < 128 then
      if h1 : j < 4 ∧ 128 ≤ (1 + n.val) * 128 + (k.val - 128) ∧ (1 + n.val) * 128 + (k.val - 128) - 128 < 8192 then
        f ⟨(1 + n.val) * 128 + (k.val - 128) - 128, h1.2.2⟩ else 0
    else
      if h1 : j < 4 ∧ 128 ≤ (2 + n.val) * 128 + (k.val - 128 - 128) ∧ (2 + n.val) * 128 + (k.val - 128 - 128) - 128 < 8192 then
        f ⟨(2 + n.val) * 128 + (k.val - 128 - 128) - 128, h1.2.2⟩ else 0)
      = if inSeq n k then f (Spec.key n k) else 0 := by
  by_cases h1 : k.val < 128
  · rw [dif_pos h1]
    exact pick n k f _ (by unfold inSeq; omega) (fun h => ⟨n.val * 128 + k.val - 128, h.2.2⟩) (fun h => by dsimp only; omega)
  rw [dif_neg h1]
  by_cases h2 : k.val - 128 < 128
  · rw [dif_pos h2]
    exact pick n k f _ (by unfold inSeq; omega) (fun h => ⟨(1 + n.val) * 128 + (k.val - 128) - 128, h.2.2⟩) (fun h => by dsimp only; omega)
  · rw [dif_neg h2]
    exact pick n k f _ (by unfold inSeq; omega) (fun h => ⟨(2 + n.val) * 128 + (k.val - 128 - 128) - 128, h.2.2⟩) (fun h => by dsimp only; omega)

/-- The keys' rows as the windows hold them: zero outside the sequence. -/
theorem v61_at (b : Fin 8) (p : Fin 2) (hh : Fin 2) (n : Fin 64) (k : Fin 384) (d : Fin 64) :
    val_main_v61 (F := Ideal) x0 (ix5 b ⟨2 * p + hh, by omega⟩ n k d)
      = if inSeq n k then PR x0 b ⟨6 + p, by omega⟩ (Spec.key n k) ⟨64 * hh + d, by omega⟩ else 0 := by
  rw [← v10_at]
  pointwise [val_main_v61, val_main_v60, val_main_v59, val_main_v58, val_main_v57, val_main_v56, val_main_cst_5]
  exact three n k (fun R => val_main_v10 (F := Ideal) x0 (ix4 b ⟨2 * p.val + hh.val, by omega⟩ R d)) (j := 2 * p.val + hh.val) (by omega)

theorem v94_at (b : Fin 8) (p : Fin 2) (hh : Fin 2) (n : Fin 64) (k : Fin 384) (d : Fin 64) :
    val_main_v94 (F := Ideal) x0 (ix5 b ⟨2 * p + hh, by omega⟩ n k d)
      = if inSeq n k then PR x0 b ⟨8 + p, by omega⟩ (Spec.key n k) ⟨64 * hh + d, by omega⟩ else 0 := by
  rw [← v14_at]
  pointwise [val_main_v94, val_main_v93, val_main_v92, val_main_v91, val_main_v90, val_main_v89, val_main_cst_10]
  exact three n k (fun R => val_main_v14 (F := Ideal) x0 (ix4 b ⟨2 * p.val + hh.val, by omega⟩ R d)) (j := 2 * p.val + hh.val) (by omega)

theorem v55_at (p : Fin 2) (hh : Fin 2) (e : Fin 3) (a : Fin 128) (k : Fin 384) :
    val_main_v55 (F := Ideal) x2 (ix4 ⟨2 * p + hh, by omega⟩ e a k)
      = TR x2 (Spec.var k) ⟨2 * p + hh, by omega⟩ ⟨128 * e + a, by omega⟩ ⟨k % 128, by omega⟩ := by
  unfold TR
  pointwise [val_main_v55, val_main_v54, val_main_v53, val_main_v52, val_main_v51, val_main_v50, val_main_v49, val_main_v48]
  by_cases h1 : k.val < 128
  · rw [dif_pos h1, show Spec.var k = 0 from if_pos h1]
    refine congrArg x2 ?_
    congr 1 <;> exact Fin.ext (by dsimp only; omega)
  rw [dif_neg h1]
  by_cases h2 : k.val < 256
  · rw [dif_pos (by omega), show Spec.var k = 2 from (if_neg h1).trans (if_pos h2)]
    refine congrArg x2 ?_
    congr 1 <;> exact Fin.ext (by dsimp only; omega)
  · rw [dif_neg (by omega), show Spec.var k = 3 from (if_neg h1).trans (if_neg h2)]
    refine congrArg x2 ?_
    congr 1 <;> exact Fin.ext (by dsimp only; omega)

theorem v47_at (n : Fin 64) (a : Fin 128) (k : Fin 384) [Decidable (Spec.ok n a k)] :
    val_main_v47 (F := Ideal) (ix3 n a k) = BitVec.ofBool (decide (Spec.ok n a k)) := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_c, val_main_c_0, val_main_c_1, val_main_c_2, val_main_c_3, val_main_c_4]
  rw [win, rng]
  have h : Spec.ok n a k ↔ (a.val ≤ k.val ∧ k.val ≤ a.val + 256) ∧ (128 ≤ 128 * n.val + k.val ∧ 128 * n.val + k.val - 128 < 8192) := by
    unfold Spec.ok
    omega
  simp only [h]
  by_cases h1 : a.val ≤ k.val ∧ k.val ≤ a.val + 256 <;>
    by_cases h2 : 128 ≤ 128 * n.val + k.val ∧ 128 * n.val + k.val - 128 < 8192 <;> simp [h1, h2, IntOp.andi]

theorem v62_at (b : Fin 8) (h : Fin 4) (n : Fin 64) (e : Fin 3) (a : Fin 128) (k : Fin 384) : val_main_v62 (F := Ideal) x0 (ix6 b h n e a k)
    = ∑ d : Fin 64, val_main_v6 x0 (ix6 b h e n a d) * val_main_v61 x0 (ix5 b h n k d) := by
  pointwise [val_main_v62]

theorem dot_at (b : Fin 8) (p : Fin 2) (hh : Fin 2) (n : Fin 64) (e : Fin 3) (a : Fin 128) (k : Fin 384) (hk : Spec.ok n a k) :
    val_main_v62 (F := Ideal) x0 (ix6 b ⟨2 * p + hh, by omega⟩ n e a k) = Spec.dot (PR x0) b p e hh n a k := by
  rw [v62_at]
  unfold Spec.dot
  refine Finset.sum_congr rfl fun d _ => ?_
  rw [v6_at, v61_at, if_pos (inSeq_of_ok hk)]

end Cert.ReferenceIdeal.Attn

end
-- ==== Proof.RefSoft.lean ====
/- The reference's intermediate arrays, up to the result: both softmaxes read as quotients. -/
module

public import proofs.«01_k».proof.Proof.Gen.ReferenceIdeal.Read
public import proofs.«01_k».proof.Proof.Spec
public import proofs.«01_k».proof.Proof.RefAt
public import Idealize.ShloMosaic.PureOps.Ideal
public import Idealize.ShloMosaic.Lib.Pointwise
import Idealize.ShloMosaic.Lib.Pipeline.ValueKit

@[expose] public section

set_option maxRecDepth 16384

noncomputable section

namespace Cert.ReferenceIdeal.Attn

open Idealize.ShloMosaic Cert.ReferenceIdeal Cert.ReferenceIdeal.Gen Cert.ReferenceIdeal.Read

variable (x0 : FVec Ideal S8x12x8192x128 .bf16) (x1 : FVec Ideal S8x4x256x128 .bf16) (x2 : FVec Ideal S5x4x384x128 .f32) (x3 : FVec Ideal S12 .f32)

theorem ln2_at (i : S_.Idx) : val_main_v0 (F := Ideal) i = ((Real.log 2 : ℝ) : EReal) := by
  rw [show i = ix0 from funext fun a => a.elim0]
  pointwise [val_main_v0, val_main_cst]
  rw [show Ideal.ofBits FTy.f32 1073741824#32 = ((2 : ℝ) : EReal) from by
    simp [Ideal.ofBits, Ideal.ieee]
    rw [← EReal.coe_mul]
    norm_num, Ideal.log_coe, if_neg (by norm_num)]

theorem neg_inf : Ideal.ofBits FTy.f32 4286578688#32 = (⊥ : EReal) := by
  simp [Ideal.ofBits, Ideal.ieee]

theorem v77_at (b : Fin 8) (h : Fin 4) (n : Fin 64) (e : Fin 3) (a : Fin 128) : val_main_v77 (F := Ideal) x0 x2 x3 (ix5 b h n e a)
    = Finset.univ.fold max ⊥ (fun k => val_main_v76 (F := Ideal) x0 x2 x3 (ix6 b h n e a k)) := by
  pointwise [val_main_v77, val_main_cst_7]
  generalize val_main_v76 (F := Ideal) x0 x2 x3 = v
  rw [Finset.fold_filter_eq_fold_of_fiber max _ (fun k : Fin 385 => ix6 b h n e a k) (fun _ _ e => congrFun e 5)]
  · rw [neg_inf]
  · intro i
    constructor
    · intro e
      refine ⟨i 5, ?_⟩
      funext c; apply Fin.ext
      match c with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => exact (congrArg Fin.val (congrFun e 3)).symm
      | ⟨4, _⟩ => exact (congrArg Fin.val (congrFun e 4)).symm
      | ⟨5, _⟩ => rfl
    · rintro ⟨k, rfl⟩
      funext c
      apply Fin.ext
      match c with
      | ⟨0, _⟩ => rfl
      | ⟨1, _⟩ => rfl
      | ⟨2, _⟩ => rfl
      | ⟨3, _⟩ => rfl
      | ⟨4, _⟩ => rfl

theorem v84_at (b : Fin 8) (h : Fin 4) (n : Fin 64) (e : Fin 3) (a : Fin 128) :
    val_main_v84 (F := Ideal) x0 x2 x3 (ix5 b h n e a)
      = ∑ k : Fin 385, val_main_v83 (F := Ideal) x0 x2 x3 (ix6 b h n e a k) := by
  rw [val_main_v84_apply, show val_main_cst_9 (F := Ideal) (Shape.Idx.first h_S_) = (0 : EReal) from by
    rw [val_main_cst_9_apply]; exact by simp [Ideal.ofBits, Ideal.ieee], zero_add]
  refine Finset.sum_congr rfl fun k _ => congrArg (val_main_v83 (F := Ideal) x0 x2 x3) ?_
  funext c
  match c with
  | ⟨0, _⟩ => rfl
  | ⟨1, _⟩ => rfl
  | ⟨2, _⟩ => rfl
  | ⟨3, _⟩ => rfl
  | ⟨4, _⟩ => rfl
  | ⟨5, _⟩ => rfl

theorem v71_at (b : Fin 8) (h : Fin 4) (n : Fin 64) (e : Fin 3) (a : Fin 128) (k : Fin 384) : val_main_v71 (F := Ideal) x0 x2 (ix6 b h n e a k)
    = Scalar.select (val_main_v47 (F := Ideal) (ix3 n a k))
      (val_main_v62 (F := Ideal) x0 (ix6 b h n e a k) * ((Real.log 2 : ℝ) : EReal) + val_main_v55 (F := Ideal) x2 (ix4 h e a k) * ((Real.log 2 : ℝ) : EReal)) ⊥ := by
  pointwise [val_main_v71, val_main_call0_v0, val_main_call0_v1, val_main_call0_v2, val_main_v70, val_main_v69, val_main_v68, val_main_v67, val_main_v66, val_main_v65, val_main_v64, val_main_v63, val_main_cst_6]
  rw [ln2_at]
  exact congrArg _ neg_inf

theorem v76_at (b : Fin 8) (h : Fin 4) (n : Fin 64) (e : Fin 3) (a : Fin 128) (k : Fin 385) : val_main_v76 (F := Ideal) x0 x2 x3 (ix6 b h n e a k)
    = if h1 : k.val < 384 then val_main_v71 (F := Ideal) x0 x2 (ix6 b h n e a ⟨k, h1⟩) else x3 (ix1 ⟨3 * h + e, by omega⟩) * ((Real.log 2 : ℝ) : EReal) := by
  pointwise [val_main_v76, val_main_v75, val_main_v74, val_main_v73, val_main_v72]
  rw [ln2_at, show (⟨h.val * 3 + e.val, by omega⟩ : Fin 12) = ⟨3 * h.val + e.val, by omega⟩ from Fin.ext (by dsimp only; omega)]

theorem v81_at (b : Fin 8) (h : Fin 4) (n : Fin 64) (e : Fin 3) (a : Fin 128) (k : Fin 385) : val_main_v81 (F := Ideal) x0 x2 x3 (ix6 b h n e a k)
    = val_main_v79 (F := Ideal) x0 x2 x3 (ix5 b h n e a) := by
  pointwise [val_main_v81, val_main_v80]

theorem v79_at (b : Fin 8) (h : Fin 4) (n : Fin 64) (e : Fin 3) (a : Fin 128) : val_main_v79 (F := Ideal) x0 x2 x3 (ix5 b h n e a)
    = max ⊥ (val_main_v77 (F := Ideal) x0 x2 x3 (ix5 b h n e a)) := by
  rw [val_main_v79_apply, val_main_v78_apply, val_main_cst_8_apply]
  generalize val_main_v77 (F := Ideal) x0 x2 x3 (ix5 b h n e a) = y
  change max (Ideal.ofBits FTy.f32 4286578688#32) y = max ⊥ y
  rw [neg_inf]

theorem v83_at (b : Fin 8) (h : Fin 4) (n : Fin 64) (e : Fin 3) (a : Fin 128) (k : Fin 385) : val_main_v83 (F := Ideal) x0 x2 x3 (ix6 b h n e a k)
    = Ideal.exp (val_main_v76 (F := Ideal) x0 x2 x3 (ix6 b h n e a k) - val_main_v79 (F := Ideal) x0 x2 x3 (ix5 b h n e a)) := by
  rw [← v81_at _ _ _ _ _ _ _ _ k]
  pointwise [val_main_v83, val_main_v82]

theorem scale_add {x y : EReal} (hx : x ≠ ⊤ ∧ x ≠ ⊥) (hy : y ≠ ⊤) {c : ℝ} (hc : 0 < c) : x * (c : EReal) + y * (c : EReal) = (x + y) * (c : EReal) := by
  lift x to ℝ using hx
  by_cases h : y = ⊥
  · rw [h, EReal.bot_mul_coe_of_pos hc, EReal.add_bot, EReal.add_bot, EReal.bot_mul_coe_of_pos hc]
  · lift y to ℝ using ⟨hy, h⟩
    rw [← EReal.coe_mul, ← EReal.coe_mul, ← EReal.coe_add, ← EReal.coe_add, ← EReal.coe_mul, add_mul]

theorem scale_lt {x : EReal} (hx : x ≠ ⊤) {c : ℝ} (hc : 0 < c) : x * (c : EReal) < ⊤ := by
  by_cases h : x = ⊥
  · rw [h, EReal.bot_mul_coe_of_pos hc]
    exact bot_lt_top
  · lift x to ℝ using ⟨hx, h⟩
    rw [← EReal.coe_mul]
    exact EReal.coe_lt_top _

section

variable {x0 x1 x2 x3} (H : Spec.Tame (PR x0) (MR x1) (TR x2) (SR x3))
  (b : Fin 8) (p : Fin 2) (hh : Fin 2) (n : Fin 64) (e : Fin 3) (a : Fin 128) (d : Fin 64)

include H

/-- The exponents, in units of the natural logarithm. -/
theorem exps (k : Fin 384) : val_main_v71 (F := Ideal) x0 x2 (ix6 b ⟨2 * p + hh, by omega⟩ n e a k)
    = Spec.score (PR x0) (TR x2) b p e hh n a k * ((Real.log 2 : ℝ) : EReal) := by
  classical
  rw [v71_at, v47_at]
  unfold Spec.score
  by_cases hk : Spec.ok n a k
  · rw [decide_eq_true hk, dot_at _ _ _ _ _ _ _ _ hk, v55_at, if_pos hk, scale_add (Spec.dot_real H _ _ _ _ _ _ _) (H.bias _ _ _ _) Soft.log2_pos]
    rfl
  · rw [decide_eq_false hk, if_neg hk, EReal.bot_mul_coe_of_pos Soft.log2_pos]
    rfl

theorem v76_sink : val_main_v76 (F := Ideal) x0 x2 x3 (ix6 b ⟨2 * p + hh, by omega⟩ n e a (Fin.last 384))
    = SR x3 ⟨3 * (2 * p + hh) + e, by omega⟩ * ((Real.log 2 : ℝ) : EReal) := by
  rw [v76_at, dif_neg (by simp)]
  rfl

theorem v76_key (k : Fin 384) : val_main_v76 (F := Ideal) x0 x2 x3 (ix6 b ⟨2 * p + hh, by omega⟩ n e a k.castSucc)
    = Spec.score (PR x0) (TR x2) b p e hh n a k * ((Real.log 2 : ℝ) : EReal) := by
  rw [← exps H, v76_at, dif_pos (show k.castSucc.val < 384 from k.isLt)]
  rfl

/-- The row's maximum is a number: the sink is below it. -/
theorem max_real : val_main_v79 (F := Ideal) x0 x2 x3 (ix5 b ⟨2 * p + hh, by omega⟩ n e a) ≠ ⊤
    ∧ val_main_v79 (F := Ideal) x0 x2 x3 (ix5 b ⟨2 * p + hh, by omega⟩ n e a) ≠ ⊥ := by
  rw [v79_at, max_eq_right bot_le, v77_at]
  constructor
  · refine ne_of_lt ((Finset.fold_max_lt _).2 ⟨bot_lt_top, fun k _ => ?_⟩)
    refine Fin.lastCases ?_ (fun k => ?_) k
    · rw [v76_sink H]
      exact scale_lt (H.sink _).1 Soft.log2_pos
    · rw [v76_key H]
      exact scale_lt (Spec.score_ne_top H _ _ _ _ _ _ _) Soft.log2_pos
  · refine ne_of_gt (lt_of_lt_of_le ?_ ((Finset.le_fold_max _).2 (Or.inr ⟨Fin.last 384, Finset.mem_univ _, le_refl _⟩)))
    rw [v76_sink H]
    exact bot_lt_iff_ne_bot.2 (Spec.mul_real (H.sink _) ⟨EReal.coe_ne_top _, EReal.coe_ne_bot _⟩).2

theorem loc_at : ∑ k : Fin 384, val_main_v94 (F := Ideal) x0 (ix5 b ⟨2 * p + hh, by omega⟩ n k d)
      * Ideal.div (val_main_v83 (F := Ideal) x0 x2 x3 (ix6 b ⟨2 * p + hh, by omega⟩ n e a k.castSucc))
        (val_main_v84 (F := Ideal) x0 x2 x3 (ix5 b ⟨2 * p + hh, by omega⟩ n e a))
    = Spec.loc (PR x0) (TR x2) (SR x3) b p e hh d n a := by
  have hr := max_real H b p hh n e a
  have hv : ∀ k : Fin 384, val_main_v94 (F := Ideal) x0 (ix5 b ⟨2 * p + hh, by omega⟩ n k d) ≠ ⊤ ∧ val_main_v94 (F := Ideal) x0 (ix5 b ⟨2 * p + hh, by omega⟩ n k d) ≠ ⊥ := by
    intro k
    rw [v94_at]
    split
    · exact H.proj _ _ _ _
    · exact ⟨EReal.zero_ne_top, EReal.zero_ne_bot⟩
  have hden : val_main_v84 (F := Ideal) x0 x2 x3 (ix5 b ⟨2 * p + hh, by omega⟩ n e a)
      = (∑ k : Fin 384, val_main_v83 (F := Ideal) x0 x2 x3 (ix6 b ⟨2 * p + hh, by omega⟩ n e a k.castSucc))
        + val_main_v83 (F := Ideal) x0 x2 x3 (ix6 b ⟨2 * p + hh, by omega⟩ n e a (Fin.last 384)) := by
    rw [v84_at, Fin.sum_univ_castSucc]
  rw [hden]
  simp only [v83_at, v76_key H, v76_sink H]
  rw [Soft.attn_softmax _ _ _ (fun k => Spec.score_ne_top H _ _ _ _ _ _ _) hv (H.sink _).1 (Or.inl (H.sink _).2) _ hr]
  refine Soft.attn_congr (fun _ => rfl) (fun k hk => ?_) rfl
  have ho : Spec.ok n a k := by
    by_contra h
    exact hk (if_neg h)
  rw [v94_at, if_pos (inSeq_of_ok ho)]
  rfl

end

end Cert.ReferenceIdeal.Attn

end
-- ==== Proof.RefMem.lean ====
/- The reference's intermediate arrays, of the memory heads. -/
module

public import proofs.«01_k».proof.Proof.Gen.ReferenceIdeal.Read
public import proofs.«01_k».proof.Proof.RefSoft
public import Idealize.ShloMosaic.PureOps.Ideal
public import Idealize.ShloMosaic.Lib.Pointwise
import Idealize.ShloMosaic.Lib.Pipeline.ValueKit

@[expose] public section

set_option maxRecDepth 16384

noncomputable section

namespace Cert.ReferenceIdeal.Attn

open Idealize.ShloMosaic Cert.ReferenceIdeal Cert.ReferenceIdeal.Gen Cert.ReferenceIdeal.Read

variable (x0 : FVec Ideal S8x12x8192x128 .bf16) (x1 : FVec Ideal S8x4x256x128 .bf16) (x2 : FVec Ideal S5x4x384x128 .f32) (x3 : FVec Ideal S12 .f32)

theorem qm_at (b : Fin 8) (u : Fin 2) (R : Fin 8192) (hh : Fin 2) (d : Fin 64) :
    val_main_v101 (F := Ideal) x0 (ix5 b u R hh d) = PR x0 b ⟨10 + u, by omega⟩ R ⟨64 * hh + d, by omega⟩ := by
  unfold PR
  pointwise [val_main_v101, val_main_v100, val_main_v1]
  refine congrArg x0 ?_
  congr 1; exact Fin.ext (by dsimp only; omega)

theorem mk_at (b : Fin 8) (u : Fin 2) (k : Fin 256) (hh : Fin 2) (d : Fin 64) :
    val_main_v103 (F := Ideal) x1 (ix5 b u k hh d) = MR x1 b ⟨u, by omega⟩ k ⟨64 * hh + d, by omega⟩ := by
  unfold MR
  pointwise [val_main_v103, val_main_v102, val_main_v2]
  refine congrArg x1 ?_
  congr 1; exact Fin.ext (by dsimp only; omega)

theorem mv_at (b : Fin 8) (u : Fin 2) (k : Fin 256) (hh : Fin 2) (d : Fin 64) :
    val_main_v105 (F := Ideal) x1 (ix5 b u k hh d) = MR x1 b ⟨2 + u, by omega⟩ k ⟨64 * hh + d, by omega⟩ := by
  unfold MR
  pointwise [val_main_v105, val_main_v104, val_main_v2]
  refine congrArg x1 ?_
  congr 1; exact Fin.ext (by dsimp only; omega)

theorem v108_at (b : Fin 8) (u : Fin 2) (hh : Fin 2) (R : Fin 8192) (k : Fin 256) :
    val_main_v108 (F := Ideal) x0 x1 (ix5 b u hh R k) = (∑ d : Fin 64, PR x0 b ⟨10 + u, by omega⟩ R ⟨64 * hh + d, by omega⟩ * MR x1 b ⟨u, by omega⟩ k ⟨64 * hh + d, by omega⟩) * ((Real.log 2 : ℝ) : EReal) := by
  pointwise [val_main_v108, val_main_v107, val_main_v106]
  rw [ln2_at]
  simp only [qm_at, mk_at]

theorem v109_at (b : Fin 8) (u : Fin 2) (hh : Fin 2) (R : Fin 8192) :
    val_main_v109 (F := Ideal) x0 x1 (ix4 b u hh R) = Finset.univ.fold max ⊥ (fun k => val_main_v108 (F := Ideal) x0 x1 (ix5 b u hh R k)) := by
  pointwise [val_main_v109, val_main_cst_11]
  rw [neg_inf]

theorem v113_at (b : Fin 8) (u : Fin 2) (hh : Fin 2) (R : Fin 8192) (k : Fin 256) :
    val_main_v113 (F := Ideal) x0 x1 (ix5 b u hh R k) = val_main_v111 (F := Ideal) x0 x1 (ix4 b u hh R) := by
  pointwise [val_main_v113, val_main_v112]

theorem v111_at (b : Fin 8) (u : Fin 2) (hh : Fin 2) (R : Fin 8192) : val_main_v111 (F := Ideal) x0 x1 (ix4 b u hh R)
    = max ⊥ (val_main_v109 (F := Ideal) x0 x1 (ix4 b u hh R)) := by
  rw [val_main_v111_apply, val_main_v110_apply, val_main_cst_12_apply]
  generalize val_main_v109 (F := Ideal) x0 x1 (ix4 b u hh R) = y
  change max (Ideal.ofBits FTy.f32 4286578688#32) y = max ⊥ y
  rw [neg_inf]

theorem v115_at (b : Fin 8) (u : Fin 2) (hh : Fin 2) (R : Fin 8192) (k : Fin 256) : val_main_v115 (F := Ideal) x0 x1 (ix5 b u hh R k)
    = Ideal.exp (val_main_v108 (F := Ideal) x0 x1 (ix5 b u hh R k) - val_main_v111 (F := Ideal) x0 x1 (ix4 b u hh R)) := by
  rw [← v113_at _ _ _ _ _ _ k]
  pointwise [val_main_v115, val_main_v114]

theorem v116_at (b : Fin 8) (u : Fin 2) (hh : Fin 2) (R : Fin 8192) : val_main_v116 (F := Ideal) x0 x1 (ix4 b u hh R)
    = ∑ k : Fin 256, val_main_v115 (F := Ideal) x0 x1 (ix5 b u hh R k) := by
  pointwise [val_main_v116, val_main_cst_13]

section

variable {x0 x1 x2 x3} (H : Spec.Tame (PR x0) (MR x1) (TR x2) (SR x3))

include H

theorem mem_at (b : Fin 8) (u : Fin 2) (hh : Fin 2) (R : Fin 8192) (d : Fin 64) :
    ∑ k : Fin 256, val_main_v105 (F := Ideal) x1 (ix5 b u k hh d) * Ideal.div (val_main_v115 (F := Ideal) x0 x1 (ix5 b u hh R k)) (val_main_v116 (F := Ideal) x0 x1 (ix4 b u hh R))
      = Spec.mem (PR x0) (MR x1) b u hh d R := by
  have hx : ∀ k : Fin 256, (∑ d : Fin 64, PR x0 b ⟨10 + u, by omega⟩ R ⟨64 * hh + d, by omega⟩ * MR x1 b ⟨u, by omega⟩ k ⟨64 * hh + d, by omega⟩) ≠ ⊤
      ∧ (∑ d : Fin 64, PR x0 b ⟨10 + u, by omega⟩ R ⟨64 * hh + d, by omega⟩ * MR x1 b ⟨u, by omega⟩ k ⟨64 * hh + d, by omega⟩) ≠ ⊥ :=
    fun k => Spec.sum_real _ fun _ => Spec.mul_real (H.proj _ _ _ _) (H.memkv _ _ _ _)
  have hr : val_main_v111 (F := Ideal) x0 x1 (ix4 b u hh R) ≠ ⊤ ∧ val_main_v111 (F := Ideal) x0 x1 (ix4 b u hh R) ≠ ⊥ := by
    rw [v111_at, max_eq_right bot_le, v109_at]
    constructor
    · refine ne_of_lt ((Finset.fold_max_lt _).2 ⟨bot_lt_top, fun k _ => ?_⟩)
      rw [v108_at]
      exact scale_lt (hx k).1 Soft.log2_pos
    · refine ne_of_gt (lt_of_lt_of_le ?_ ((Finset.le_fold_max _).2 (Or.inr ⟨0, Finset.mem_univ _, le_refl _⟩)))
      rw [v108_at]
      exact bot_lt_iff_ne_bot.2 (Spec.mul_real (hx 0) ⟨EReal.coe_ne_top _, EReal.coe_ne_bot _⟩).2
  have h := Soft.attn_softmax _ (fun k : Fin 256 => MR x1 b ⟨2 + u, by omega⟩ k ⟨64 * hh + d, by omega⟩) ⊥ (fun k => (hx k).1) (fun k => H.memkv _ _ _ _) bot_ne_top
    (Or.inr ⟨0, (hx 0).2⟩) _ hr
  rw [EReal.bot_mul_coe_of_pos Soft.log2_pos, EReal.bot_sub, show Ideal.exp ⊥ = 0 from rfl, add_zero] at h
  rw [v116_at]
  simp only [v115_at, v108_at, mv_at]
  rw [h]
  unfold Spec.mem
  rfl

end

end Cert.ReferenceIdeal.Attn

end
-- ==== Proof.RefMain.lean ====
/- The reference's intermediate arrays, : the result. -/
module

public import proofs.«01_k».proof.Proof.Gen.ReferenceIdeal.Read
public import proofs.«01_k».proof.Proof.RefMem
public import Idealize.ShloMosaic.PureOps.Ideal
public import Idealize.ShloMosaic.Lib.Pointwise
import Idealize.ShloMosaic.Lib.Pipeline.ValueKit

@[expose] public section

set_option maxRecDepth 16384

noncomputable section

namespace Cert.ReferenceIdeal.Attn

open Idealize.ShloMosaic Cert.ReferenceIdeal Cert.ReferenceIdeal.Gen Cert.ReferenceIdeal.Read

variable (x0 : FVec Ideal S8x12x8192x128 .bf16) (x1 : FVec Ideal S8x4x256x128 .bf16) (x2 : FVec Ideal S5x4x384x128 .f32) (x3 : FVec Ideal S12 .f32)

variable {x0 x1 x2 x3} (H : Spec.Tame (PR x0) (MR x1) (TR x2) (SR x3))

include H

/-- The reference's result is the attention's formula. -/
theorem result : val_main_v124 (F := Ideal) x0 x1 x2 x3
    = fun i => Spec.out (PR x0) (MR x1) (TR x2) (SR x3) (i 0) (i 1) (i 2) (i 3) := by
  funext i
  obtain ⟨b, g, R, l, rfl⟩ : ∃ b g R l, i = ix4 b g R l := ⟨i 0, i 1, i 2, i 3, by idx_vars i⟩
  show _ = Spec.out (PR x0) (MR x1) (TR x2) (SR x3) b g R l
  pointwise [val_main_v124, val_main_v123, val_main_v122, val_main_v121, val_main_v120, val_main_v119, val_main_v118, val_main_v117, val_main_v99, val_main_v98, val_main_v97, val_main_v96, val_main_v95, val_main_v88, val_main_v87, val_main_v86, val_main_v85]
  by_cases hg : g.val < 6
  · rw [dif_pos hg]
    have h1 : g.val / 3 < 2 := by omega
    have h2 : l.val / 64 < 2 := by omega
    have h3 : R.val / 128 < 64 := by omega
    have h4 : g.val % 3 < 3 := by omega
    have h5 : R.val % 128 < 128 := by omega
    have h6 : l.val % 64 < 64 := by omega
    have h7 : g.val = 3 * (g.val / 3) + g.val % 3 := by omega
    have h8 : R.val = 128 * (R.val / 128) + R.val % 128 := by omega
    have h9 : l.val = 64 * (l.val / 64) + l.val % 64 := by omega
    have e1 : Spec.out (PR x0) (MR x1) (TR x2) (SR x3) b g R l
        = Spec.loc (PR x0) (TR x2) (SR x3) b ⟨g.val / 3, h1⟩ ⟨g.val % 3, h4⟩ ⟨l.val / 64, h2⟩ ⟨l.val % 64, h6⟩ ⟨R.val / 128, h3⟩ ⟨R.val % 128, h5⟩ :=
      Spec.out_loc (PR x0) (MR x1) (TR x2) (SR x3) b ⟨g.val / 3, h1⟩ ⟨g.val % 3, h4⟩ ⟨l.val / 64, h2⟩ ⟨l.val % 64, h6⟩ ⟨R.val / 128, h3⟩ ⟨R.val % 128, h5⟩ g R l h7 h8 h9
    refine Eq.trans ?_ e1.symm
    refine Eq.trans ?_ (loc_at H b ⟨g.val / 3, h1⟩ ⟨l.val / 64, h2⟩ ⟨R.val / 128, h3⟩ ⟨g.val % 3, h4⟩ ⟨R.val % 128, h5⟩ ⟨l.val % 64, h6⟩)
    apply Finset.sum_congr rfl
    intro k _
    have hj : (⟨g.val / 3 * 2 + l.val / 64, by omega⟩ : Fin 4) = ⟨2 * (⟨g.val / 3, by omega⟩ : Fin 2).val + (⟨l.val / 64, by omega⟩ : Fin 2).val, by dsimp only; omega⟩ :=
      Fin.ext (by dsimp only; omega)
    have hk : (⟨k.val, by omega⟩ : Fin 385) = k.castSucc := rfl
    exact congrArg (fun j : Fin 4 => val_main_v94 (F := Ideal) x0 (ix5 b j ⟨R.val / 128, h3⟩ k ⟨l.val % 64, h6⟩) * Ideal.div (val_main_v83 (F := Ideal) x0 x2 x3 (ix6 b j ⟨R.val / 128, h3⟩ ⟨g.val % 3, h4⟩ ⟨R.val % 128, h5⟩ k.castSucc)) (val_main_v84 (F := Ideal) x0 x2 x3 (ix5 b j ⟨R.val / 128, h3⟩ ⟨g.val % 3, h4⟩ ⟨R.val % 128, h5⟩))) hj
  · rw [dif_neg hg]
    rw [Spec.out_mem _ _ _ _ b ⟨g - 6, by omega⟩ ⟨l / 64, by omega⟩ ⟨l % 64, by omega⟩ g R l
      (by dsimp only; omega) (by dsimp only; omega)]
    rw [← mem_at H b ⟨g - 6, by omega⟩ ⟨l / 64, by omega⟩ R ⟨l % 64, by omega⟩]

end Cert.ReferenceIdeal.Attn

end
-- ==== Proof.Pre.lean ====
/- What the precondition says of the arguments, entry by entry. -/
module

public import proofs.«01_k».proof.Proof.Gen.Pre_tame
public import proofs.«01_k».proof.Proof.Spec
public import Idealize.ShloMosaic.PureOps.Ideal
public import Idealize.ShloMosaic.Lib.Pointwise
import Idealize.ShloMosaic.Lib.Pipeline.ValueKit

@[expose] public section

set_option maxRecDepth 16384

noncomputable section

namespace Cert.Pre_tame.Attn

open Idealize.ShloMosaic Cert.Pre_tame

theorem bit_and {a b : BitVec 1} (h : IntOp.andi a b = 1#1) : a = 1#1 ∧ b = 1#1 := by
  revert a b
  decide

theorem bit_or {a b : BitVec 1} (h : IntOp.ori a b = 1#1) : a = 1#1 ∨ b = 1#1 := by
  revert a b
  decide

theorem of_bit {p : Prop} [Decidable p] (h : BitVec.ofBool (decide p) = 1#1) : p := by
  by_contra hp
  rw [decide_eq_false hp] at h
  exact absurd h (by decide)

theorem inf : Ideal.ofBits FTy.f32 2139095040#32 = (⊤ : EReal) := by
  simp [Ideal.ofBits, Ideal.ieee]

theorem lt_inf {x : EReal} (h : BitVec.ofBool (decide (x < Ideal.ofBits FTy.f32 2139095040#32)) = 1#1) : x ≠ ⊤ := by
  have h1 := of_bit h
  rw [inf] at h1
  exact h1.ne

theorem gt_inf {x : EReal} (h : BitVec.ofBool (decide (-Ideal.ofBits FTy.f32 2139095040#32 < x)) = 1#1) : x ≠ ⊥ := by
  have h1 := of_bit h
  rw [inf, EReal.neg_top] at h1
  exact h1.ne'

theorem eq_inf {x : EReal} (h : BitVec.ofBool (decide (x = -Ideal.ofBits FTy.f32 2139095040#32)) = 1#1) : x = ⊥ := by
  have h1 := of_bit h
  rwa [inf, EReal.neg_top] at h1

theorem rem_at (r : Fin 384) : IntOp.remsi ArithUnit.host (BitVec.ofNat 32 r.val) 128#32 = BitVec.ofNat 32 (r.val % 128) := by
  revert r
  decide +kernel

theorem rem_ge (r : Fin 384) (l : Fin 128) : IntOp.cmpi .sge (BitVec.ofNat 32 l.val) (IntOp.remsi ArithUnit.host (BitVec.ofNat 32 r.val) 128#32)
    = BitVec.ofBool (decide (r.val % 128 ≤ l.val)) := by
  rw [rem_at]
  revert r l
  decide +kernel

theorem rem_le (r : Fin 384) (l : Fin 128) : IntOp.cmpi .sle (BitVec.ofNat 32 l.val) (IntOp.remsi ArithUnit.host (BitVec.ofNat 32 r.val) 128#32)
    = BitVec.ofBool (decide (l.val ≤ r.val % 128)) := by
  rw [rem_at]
  revert r l
  decide +kernel

theorem fold_one {ι : Type} (f : ι → BitVec 1) (l : List ι) (r : BitVec 1) (h : l.foldl (fun r n => IntOp.andi r (f n)) r = 1#1) :
    r = 1#1 ∧ ∀ n ∈ l, f n = 1#1 := by
  induction l generalizing r with
  | nil => exact ⟨h, fun n hn => absurd hn (List.not_mem_nil)⟩
  | cons n l ih =>
    obtain ⟨h1, h2⟩ := ih _ h
    obtain ⟨h3, h4⟩ := bit_and h1
    refine ⟨h3, fun k hk => ?_⟩
    rcases List.mem_cons.1 hk with rfl | hk
    · exact h4
    · exact h2 k hk

/-- A conjunction over every entry holds at each. -/
theorem all_one {s : Shape} {axes : List (Fin s.rank)} {u : Shape} (x : s.Idx → BitVec 1) (init : u.Idx → BitVec 1)
    (h : s.ReducesTo axes S_) (hu : 0 < u.numel) (j : S_.Idx) (e : Host.reduce IntOp.andi x init h hu j = 1#1) (i : s.Idx) : x i = 1#1 := by
  have h1 := (fold_one (fun n => x (s.rowMajor.symm n)) _ _ e).2 (s.rowMajor i) (by
    rw [List.mem_filter]
    exact ⟨List.mem_finRange _, by
      rw [decide_eq_true_eq]
      exact funext fun a => a.elim0⟩)
  rwa [Equiv.symm_apply_apply] at h1

variable [Facts] (x0 : FVec Ideal S8x12x8192x128 .bf16) (x1 : FVec Ideal S8x4x256x128 .bf16) (x2 : FVec Ideal S5x4x384x128 .f32) (x3 : FVec Ideal S12 .f32)

theorem tame (h : fn (F := Ideal) x0 x1 x2 x3 = fun _ => 1#1) :
    Spec.Tame (fun b g R l => x0 (ix4 b g R l)) (fun b g R l => x1 (ix4 b g R l)) (fun v g r l => x2 (ix4 v g r l)) (fun j => x3 (ix1 j)) := by
  have h0 := congrFun h ix0
  unfold fn fn_part1 fn_part2 fn_part3 at h0
  obtain ⟨h0, a8⟩ := bit_and h0
  obtain ⟨h0, a7⟩ := bit_and h0
  obtain ⟨h0, a6⟩ := bit_and h0
  obtain ⟨h0, a5⟩ := bit_and h0
  obtain ⟨h0, a4⟩ := bit_and h0
  obtain ⟨h0, a3⟩ := bit_and h0
  obtain ⟨a1, a2⟩ := bit_and h0
  have b1 := all_one _ _ _ _ _ a1
  have b2 := all_one _ _ _ _ _ a2
  have b3 := all_one _ _ _ _ _ a3
  have b4 := all_one _ _ _ _ _ a4
  have b5 := all_one _ _ _ _ _ a5
  have b6 := all_one _ _ _ _ _ a6
  have b7 := all_one _ _ _ _ _ a7
  have b8 := all_one _ _ _ _ _ a8
  clear h h0 a1 a2 a3 a4 a5 a6 a7 a8
  refine ⟨?_, ?_, ?_, ?_, ?_, ?_, ?_, ?_⟩
  · intro b g R l
    obtain ⟨c1, c2⟩ := bit_and (b1 (ix4 b g R l))
    clear b1 b2 b3 b4 b5 b6 b7 b8
    pointwise at c1 c2
    exact ⟨lt_inf c1, gt_inf c2⟩
  · intro b g R l
    obtain ⟨c1, c2⟩ := bit_and (b2 (ix4 b g R l))
    clear b1 b2 b3 b4 b5 b6 b7 b8
    pointwise at c1 c2
    exact ⟨lt_inf c1, gt_inf c2⟩
  · intro j
    obtain ⟨c1, c2⟩ := bit_and (b3 (ix1 j))
    clear b1 b2 b3 b4 b5 b6 b7 b8
    pointwise at c1 c2
    exact ⟨lt_inf c1, gt_inf c2⟩
  · intro v g r l
    have c := b4 (ix4 v g r l)
    clear b1 b2 b3 b4 b5 b6 b7 b8
    pointwise at c
    exact lt_inf c
  · intro g r l
    have c := b5 (ix3 g r l)
    clear b1 b2 b3 b4 b5 b6 b7 b8
    pointwise at c
    exact eq_inf c
  · intro g r l
    have c := b6 (ix3 g r l)
    clear b1 b2 b3 b4 b5 b6 b7 b8
    pointwise at c
    exact eq_inf c
  · intro g r l hl
    have c := b7 (ix3 g r l)
    clear b1 b2 b3 b4 b5 b6 b7 b8
    pointwise at c
    rcases bit_or c with c | c
    · rw [rem_ge] at c
      have := of_bit c
      omega
    · exact eq_inf c
  · intro g r l hl
    have c := b8 (ix3 g r l)
    clear b1 b2 b3 b4 b5 b6 b7 b8
    pointwise at c
    rcases bit_or c with c | c
    · rw [rem_le] at c
      have := of_bit c
      omega
    · exact eq_inf c

end Cert.Pre_tame.Attn

end
-- ==== Proof.PostUnit.lean ====
/- What the output projection and feed-forward call leaves for 512 rows, as one function of the blocks a grid point reads:
   both halves of a block of 1024 rows are this function, with eleven equal steps over the hidden columns. -/
module

public import proofs.«01_k».proof.Proof.Gen.PostIdeal.Value
public import Idealize.ShloMosaic.PureOps.Ideal
import Idealize.ShloMosaic.Lib.Pipeline.ValueKit

@[expose] public section

noncomputable section

namespace Cert.PostIdeal.Ffn

open Idealize.ShloMosaic Cert.PostIdeal.Gen

variable {F : FTy → Type} [FloatOps F]

/-- 512 rows divided by their root mean square, times a gain. -/
def rms (x : FVec F S512x1024 .f32) (g : Vec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- A product with 256 of the hidden columns. -/
def hidden (h : FVec F S512x1024 .bf16) (w : Vec F S1x1024x256 .bf16) : FVec F S512x256 .f32 :=
  matmul dot_S512x1024_S1024x256_S512x256_1_0_0_1_n_n none h (shapeCast S1024x256 w shapeCasts_S1x1024x256_S1024x256) (constant S512x256 .f32 0x00000000#32)

/-- The contribution of 256 hidden columns. -/
def part (h : FVec F S512x1024 .bf16) (wg wu : Vec F S1x1024x256 .bf16) (wd : Vec F S256x1024 .bf16) : FVec F S512x1024 .f32 :=
  matmul dot_S512x256_S256x1024_S512x1024_1_0_0_1_n_n none
    (truncf .bf16 (mulf (mulf (hidden h wg) (logistic (hidden h wg))) (hidden h wu)) bitsLt_bf16_f32)
    (shapeCast S256x1024 wd shapeCasts_S256x1024_S256x1024) (constant S512x1024 .f32 0x00000000#32)

theorem inb_c (r : Fin 2) (g : Fin 8) : ∀ a, (![0, (g : ℕ), 512 * (r : ℕ), 0] : Fin 4 → ℕ) a + S1x1x512x128.size a ≤ S1x8x1024x128.size a := by
  intro a; fin_cases a <;> simp [S1x1x512x128, S1x8x1024x128] <;> omega

theorem inb_x (r : Fin 2) : ∀ a, (![0, 512 * (r : ℕ), 0] : Fin 3 → ℕ) a + S1x512x1024.size a ≤ S1x1024x1024.size a := by
  intro a; fin_cases a <;> simp [S1x512x1024, S1x1024x1024] <;> omega

theorem inb_g (k : Fin 2) (j : Fin 11) : ∀ a, (![(k : ℕ), 0, 256 * (j : ℕ)] : Fin 3 → ℕ) a + S1x1024x256.size a ≤ S2x1024x2816.size a := by
  intro a; fin_cases a <;> simp [S1x1024x256, S2x1024x2816] <;> omega

theorem inb_d (j : Fin 11) : ∀ a, (![256 * (j : ℕ), 0] : Fin 2 → ℕ) a + S256x1024.size a ≤ S2816x1024.size a := by
  intro a; fin_cases a <;> simp [S256x1024, S2816x1024] <;> omega

/-- The residual rows of half `r`. -/
def xTile (X0 : Vec F S1x1024x1024 .f32) (r : Fin 2) : Vec F S1x512x1024 .f32 :=
  View.ld X0 (Rect.unit (s := S1x1024x1024) ![0, 512 * (r : ℕ), 0] S1x512x1024.size (inb_x r))

/-- The rows of half `r` in group `g` of the heads. -/
def cTile (X1 : Vec F S1x8x1024x128 .bf16) (r : Fin 2) (g : Fin 8) : Vec F S1x1x512x128 .bf16 :=
  View.ld X1 (Rect.unit (s := S1x8x1024x128) ![0, (g : ℕ), 512 * (r : ℕ), 0] S1x1x512x128.size (inb_c r g))

/-- Hidden columns number `j` of the gates (`k = 0`) or of the other factors (`k = 1`). -/
def gTile (X3 : Vec F S2x1024x2816 .bf16) (k : Fin 2) (j : Fin 11) : Vec F S1x1024x256 .bf16 :=
  View.ld X3 (Rect.unit (s := S2x1024x2816) ![(k : ℕ), 0, 256 * (j : ℕ)] S1x1024x256.size (inb_g k j))

/-- Hidden rows number `j` of the last weights. -/
def dTile (X4 : Vec F S2816x1024 .bf16) (j : Fin 11) : Vec F S256x1024 .bf16 :=
  View.ld X4 (Rect.unit (s := S2816x1024) ![256 * (j : ℕ), 0] S256x1024.size (inb_d j))

/-- A gain, whole. -/
def gain (X : Vec F S1x1024 .f32) : Vec F S1x1024 .f32 := View.ld X (Rect.unit (s := S1x1024) ![0, 0] S1x1024.size inb_S1x1024_S1x1024_0_0)

/-- Eight groups of the heads, side by side, as 1024 columns. -/
def cat (c : Fin 8 → Vec F S1x1x512x128 .bf16) : FVec F S512x1024 .bf16 :=
  concatenate S512x1024 1 [⟨S512x128, shapeCast S512x128 (c 0) shapeCasts_S1x1x512x128_S512x128⟩, ⟨S512x128, shapeCast S512x128 (c 1) shapeCasts_S1x1x512x128_S512x128⟩, ⟨S512x128, shapeCast S512x128 (c 2) shapeCasts_S1x1x512x128_S512x128⟩, ⟨S512x128, shapeCast S512x128 (c 3) shapeCasts_S1x1x512x128_S512x128⟩, ⟨S512x128, shapeCast S512x128 (c 4) shapeCasts_S1x1x512x128_S512x128⟩, ⟨S512x128, shapeCast S512x128 (c 5) shapeCasts_S1x1x512x128_S512x128⟩, ⟨S512x128, shapeCast S512x128 (c 6) shapeCasts_S1x1x512x128_S512x128⟩, ⟨S512x128, shapeCast S512x128 (c 7) shapeCasts_S1x1x512x128_S512x128⟩]
    concatenates_S512x128_S512x128_S512x128_S512x128_S512x128_S512x128_S512x128_S512x128_S512x1024_d1

/-- The output projection of 512 rows. -/
def mixed (c : Fin 8 → Vec F S1x1x512x128 .bf16) (X2 : Vec F S1024x1024 .bf16) : FVec F S512x1024 .f32 :=
  matmul dot_S512x1024_S1024x1024_S512x1024_1_0_0_1_n_n none (cat c)
    (shapeCast S1024x1024 (View.ld X2 (Rect.unit (s := S1024x1024) ![0, 0] S1024x1024.size inb_S1024x1024_S1024x1024_0_0)) shapeCasts_S1024x1024_S1024x1024)
    (constant S512x1024 .f32 0x00000000#32)

/-- The rows after the first residual. -/
def first (x : Vec F S1x512x1024 .f32) (mx : FVec F S512x1024 .f32) (g : Vec F S1x1024 .f32) : FVec F S512x1024 .f32 :=
  addf (shapeCast S512x1024 x shapeCasts_S1x512x1024_S512x1024) (rms mx g)

/-- The feed-forward part over all eleven steps. -/
def ffn (h : FVec F S512x1024 .bf16) (X3 : Vec F S2x1024x2816 .bf16) (X4 : Vec F S2816x1024 .bf16) : FVec F S512x1024 .f32 :=
  have s (j : Fin 11) (acc : FVec F S512x1024 .f32) : FVec F S512x1024 .f32 := addf acc (part h (gTile X3 0 j) (gTile X3 1 j) (dTile X4 j))
  s 10 (s 9 (s 8 (s 7 (s 6 (s 5 (s 4 (s 3 (s 2 (s 1 (s 0 (broadcast S512x1024 (Scalar.ofBits .f32 0x00000000#32))))))))))))

/-- What the call stores for the rows `x1`, before the store's reshape. -/
def second (x1 : FVec F S512x1024 .f32) (X3 : Vec F S2x1024x2816 .bf16) (X4 : Vec F S2816x1024 .bf16) (g6 g7 : Vec F S1x1024 .f32) : FVec F S512x1024 .f32 :=
  addf x1 (rms (ffn (truncf .bf16 (rms x1 g6) bitsLt_bf16_f32) X3 X4) g7)

/-- What the call stores for half `r`. -/
def chain (X0 : Vec F S1x1024x1024 .f32) (X1 : Vec F S1x8x1024x128 .bf16) (X2 : Vec F S1024x1024 .bf16) (X3 : Vec F S2x1024x2816 .bf16)
    (X4 : Vec F S2816x1024 .bf16) (X5 X6 X7 : Vec F S1x1024 .f32) (r : Fin 2) : FVec F S1x512x1024 .f32 :=
  shapeCast S1x512x1024 (second (first (xTile X0 r) (mixed (cTile X1 r) X2) (gain X5)) X3 X4 (gain X6) (gain X7)) shapeCasts_S512x1024_S1x512x1024

set_option maxRecDepth 100000 in
set_option maxHeartbeats 0 in
theorem out_eq (X0 : Vec F S1x1024x1024 .f32) (X1 : Vec F S1x8x1024x128 .bf16) (X2 : Vec F S1024x1024 .bf16) (X3 : Vec F S2x1024x2816 .bf16)
    (X4 : Vec F S2816x1024 .bf16) (X5 X6 X7 : Vec F S1x1024 .f32) : out0_8 X0 X1 X2 X3 X4 X5 X6 X7 = View.canon
      [⟨Rect.unit (s := S1x1024x1024) ![0, 512 * ((1 : Fin 2) : ℕ), 0] S1x512x1024.size (inb_x 1), chain X0 X1 X2 X3 X4 X5 X6 X7 1⟩,
        ⟨Rect.unit (s := S1x1024x1024) ![0, 512 * ((0 : Fin 2) : ℕ), 0] S1x512x1024.size (inb_x 0), chain X0 X1 X2 X3 X4 X5 X6 X7 0⟩] := by
  rfl

end Cert.PostIdeal.Ffn

end
-- ==== Proof.PostSpec.lean ====
/- One token's row through the output projection, the residual and the gated feed-forward part, over the extended reals. -/
module

public import Idealize.ShloMosaic.PureOps.Ideal

@[expose] public section

noncomputable section

namespace Cert.PostSpec

open Idealize.ShloMosaic

/-- A row divided by its root mean square (of 1024 entries, with the constant under the root), times a gain. -/
def norm (v g : Fin 1024 → EReal) (n : Fin 1024) : EReal :=
  v n * Ideal.rsqrt (Ideal.div (∑ d, v d * v d) (Ideal.ofBits .f32 0x44800000#32) + Ideal.ofBits .f32 0x358637BD#32) * g n

/-- The output projection of a row of heads. -/
def mixed (c : Fin 1024 → EReal) (W : Fin 1024 → Fin 1024 → EReal) (n : Fin 1024) : EReal := ∑ e, c e * W e n

/-- A gated hidden entry: the gate times its logistic, times the other factor. -/
def act (h : Fin 1024 → EReal) (G U : Fin 1024 → Fin 2816 → EReal) (f : Fin 2816) : EReal :=
  (∑ d, h d * G d f) * Ideal.logistic (∑ d, h d * G d f) * ∑ d, h d * U d f

/-- The feed-forward part. -/
def ffn (h : Fin 1024 → EReal) (G U : Fin 1024 → Fin 2816 → EReal) (D : Fin 2816 → Fin 1024 → EReal) (n : Fin 1024) : EReal :=
  ∑ f, act h G U f * D f n

/-- The row after the first residual. -/
def first (x c : Fin 1024 → EReal) (W : Fin 1024 → Fin 1024 → EReal) (g : Fin 1024 → EReal) (n : Fin 1024) : EReal :=
  x n + norm (mixed c W) g n

/-- The row after the second residual. -/
def out (x c : Fin 1024 → EReal) (W : Fin 1024 → Fin 1024 → EReal) (G U : Fin 1024 → Fin 2816 → EReal) (D : Fin 2816 → Fin 1024 → EReal)
    (g g' g'' : Fin 1024 → EReal) (n : Fin 1024) : EReal :=
  first x c W g n + norm (ffn (norm (first x c W g) g') G U D) g'' n

/-- The call's result at batch `b`, position `R`, column `n`, from its arrays: the heads are eight groups of 128 columns, the
    first weights hold the gates' 2816 columns and then the other factors'. -/
def res (X : Fin 8 → Fin 8192 → Fin 1024 → EReal) (C : Fin 8 → Fin 8 → Fin 8192 → Fin 128 → EReal) (W : Fin 1024 → Fin 1024 → EReal)
    (GU : Fin 1024 → Fin 5632 → EReal) (D : Fin 2816 → Fin 1024 → EReal) (g g' g'' : Fin 1024 → EReal) (b : Fin 8) (R : Fin 8192) (n : Fin 1024) : EReal :=
  out (X b R) (fun e => C b ⟨e / 128, by omega⟩ R ⟨e % 128, by omega⟩) W (fun d f => GU d ⟨f, by omega⟩) (fun d f => GU d ⟨2816 + f, by omega⟩) D g g' g'' n

/-- A sum over 2816 hidden columns, 256 at a time, added up from the left. -/
theorem sum_blocks (f : Fin 2816 → EReal) : (∑ i, f i) = ∑ j : Fin 11, ∑ k : Fin 256, f ⟨256 * j + k, by omega⟩ := by
  rw [← Finset.sum_product', ← Equiv.sum_comp (finProdFinEquiv (m := 11) (n := 256)) f, Finset.univ_product_univ]
  refine Finset.sum_congr rfl fun x _ => congrArg f (Fin.ext ?_)
  simp only [finProdFinEquiv_apply_val]
  omega

end Cert.PostSpec

end
-- ==== Proof.PostAt.lean ====
/- The functions of `PostUnit.lean` read at an entry: those of `PostSpec.lean`, of a row. -/
module

public import proofs.«01_k».proof.Proof.PostUnit
public import proofs.«01_k».proof.Proof.PostSpec
public import Idealize.ShloMosaic.Lib.Pointwise
import Idealize.ShloMosaic.Lib.Pipeline.ValueKit

@[expose] public section

set_option maxRecDepth 16384

noncomputable section

namespace Cert.PostIdeal.Ffn

open Idealize.ShloMosaic Cert.PostIdeal.Gen Cert

theorem rms_at (x : FVec Ideal S512x1024 .f32) (g : FVec Ideal S1x1024 .f32) (r : Fin 512) (n : Fin 1024) :
    rms (F := Ideal) x g (ix2 r n) = PostSpec.norm (fun d => x (ix2 r d)) (fun d => g (ix2 0 d)) n := by
  pointwise [rms, PostSpec.norm]

theorem hidden_at (h : FVec Ideal S512x1024 .bf16) (w : FVec Ideal S1x1024x256 .bf16) (r : Fin 512) (f : Fin 256) :
    hidden (F := Ideal) h w (ix2 r f) = ∑ d : Fin 1024, h (ix2 r d) * w (ix3 0 d f) := by
  pointwise [hidden]

theorem part_at (h : FVec Ideal S512x1024 .bf16) (wg wu : FVec Ideal S1x1024x256 .bf16) (wd : FVec Ideal S256x1024 .bf16) (r : Fin 512) (n : Fin 1024) :
    part (F := Ideal) h wg wu wd (ix2 r n) = ∑ f : Fin 256, (∑ d : Fin 1024, h (ix2 r d) * wg (ix3 0 d f))
      * Ideal.logistic (∑ d : Fin 1024, h (ix2 r d) * wg (ix3 0 d f)) * (∑ d : Fin 1024, h (ix2 r d) * wu (ix3 0 d f)) * wd (ix2 f n) := by
  pointwise [part, hidden]

theorem cat_at (c : Fin 8 → FVec Ideal S1x1x512x128 .bf16) (r : Fin 512) (e : Fin 1024) :
    cat (F := Ideal) c (ix2 r e) = c ⟨e / 128, by omega⟩ (ix4 0 0 r ⟨e % 128, by omega⟩) := by
  pointwise [cat]
  have key : ∀ (u : Fin 8) (l : Fin 128) (u' : Fin 8) (l' : Fin 128), u = u' → l = l' → c u (ix4 0 0 r l) = c u' (ix4 0 0 r l') :=
    fun _ _ _ _ h h' => by rw [h, h']
  split_ifs <;> refine key _ _ _ _ (Fin.ext ?_) (Fin.ext ?_) <;> simp only [Fin.isValue, Fin.val_zero, Fin.val_one, Fin.reduceFinMk] <;> first | omega | (show (_ : ℕ) = e / 128; omega)

theorem mixed_at (c : Fin 8 → FVec Ideal S1x1x512x128 .bf16) (X2 : FVec Ideal S1024x1024 .bf16) (r : Fin 512) (n : Fin 1024) :
    mixed (F := Ideal) c X2 (ix2 r n) = PostSpec.mixed (fun e => c ⟨e / 128, by omega⟩ (ix4 0 0 r ⟨e % 128, by omega⟩)) (fun e n => X2 (ix2 e n)) n := by
  unfold PostSpec.mixed
  simp only [← cat_at]
  pointwise [mixed]

theorem first_at (x : FVec Ideal S1x512x1024 .f32) (mx : FVec Ideal S512x1024 .f32) (g : FVec Ideal S1x1024 .f32) (r : Fin 512) (n : Fin 1024) :
    first (F := Ideal) x mx g (ix2 r n) = x (ix3 0 r n) + PostSpec.norm (fun d => mx (ix2 r d)) (fun d => g (ix2 0 d)) n := by
  rw [← rms_at]
  pointwise [first]

theorem ffn_at (h : FVec Ideal S512x1024 .bf16) (X3 : FVec Ideal S2x1024x2816 .bf16) (X4 : FVec Ideal S2816x1024 .bf16) (r : Fin 512) (n : Fin 1024) :
    ffn (F := Ideal) h X3 X4 (ix2 r n) = PostSpec.ffn (fun d => h (ix2 r d)) (fun d f => X3 (ix3 0 d f)) (fun d f => X3 (ix3 1 d f)) (fun f n => X4 (ix2 f n)) n := by
  have hp : ∀ j : Fin 11, part (F := Ideal) h (gTile X3 0 j) (gTile X3 1 j) (dTile X4 j) (ix2 r n)
      = ∑ f : Fin 256, PostSpec.act (fun d => h (ix2 r d)) (fun d f => X3 (ix3 0 d f)) (fun d f => X3 (ix3 1 d f)) ⟨256 * j + f, by omega⟩ * X4 (ix2 ⟨256 * j + f, by omega⟩ n) := by
    intro j
    rw [part_at]
    unfold PostSpec.act
    have e0 : ∀ (d : Fin 1024) (f : Fin 256), gTile (F := Ideal) X3 0 j (ix3 0 d f) = X3 (ix3 0 d ⟨256 * j + f, by omega⟩) := fun d f => by pointwise [gTile]
    have e1 : ∀ (d : Fin 1024) (f : Fin 256), gTile (F := Ideal) X3 1 j (ix3 0 d f) = X3 (ix3 1 d ⟨256 * j + f, by omega⟩) := fun d f => by pointwise [gTile]
    have e2 : ∀ (f : Fin 256) (n : Fin 1024), dTile (F := Ideal) X4 j (ix2 f n) = X4 (ix2 ⟨256 * j + f, by omega⟩ n) := fun f n => by pointwise [dTile]
    simp only [e0, e1, e2]
  unfold PostSpec.ffn
  rw [PostSpec.sum_blocks]
  simp only [← hp, Fin.sum_univ_castSucc, Fin.sum_univ_zero]
  pointwise [ffn]
  rfl

theorem second_at (x1 : FVec Ideal S512x1024 .f32) (X3 : FVec Ideal S2x1024x2816 .bf16) (X4 : FVec Ideal S2816x1024 .bf16) (g6 g7 : FVec Ideal S1x1024 .f32)
    (r : Fin 512) (n : Fin 1024) : second (F := Ideal) x1 X3 X4 g6 g7 (ix2 r n) = x1 (ix2 r n) + PostSpec.norm
      (PostSpec.ffn (PostSpec.norm (fun d => x1 (ix2 r d)) (fun d => g6 (ix2 0 d))) (fun d f => X3 (ix3 0 d f)) (fun d f => X3 (ix3 1 d f)) (fun f n => X4 (ix2 f n)))
      (fun d => g7 (ix2 0 d)) n := by
  have e : (fun d => ffn (F := Ideal) (truncf .bf16 (rms x1 g6) bitsLt_bf16_f32) X3 X4 (ix2 r d))
      = PostSpec.ffn (PostSpec.norm (fun d => x1 (ix2 r d)) (fun d => g6 (ix2 0 d))) (fun d f => X3 (ix3 0 d f)) (fun d f => X3 (ix3 1 d f)) (fun f n => X4 (ix2 f n)) := by
    funext d
    rw [ffn_at]
    refine congrArg (fun h => PostSpec.ffn h _ _ _ d) (funext fun d => ?_)
    exact rms_at x1 g6 r d
  rw [← e, ← rms_at]
  rfl

/-- What a half stores, at a row and column, when its blocks hold the rows `x`, `c` and the weights. -/
theorem chain_at (X0 : FVec Ideal S1x1024x1024 .f32) (X1 : FVec Ideal S1x8x1024x128 .bf16) (X2 : FVec Ideal S1024x1024 .bf16) (X3 : FVec Ideal S2x1024x2816 .bf16)
    (X4 : FVec Ideal S2816x1024 .bf16) (X5 X6 X7 : FVec Ideal S1x1024 .f32) (s : Fin 2) (a : Fin 512) (n : Fin 1024) :
    chain (F := Ideal) X0 X1 X2 X3 X4 X5 X6 X7 s (ix3 0 a n) = PostSpec.out (fun d => X0 (ix3 0 ⟨512 * s + a, by omega⟩ d))
      (fun e => X1 (ix4 0 ⟨e / 128, by omega⟩ ⟨512 * s + a, by omega⟩ ⟨e % 128, by omega⟩)) (fun e n => X2 (ix2 e n)) (fun d f => X3 (ix3 0 d f))
      (fun d f => X3 (ix3 1 d f)) (fun f n => X4 (ix2 f n)) (fun d => X5 (ix2 0 d)) (fun d => X6 (ix2 0 d)) (fun d => X7 (ix2 0 d)) n := by
  have g : ∀ (X : FVec Ideal S1x1024 .f32), (fun d => gain (F := Ideal) X (ix2 0 d)) = fun d => X (ix2 0 d) := fun X => funext fun d => by pointwise [gain]
  have f1 : (fun d => first (F := Ideal) (xTile X0 s) (mixed (cTile X1 s) X2) (gain X5) (ix2 a d)) = PostSpec.first (fun d => X0 (ix3 0 ⟨512 * s + a, by omega⟩ d))
      (fun e => X1 (ix4 0 ⟨e / 128, by omega⟩ ⟨512 * s + a, by omega⟩ ⟨e % 128, by omega⟩)) (fun e n => X2 (ix2 e n)) (fun d => X5 (ix2 0 d)) := by
    funext d
    rw [first_at, g]
    unfold PostSpec.first
    refine congrArg₂ (· + ·) ?_ (congrArg (fun v => PostSpec.norm v _ d) (funext fun d => ?_))
    · pointwise [xTile]
    · rw [mixed_at]
      refine congrArg (fun v => PostSpec.mixed v _ d) (funext fun e => ?_)
      pointwise [cTile]
  have e : chain (F := Ideal) X0 X1 X2 X3 X4 X5 X6 X7 s (ix3 0 a n)
      = second (F := Ideal) (first (xTile X0 s) (mixed (cTile X1 s) X2) (gain X5)) X3 X4 (gain X6) (gain X7) (ix2 a n) := by
    unfold chain
    generalize second (F := Ideal) _ _ _ _ _ = y
    pointwise
  rw [e, second_at, f1, g, g]
  unfold PostSpec.out
  rw [← f1]

end Cert.PostIdeal.Ffn

end
-- ==== Proof.PostLoads.lean ====
/- The blocks a grid point reads, entry by entry: entries of the argument arrays, the weights as the host lays them out. -/
module

public import proofs.«01_k».proof.Proof.PostUnit
public import Idealize.ShloMosaic.PureOps.Ideal
public import Idealize.ShloMosaic.Lib.Pointwise
import Idealize.ShloMosaic.Lib.Pipeline.ValueKit

@[expose] public section

set_option maxRecDepth 16384

noncomputable section

namespace Cert.PostIdeal.Ffn

open Idealize.ShloMosaic Idealize.ShloMosaic.TcCoe Cert.PostIdeal.Gen

variable (m : (ℓ : Loc nD τ sig) → Buf (Elt Ideal) ℓ) (c : Dev nD)

/-- The residual stream. -/
abbrev AX : FVec Ideal S8x8192x1024 .f32 := m ((c : Thread nD τ).loc main_arg0)
/-- The heads. -/
abbrev AC : FVec Ideal S8x8x8192x128 .bf16 := m ((c : Thread nD τ).loc main_arg1)
/-- The output projection's weights. -/
abbrev AW : FVec Ideal S1024x1024 .f32 := m ((c : Thread nD τ).loc main_arg2)
/-- The weights of the gates and of the other factors. -/
abbrev AG : FVec Ideal S1024x5632 .f32 := m ((c : Thread nD τ).loc main_arg3)
/-- The last weights. -/
abbrev AD : FVec Ideal S2816x1024 .f32 := m ((c : Thread nD τ).loc main_arg4)
/-- The gain after the output projection. -/
abbrev A5 : FVec Ideal S1024 .f32 := m ((c : Thread nD τ).loc main_arg5)
/-- The gain before the feed-forward part. -/
abbrev A6 : FVec Ideal S1024 .f32 := m ((c : Thread nD τ).loc main_arg6)
/-- The gain after it. -/
abbrev A7 : FVec Ideal S1024 .f32 := m ((c : Thread nD τ).loc main_arg7)

theorem idx : ∀ t : Fin cfg0.N, win0_0.index t = ![t.val / 8, t.val % 8, 0] ∧ win0_1.index t = ![t.val / 8, 0, t.val % 8, 0]
    ∧ win0_2.index t = ![0, 0] ∧ win0_3.index t = ![0, 0, 0] ∧ win0_4.index t = ![0, 0] ∧ win0_5.index t = ![0, 0] ∧ win0_6.index t = ![0, 0]
    ∧ win0_7.index t = ![0, 0] ∧ win0_8.index t = ![t.val / 8, t.val % 8, 0] :=
  (by decide +kernel : ∀ t : Fin grid0.N, _)

theorem lt64 (t : Fin cfg0.N) : t.val < 64 := t.isLt

theorem V_w : V m c main_v0 = truncf .bf16 (AW m c) bitsLt_bf16_f32 := by
  unfold V hostOps0
  after_results
  try rfl

/-- The two halves of the columns, one above the other. -/
def halves (x : FVec Ideal S1024x5632 .f32) : FVec Ideal S2x1024x2816 .bf16 :=
  truncf .bf16 (concatenate S2x1024x2816 0
    [⟨S1x1024x2816, broadcastInDim S1x1024x2816 ![1, 2] bcast_S1024x2816_S1x1024x2816_1_2 (extractStridedSlice S1024x2816 ![0, 0] x slices_S1024x5632_S1024x2816_0_0)⟩,
     ⟨S1x1024x2816, broadcastInDim S1x1024x2816 ![1, 2] bcast_S1024x2816_S1x1024x2816_1_2 (extractStridedSlice S1024x2816 ![0, 2816] x slices_S1024x5632_S1024x2816_0_2816)⟩]
    concatenates_S1x1024x2816_S1x1024x2816_S2x1024x2816_d0) bitsLt_bf16_f32

theorem halves_at0 (x : FVec Ideal S1024x5632 .f32) (d : Fin 1024) (f : Fin 2816) : halves x (ix3 0 d f) = x (ix2 d ⟨f, by omega⟩) := by
  pointwise [halves]

theorem halves_at1 (x : FVec Ideal S1024x5632 .f32) (d : Fin 1024) (f : Fin 2816) : halves x (ix3 1 d f) = x (ix2 d ⟨2816 + f, by omega⟩) := by
  pointwise [halves]

theorem V_g : V m c main_v6 = halves (AG m c) := by
  unfold V hostOps0
  after_results
  try rfl

theorem V_d : V m c main_v7 = truncf .bf16 (AD m c) bitsLt_bf16_f32 := by
  unfold V hostOps0
  after_results
  try rfl

theorem V_5 : V m c main_v8 = shapeCast S1x1024 (A5 m c) shapeCasts_S1024_S1x1024 := by
  unfold V hostOps0
  after_results
  try rfl

theorem V_6 : V m c main_v9 = shapeCast S1x1024 (A6 m c) shapeCasts_S1024_S1x1024 := by
  unfold V hostOps0
  after_results
  try rfl

theorem V_7 : V m c main_v10 = shapeCast S1x1024 (A7 m c) shapeCasts_S1024_S1x1024 := by
  unfold V hostOps0
  after_results
  try rfl

variable (t : Fin cfg0.N) (b : Fin 8) (hb : (b : ℕ) = t.val / 8)

theorem x_at (hb : (b : ℕ) = t.val / 8) (R : Fin 1024) (d : Fin 1024) :
    iblk m c 0 t (ix3 0 R d) = AX m c (ix3 b ⟨1024 * (t.val % 8) + R, by omega⟩ d) := by
  blk_ext [iblk, V, idx t]

theorem c_at (hb : (b : ℕ) = t.val / 8) (g : Fin 8) (R : Fin 1024) (l : Fin 128) :
    iblk m c 1 t (ix4 0 g R l) = AC m c (ix4 b g ⟨1024 * (t.val % 8) + R, by omega⟩ l) := by
  blk_ext [iblk, V, idx t]

theorem w_at (e n : Fin 1024) : iblk m c 2 t (ix2 e n) = AW m c (ix2 e n) := by
  refine Eq.trans ?_ (congrFun (V_w m c) (ix2 e n))
  blk_ext [iblk, idx t]

theorem g_at (k : Fin 2) (d : Fin 1024) (f : Fin 2816) : iblk m c 3 t (ix3 k d f) = halves (AG m c) (ix3 k d f) := by
  refine Eq.trans ?_ (congrFun (V_g m c) (ix3 k d f))
  blk_ext [iblk, idx t]

theorem d_at (f : Fin 2816) (n : Fin 1024) : iblk m c 4 t (ix2 f n) = AD m c (ix2 f n) := by
  refine Eq.trans ?_ (congrFun (V_d m c) (ix2 f n))
  blk_ext [iblk, idx t]

theorem row_at (x : FVec Ideal S1024 .f32) (d : Fin 1024) : shapeCast S1x1024 x shapeCasts_S1024_S1x1024 (ix2 0 d) = x (ix1 d) := by
  pointwise

theorem a5_at (d : Fin 1024) : iblk m c 5 t (ix2 0 d) = A5 m c (ix1 d) := by
  rw [← row_at (A5 m c) d, ← V_5]
  blk_ext [iblk, idx t]

theorem a6_at (d : Fin 1024) : iblk m c 6 t (ix2 0 d) = A6 m c (ix1 d) := by
  rw [← row_at (A6 m c) d, ← V_6]
  blk_ext [iblk, idx t]

theorem a7_at (d : Fin 1024) : iblk m c 7 t (ix2 0 d) = A7 m c (ix1 d) := by
  rw [← row_at (A7 m c) d, ← V_7]
  blk_ext [iblk, idx t]

end Cert.PostIdeal.Ffn

end
-- ==== Proof.PostFinal.lean ====
/- The result array of the output projection and feed-forward call. -/
module

public import proofs.«01_k».proof.Proof.PostAt
public import proofs.«01_k».proof.Proof.PostLoads
import Idealize.ShloMosaic.Lib.Pipeline.ValueKit

@[expose] public section

set_option maxRecDepth 16384

noncomputable section

namespace Cert.PostIdeal.Ffn

open Idealize.ShloMosaic Idealize.ShloMosaic.TcCoe Cert.PostIdeal.Gen Cert

variable (m : (ℓ : Loc nD τ sig) → Buf (Elt Ideal) ℓ) (c : Dev nD)

/-- The result, entry by entry. -/
def resOf (b : Fin 8) (R : Fin 8192) (n : Fin 1024) : EReal :=
  PostSpec.res (fun b R d => AX m c (ix3 b R d)) (fun b g R l => AC m c (ix4 b g R l)) (fun e n => AW m c (ix2 e n)) (fun d f => AG m c (ix2 d f))
    (fun f n => AD m c (ix2 f n)) (fun d => A5 m c (ix1 d)) (fun d => A6 m c (ix1 d)) (fun d => A7 m c (ix1 d)) b R n

/-- The result array. -/
def OUT : FVec Ideal S8x8192x1024 .f32 := fun i => resOf m c (i 0) (i 1) (i 2)

variable (t : Fin cfg0.N) (b : Fin 8)

/-- What a half of a point's block is, entry by entry. -/
theorem half_at (hb : (b : ℕ) = t.val / 8) (s : Fin 2) (a : Fin 512) (n : Fin 1024) (R : Fin 8192) (hR : (R : ℕ) = 1024 * (t.val % 8) + (512 * s + a)) :
    chain (F := Ideal) (iblk m c 0 t) (iblk m c 1 t) (iblk m c 2 t) (iblk m c 3 t) (iblk m c 4 t) (iblk m c 5 t) (iblk m c 6 t) (iblk m c 7 t) s (ix3 0 a n)
      = resOf m c b R n := by
  refine (chain_at _ _ _ _ _ _ _ _ s a n).trans ?_
  have hR' : (⟨1024 * (t.val % 8) + (512 * s + a), by omega⟩ : Fin 8192) = R := Fin.ext hR.symm
  have e0 : (fun d => iblk m c 0 t (ix3 0 ⟨512 * s + a, by omega⟩ d)) = fun d => AX m c (ix3 b R d) :=
    funext fun d => (x_at m c t b hb _ d).trans (congrArg (fun r => AX m c (ix3 b r d)) hR')
  have e1 : (fun e : Fin 1024 => iblk m c 1 t (ix4 0 ⟨e / 128, by omega⟩ ⟨512 * s + a, by omega⟩ ⟨e % 128, by omega⟩))
      = fun e : Fin 1024 => AC m c (ix4 b ⟨e / 128, by omega⟩ R ⟨e % 128, by omega⟩) :=
    funext fun e => (c_at m c t b hb _ _ _).trans (congrArg (fun r => AC m c (ix4 b _ r _)) hR')
  have e2 : (fun e n => iblk m c 2 t (ix2 e n)) = fun e n => AW m c (ix2 e n) := funext fun e => funext fun n => w_at m c t e n
  have e3 : (fun d f => iblk m c 3 t (ix3 0 d f)) = fun d (f : Fin 2816) => AG m c (ix2 d ⟨f, by omega⟩) :=
    funext fun d => funext fun f => (g_at m c t 0 d f).trans (halves_at0 _ d f)
  have e4 : (fun d f => iblk m c 3 t (ix3 1 d f)) = fun d (f : Fin 2816) => AG m c (ix2 d ⟨2816 + f, by omega⟩) :=
    funext fun d => funext fun f => (g_at m c t 1 d f).trans (halves_at1 _ d f)
  have e5 : (fun f n => iblk m c 4 t (ix2 f n)) = fun f n => AD m c (ix2 f n) := funext fun f => funext fun n => d_at m c t f n
  have e6 : (fun d => iblk m c 5 t (ix2 0 d)) = fun d => A5 m c (ix1 d) := funext fun d => a5_at m c t d
  have e7 : (fun d => iblk m c 6 t (ix2 0 d)) = fun d => A6 m c (ix1 d) := funext fun d => a6_at m c t d
  have e8 : (fun d => iblk m c 7 t (ix2 0 d)) = fun d => A7 m c (ix1 d) := funext fun d => a7_at m c t d
  unfold resOf PostSpec.res
  rw [e0, e1, e2, e3, e4, e5, e6, e7, e8]

theorem piece_of (hb : (b : ℕ) = t.val / 8) (s : Fin 2) (x : S1x512x1024.Idx) (R : Fin 1024) (n : Fin 1024) (hR : (R : ℕ) = 512 * s + (x 1 : ℕ)) (hn : (n : ℕ) = (x 2 : ℕ)) :
    chain (F := Ideal) (iblk m c 0 t) (iblk m c 1 t) (iblk m c 2 t) (iblk m c 3 t) (iblk m c 4 t) (iblk m c 5 t) (iblk m c 6 t) (iblk m c 7 t) s x
      = resOf m c b ⟨1024 * (t.val % 8) + R, by omega⟩ n := by
  obtain ⟨x0, a, n', rfl⟩ : ∃ (x0 : Fin 1) (a : Fin 512) (n' : Fin 1024), x = ix3 x0 a n' := ⟨x 0, x 1, x 2, by idx_vars x⟩
  obtain rfl : x0 = 0 := by omega
  obtain rfl : n' = n := Fin.ext hn.symm
  exact half_at m c t b hb s a n' _ (by show 1024 * (t.val % 8) + (R : ℕ) = _; rw [hR]; rfl)

/-- What a point leaves at an entry of its block. -/
theorem out_at (hb : (b : ℕ) = t.val / 8) (R : Fin 1024) (n : Fin 1024) :
    out0_8 (F := Ideal) (iblk m c 0 t) (iblk m c 1 t) (iblk m c 2 t) (iblk m c 3 t) (iblk m c 4 t) (iblk m c 5 t) (iblk m c 6 t) (iblk m c 7 t) (ix3 0 R n)
      = resOf m c b ⟨1024 * (t.val % 8) + R, by omega⟩ n := by
  rw [out_eq]
  refine View.canon_eq_of_allAt _ _ _ ?_ ?_
  · by_cases h : (R : ℕ) < 512
    · refine ⟨_, List.mem_cons_of_mem _ List.mem_cons_self, ?_⟩
      apply Rect.mem_set_unit.mpr
      intro a
      fin_cases a
      · exact ⟨Nat.zero_le _, Nat.zero_lt_one⟩
      · show 0 ≤ (R : ℕ) ∧ (R : ℕ) < 512; omega
      · exact ⟨Nat.zero_le _, by show (n : ℕ) < 0 + 1024; omega⟩
      exact inb_x 0
    · refine ⟨_, List.mem_cons_self, ?_⟩
      apply Rect.mem_set_unit.mpr
      intro a
      fin_cases a
      · exact ⟨Nat.zero_le _, Nat.zero_lt_one⟩
      · show 512 ≤ (R : ℕ) ∧ (R : ℕ) < 1024; omega
      · exact ⟨Nat.zero_le _, by show (n : ℕ) < 0 + 1024; omega⟩
      exact inb_x 1
  · refine View.allAt_cons_unit _ _ _ _ _ (fun x hx => ?_) (View.allAt_cons_unit _ _ _ _ _ (fun x hx => ?_) fun q hq => absurd hq List.not_mem_nil)
    · have g1 : (R : ℕ) = 512 * 1 + (x 1 : ℕ) := hx 1
      have g2 : (n : ℕ) = 0 + (x 2 : ℕ) := hx 2
      exact piece_of m c t b hb 1 x R n g1 (by omega)
    · have g1 : (R : ℕ) = 512 * 0 + (x 1 : ℕ) := hx 1
      have g2 : (n : ℕ) = 0 + (x 2 : ℕ) := hx 2
      exact piece_of m c t b hb 0 x R n g1 (by omega)

/-- The result array after the run. -/
theorem final : (dats m 0 c).arrAt 8 (cfgs 0).N = OUT m c := by
  refine (dats m 0 c).arrAt_eq_of_covers 8 _ (by decide +kernel) fun t _ y => ?_
  blk_simp
  rw [after0_8]
  have ht := lt64 t
  obtain ⟨y0, R, n, rfl⟩ : ∃ (y0 : Fin 1) (R n : Fin 1024), y = ix3 y0 R n := ⟨y 0, y 1, y 2, by idx_vars y⟩
  obtain rfl : y0 = 0 := by omega
  refine (out_at m c t ⟨t.val / 8, by omega⟩ rfl R n).trans ?_
  unfold OUT
  congr 1 <;> (refine Fin.ext ?_; blk_simp [idx t]; try first | rfl | (dsimp only; omega))

end Cert.PostIdeal.Ffn

end
-- ==== Proof.PostRef.lean ====
/- What the reference of the output projection and feed-forward part computes, entry by entry. -/
module

public import proofs.«01_k».proof.Proof.Gen.PostReferenceIdeal.Read
public import proofs.«01_k».proof.Proof.PostSpec
public import Idealize.ShloMosaic.Lib.Pointwise

@[expose] public section

set_option maxRecDepth 16384

noncomputable section

namespace Cert.PostReferenceIdeal.Ffn

open Idealize.ShloMosaic Cert.PostReferenceIdeal Cert.PostReferenceIdeal.Read Cert

variable (x0 : FVec Ideal S8x8192x1024 .f32) (x1 : FVec Ideal S8x8x8192x128 .bf16) (x2 : FVec Ideal S1024x1024 .f32) (x3 : FVec Ideal S1024x5632 .f32)
  (x4 : FVec Ideal S2816x1024 .f32) (x5 x6 x7 : FVec Ideal S1024 .f32)

theorem mixed_at (b : Fin 8) (R : Fin 8192) (n : Fin 1024) : val_main_v3 (F := Ideal) x1 x2 (ix3 b R n)
    = PostSpec.mixed (fun e => x1 (ix4 b ⟨e / 128, by omega⟩ R ⟨e % 128, by omega⟩)) (fun e n => x2 (ix2 e n)) n := by
  pointwise [val_main_v3, val_main_v2, val_main_v1, val_main_v0, PostSpec.mixed]

theorem norm5_at (b : Fin 8) (R : Fin 8192) (n : Fin 1024) : val_main_v16 (F := Ideal) x1 x2 x5 (ix3 b R n)
    = PostSpec.norm (fun d => val_main_v3 (F := Ideal) x1 x2 (ix3 b R d)) (fun d => x5 (ix1 d)) n := by
  generalize hR : PostSpec.norm (_ : Fin 1024 → EReal) _ _ = r
  unfold val_main_v16 val_main_v13 val_main_v12 val_main_v11 val_main_v10 val_main_v8 val_main_v6 val_main_v5 val_main_v4
  generalize val_main_v3 (F := Ideal) x1 x2 = y at *
  subst hR
  pointwise [val_main_v15, val_main_v14, val_main_v9, val_main_cst_1, val_main_v7, val_main_cst_0, val_main_cst, PostSpec.norm]

theorem first_at (b : Fin 8) (R : Fin 8192) (n : Fin 1024) : val_main_v17 (F := Ideal) x0 x1 x2 x5 (ix3 b R n)
    = PostSpec.first (fun d => x0 (ix3 b R d)) (fun e => x1 (ix4 b ⟨e / 128, by omega⟩ R ⟨e % 128, by omega⟩)) (fun e n => x2 (ix2 e n)) (fun d => x5 (ix1 d)) n := by
  rw [val_main_v17_apply, norm5_at]
  simp only [mixed_at]
  rfl

theorem norm6_at (b : Fin 8) (R : Fin 8192) (n : Fin 1024) : val_main_v30 (F := Ideal) x0 x1 x2 x5 x6 (ix3 b R n)
    = PostSpec.norm (fun d => val_main_v17 (F := Ideal) x0 x1 x2 x5 (ix3 b R d)) (fun d => x6 (ix1 d)) n := by
  generalize hR : PostSpec.norm (_ : Fin 1024 → EReal) _ _ = r
  unfold val_main_v30 val_main_v27 val_main_v26 val_main_v25 val_main_v24 val_main_v22 val_main_v20 val_main_v19 val_main_v18
  generalize val_main_v17 (F := Ideal) x0 x1 x2 x5 = y at *
  subst hR
  pointwise [val_main_v29, val_main_v28, val_main_v23, val_main_cst_4, val_main_v21, val_main_cst_3, val_main_cst_2, PostSpec.norm]

/-- The gated hidden values. -/
theorem act_at (b : Fin 8) (R : Fin 8192) (f : Fin 2816) : val_main_v35 (F := Ideal) x0 x1 x2 x3 x5 x6 (ix3 b R f)
    = PostSpec.act (fun d => val_main_v30 (F := Ideal) x0 x1 x2 x5 x6 (ix3 b R d)) (fun d f => x3 (ix2 d ⟨f, by omega⟩))
        (fun d f => x3 (ix2 d ⟨2816 + f, by omega⟩)) f := by
  generalize hR : PostSpec.act _ _ _ _ = r
  unfold val_main_v35 val_main_v34 val_main_v33 val_main_call0_v5 val_main_call0_v3 val_main_call0_v1 val_main_call0_v0 val_main_v32 val_main_v31
  generalize val_main_v30 (F := Ideal) x0 x1 x2 x5 x6 = y at *
  subst hR
  pointwise [val_main_call0_v4, val_main_call0_cst_0, val_main_call0_v2, val_main_call0_cst, PostSpec.act]
  rfl

theorem down_at (b : Fin 8) (R : Fin 8192) (n : Fin 1024) : val_main_v36 (F := Ideal) x0 x1 x2 x3 x4 x5 x6 (ix3 b R n)
    = ∑ f : Fin 2816, val_main_v35 (F := Ideal) x0 x1 x2 x3 x5 x6 (ix3 b R f) * x4 (ix2 f n) := by
  unfold val_main_v36
  generalize val_main_v35 (F := Ideal) x0 x1 x2 x3 x5 x6 = y
  pointwise []

theorem norm7_at (b : Fin 8) (R : Fin 8192) (n : Fin 1024) : val_main_v49 (F := Ideal) x0 x1 x2 x3 x4 x5 x6 x7 (ix3 b R n)
    = PostSpec.norm (fun d => val_main_v36 (F := Ideal) x0 x1 x2 x3 x4 x5 x6 (ix3 b R d)) (fun d => x7 (ix1 d)) n := by
  generalize hR : PostSpec.norm (_ : Fin 1024 → EReal) _ _ = r
  unfold val_main_v49 val_main_v46 val_main_v45 val_main_v44 val_main_v43 val_main_v41 val_main_v39 val_main_v38 val_main_v37
  generalize val_main_v36 (F := Ideal) x0 x1 x2 x3 x4 x5 x6 = y at *
  subst hR
  pointwise [val_main_v48, val_main_v47, val_main_v42, val_main_cst_7, val_main_v40, val_main_cst_6, val_main_cst_5, PostSpec.norm]

/-- The reference's result, entry by entry. -/
theorem result_at (b : Fin 8) (R : Fin 8192) (n : Fin 1024) : val_main_v50 (F := Ideal) x0 x1 x2 x3 x4 x5 x6 x7 (ix3 b R n)
    = PostSpec.res (fun b R d => x0 (ix3 b R d)) (fun b g R l => x1 (ix4 b g R l)) (fun e n => x2 (ix2 e n)) (fun d f => x3 (ix2 d f))
        (fun f n => x4 (ix2 f n)) (fun d => x5 (ix1 d)) (fun d => x6 (ix1 d)) (fun d => x7 (ix1 d)) b R n := by
  rw [val_main_v50_apply, norm7_at]
  simp only [down_at, act_at, norm6_at, first_at]
  rfl

/-- The reference's result array. -/
theorem result : val_main_v50 (F := Ideal) x0 x1 x2 x3 x4 x5 x6 x7 = fun i =>
    PostSpec.res (fun b R d => x0 (ix3 b R d)) (fun b g R l => x1 (ix4 b g R l)) (fun e n => x2 (ix2 e n)) (fun d f => x3 (ix2 d f))
        (fun f n => x4 (ix2 f n)) (fun d => x5 (ix1 d)) (fun d => x6 (ix1 d)) (fun d => x7 (ix1 d)) (i 0) (i 1) (i 2) := by
  funext i
  obtain ⟨b, R, n, rfl⟩ : ∃ (b : Fin 8) (R : Fin 8192) (n : Fin 1024), i = ix3 b R n := ⟨i 0, i 1, i 2, by idx_vars i⟩
  exact result_at _ _ _ _ _ _ _ _ b R n

end Cert.PostReferenceIdeal.Ffn

end
-- ==== Proof.ProjSpec.lean ====
/- One token's row through a layer's in-projection, over the extended reals: the normalised row times the weights, the
   columns in groups of 128, and a factor on the groups that hold queries. -/
module

public import proofs.«01_k».proof.Proof.PostSpec
public import Idealize.ShloMosaic.Lib.Pointwise
import Idealize.ShloMosaic.Lib.Pipeline.ValueKit

@[expose] public section

noncomputable section

namespace Cert.ProjSpec

open Idealize.ShloMosaic

/-- The factor of the queries: one over eight times the logarithm of two. -/
def scale : EReal := (((8 * Real.log 2)⁻¹ : ℝ) : EReal)

/-- Layer A: which column of the weights column `n` of the result comes from. The queries are stored as twelve heads of 64, in two halves of
    two by three; the result pairs a head with the one three further on. -/
def colA (n : Fin 1536) : Fin 1536 :=
  if (n : ℕ) < 768 then ⟨64 * (3 * (2 * (n / 384) + n / 64 % 2) + n / 128 % 3) % 768 + n % 64, by omega⟩ else n

/-- Layer B: keys and values first, then the queries, then the memory queries. -/
def colB (n : Fin 2560) : Fin 2560 :=
  if (n : ℕ) < 1536 then ⟨(n + 768) % 2560, by omega⟩ else if (n : ℕ) < 2304 then ⟨n - 1536, by omega⟩ else n

/-- A column of the product of the normalised row with the weights. -/
def dot {N : ℕ} (v g : Fin 1024 → EReal) (W : Fin 1024 → Fin N → EReal) (n : Fin N) : EReal := ∑ d, PostSpec.norm v g d * W d n

/-- Layer A: entry `l` of group `G`. -/
def outA (v g : Fin 1024 → EReal) (W : Fin 1024 → Fin 1536 → EReal) (G : Fin 12) (l : Fin 128) : EReal :=
  if (G : ℕ) < 6 ∨ 10 ≤ (G : ℕ) then dot v g W (colA ⟨128 * G + l, by omega⟩) * scale else dot v g W (colA ⟨128 * G + l, by omega⟩)

/-- Layer B: entry `l` of group `G`. -/
def outB (v g : Fin 1024 → EReal) (W : Fin 1024 → Fin 2560 → EReal) (G : Fin 20) (l : Fin 128) : EReal :=
  if 12 ≤ (G : ℕ) then dot v g W (colB ⟨128 * G + l, by omega⟩) * scale else dot v g W (colB ⟨128 * G + l, by omega⟩)

/-- The memory's keys and values: entry `l` of group `G`. -/
def outM (v g : Fin 1024 → EReal) (W : Fin 1024 → Fin 512 → EReal) (G : Fin 4) (l : Fin 128) : EReal := dot v g W ⟨128 * G + l, by omega⟩

/-- An eighth over the logarithm of two is the factor of the queries. -/
theorem scale_eq : Ideal.div (Ideal.ofBits FTy.f32 0x3E000000#32) (Ideal.log (Ideal.ofBits FTy.f32 0x40000000#32)) = scale := by
  have hl : (0 : ℝ) < Real.log 2 := Real.log_pos (by norm_num)
  have h2 : Ideal.ofBits FTy.f32 0x40000000#32 = ((2 : ℝ) : EReal) := by
    simp [Ideal.ofBits, Ideal.ieee]; rw [← EReal.coe_mul]; norm_num
  have h8 : Ideal.ofBits FTy.f32 0x3E000000#32 = ((1 / 8 : ℝ) : EReal) := by
    simp [Ideal.ofBits, Ideal.ieee]; rw [← EReal.coe_mul]; norm_num
  rw [h2, h8, Ideal.log_coe, if_neg (by norm_num), Ideal.div_coe hl.ne', ← EReal.coe_mul]
  unfold scale
  congr 1
  field_simp

/-- Columns taken at a table of column numbers, read at an entry. -/
theorem gather_cols {N W : ℕ} (hW : W ≤ 4096)
    (wf : GatherDims.WF ⟨2, ![N, W]⟩ ⟨2, ![W, 1]⟩ ⟨2, ![N, W]⟩ [0] [1] [] [1] [] 1 ![N, 1])
    (x : (⟨2, ![N, W]⟩ : Shape).Idx → EReal) (idx : IVec ⟨2, ![W, 1]⟩ 32) (d : Fin N) (n k : Fin W)
    (h : idx (ix2 n 0) = BitVec.ofNat 32 k) :
    Host.gather (⟨[0], [1], [], [], [1], 1, ![N, 1], wf⟩ : GatherDims ⟨2, ![N, W]⟩ ⟨2, ![W, 1]⟩ ⟨2, ![N, W]⟩) x idx (ix2 d n) = x (ix2 d k) := by
  generalize hD : (⟨[0], [1], [], [], [1], 1, ![N, 1], wf⟩ : GatherDims ⟨2, ![N, W]⟩ ⟨2, ![W, 1]⟩ ⟨2, ![N, W]⟩) = D
  unfold Host.gather
  congr 1
  funext a
  refine Fin.ext ?_
  show D.start (ix2 d n) idx a + D.batchCoord (ix2 d n) a + D.offCoord (ix2 d n) a = _
  rw [GatherDims.batchCoord_eq_zero _ _ _ (fun h => by subst hD; simp at h), Nat.add_zero]
  match a with
  | ⟨0, _⟩ =>
    have e1 : D.start (ix2 d n) idx 0 = 0 := by
      subst hD; unfold GatherDims.start; exact dif_neg (by simp)
    have e2 : D.offCoord (ix2 d n) 0 = d := by
      subst hD; unfold GatherDims.offCoord; rw [dif_pos ((GatherDims.mem_sKept _ _).mpr ⟨by simp, by simp⟩)]; rfl
    exact (congrArg₂ (· + ·) e1 e2).trans (Nat.zero_add _)
  | ⟨1, _⟩ =>
    have e2 : D.offCoord (ix2 d n) 1 = 0 := by
      subst hD; exact GatherDims.offCoord_eq_zero _ _ _ (fun h => ((GatherDims.mem_sKept _ _).mp h).1 (List.mem_singleton.mpr rfl))
    have e1 : D.start (ix2 d n) idx 1 = k := by
      subst hD
      unfold GatherDims.start
      rw [dif_pos (List.mem_singleton.mpr rfl)]
      have hsi : ∀ q hq, (⟨[0], [1], [], [], [1], 1, ![N, 1], wf⟩ : GatherDims ⟨2, ![N, W]⟩ ⟨2, ![W, 1]⟩ ⟨2, ![N, W]⟩).siIdx (ix2 d n) ⟨q, hq⟩ = ix2 n 0 := by
        intro q hq
        obtain rfl : q = 0 := by simpa using hq
        funext b
        refine Fin.ext ?_
        match b with
        | ⟨0, _⟩ => rfl
        | ⟨1, _⟩ => rfl
      rw [hsi, h]
      have hk := k.isLt
      have : (BitVec.ofNat 32 (k : ℕ)).toInt = (k : ℕ) := by
        rw [BitVec.toInt_eq_toNat_of_lt] <;> rw [BitVec.toNat_ofNat, Nat.mod_eq_of_lt (by omega)]
        omega
      rw [this]
      show min (k : ℕ) (W - 1) = k
      omega
    exact congrArg₂ (· + ·) e1 e2

end Cert.ProjSpec

end
-- ==== Proof.ProjAUnit.lean ====
/- What layer A's in-projection leaves in a block of 1024 rows: two halves of 512 rows, each in twelve groups of 128 columns,
   every one of these a slice of the half's product, times the factor of the queries where the group holds queries. -/
module

public import proofs.«01_k».proof.Proof.Gen.ProjAIdeal.Value
public import proofs.«01_k».proof.Proof.ProjSpec
public import Idealize.ShloMosaic.Lib.Pointwise
import Idealize.ShloMosaic.Lib.Pipeline.ValueKit

@[expose] public section

set_option maxRecDepth 16384

noncomputable section

namespace Cert.ProjAIdeal.Proj

open Idealize.ShloMosaic Cert.ProjAIdeal.Gen Cert

section
variable {F : FTy → Type} [FloatOps F] [Named F]

/-- 512 rows divided by their root mean square, times a gain. -/
def rms (x : FVec F S512x1024 .f32) (g : FVec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- 512 normalised rows times the weights. -/
def prod (x : FVec F S512x1024 .f32) (g : FVec F S1x1024 .f32) (w : FVec F S1024x1536 .bf16) : FVec F S512x1536 .f32 :=
  matmul dot_S512x1024_S1024x1536_S512x1536_1_0_0_1_n_n none (truncf .bf16 (rms x g) bitsLt_bf16_f32)
    (shapeCast S1024x1536 w shapeCasts_S1024x1536_S1024x1536) (constant S512x1536 .f32 0x00000000#32)

theorem inb_x (r : Fin 2) : ∀ a, (![0, 512 * (r : ℕ), 0] : Fin 3 → ℕ) a + S1x512x1024.size a ≤ S1x1024x1024.size a := by
  intro a; fin_cases a <;> simp [S1x512x1024, S1x1024x1024] <;> omega

theorem inb_o (G : Fin 12) (r : Fin 2) : ∀ a, (![0, (G : ℕ), 512 * (r : ℕ), 0] : Fin 4 → ℕ) a + S1x1x512x128.size a ≤ S1x12x1024x128.size a := by
  intro a; fin_cases a <;> simp [S1x1x512x128, S1x12x1024x128] <;> omega

theorem slices (G : Fin 12) : S512x1536.Slices ![0, 128 * (G : ℕ)] S512x128 :=
  ⟨rfl, fun a => by fin_cases a <;> simp [S512x128, S512x1536] <;> omega⟩

/-- The rows of half `r`. -/
def xTile (X0 : Vec F S1x1024x1024 .f32) (r : Fin 2) : Vec F S1x512x1024 .f32 :=
  View.ld X0 (Rect.unit (s := S1x1024x1024) ![0, 512 * (r : ℕ), 0] S1x512x1024.size (inb_x r))

/-- The gain, whole. -/
def gain (X1 : Vec F S1x1024 .f32) : Vec F S1x1024 .f32 := View.ld X1 (Rect.unit (s := S1x1024) ![0, 0] S1x1024.size inb_S1x1024_S1x1024_0_0)

/-- The weights, whole. -/
def weights (X2 : Vec F S1024x1536 .bf16) : Vec F S1024x1536 .bf16 :=
  View.ld X2 (Rect.unit (s := S1024x1536) ![0, 0] S1024x1536.size inb_S1024x1536_S1024x1536_0_0)

/-- The product of half `r`. -/
def half (X0 : Vec F S1x1024x1024 .f32) (X1 : Vec F S1x1024 .f32) (X2 : Vec F S1024x1536 .bf16) (r : Fin 2) : FVec F S512x1536 .f32 :=
  prod (shapeCast S512x1024 (xTile X0 r) shapeCasts_S1x512x1024_S512x1024) (gain X1) (weights X2)

/-- A group as it is. -/
def plain (p : FVec F S512x1536 .f32) (G : Fin 12) : FVec F S1x1x512x128 .bf16 :=
  shapeCast S1x1x512x128 (truncf .bf16 (extractStridedSlice S512x128 ![0, 128 * (G : ℕ)] p (slices G)) bitsLt_bf16_f32) shapeCasts_S512x128_S1x1x512x128

/-- A group times the factor of the queries. -/
def scaled (p : FVec F S512x1536 .f32) (G : Fin 12) : FVec F S1x1x512x128 .bf16 :=
  shapeCast S1x1x512x128 (truncf .bf16 (mulf (extractStridedSlice S512x128 ![0, 128 * (G : ℕ)] p (slices G))
    (broadcast S512x128 (Named.named κ "q_scale" 0x3E38AA3B#32))) bitsLt_bf16_f32) shapeCasts_S512x128_S1x1x512x128

/-- What is stored for a group. -/
def tile (p : FVec F S512x1536 .f32) (G : Fin 12) : FVec F S1x1x512x128 .bf16 :=
  if (G : ℕ) < 6 ∨ 10 ≤ (G : ℕ) then scaled p G else plain p G

/-- One store. -/
def piece (X0 : Vec F S1x1024x1024 .f32) (X1 : Vec F S1x1024 .f32) (X2 : Vec F S1024x1536 .bf16) (r : Fin 2) (G : Fin 12) : View.Piece (Elt F) S1x12x1024x128 .bf16 :=
  ⟨Rect.unit (s := S1x12x1024x128) ![0, (G : ℕ), 512 * (r : ℕ), 0] S1x1x512x128.size (inb_o G r), tile (half X0 X1 X2 r) G⟩

/-- The stores of a point, the last first. -/
def pieces (X0 : Vec F S1x1024x1024 .f32) (X1 : Vec F S1x1024 .f32) (X2 : Vec F S1024x1536 .bf16) : ℕ → List (View.Piece (Elt F) S1x12x1024x128 .bf16)
  | 0 => []
  | n + 1 => piece X0 X1 X2 (Fin.ofNat 2 (n / 12)) (Fin.ofNat 12 n) :: pieces X0 X1 X2 n

theorem tail_eq {α : Type} {a b : α} {l l' : List α} (h : a = b) (h' : l = l') : a :: l = b :: l' := h ▸ h' ▸ rfl

set_option maxRecDepth 100000 in
set_option maxHeartbeats 0 in
theorem out_eq (X0 : Vec F S1x1024x1024 .f32) (X1 : Vec F S1x1024 .f32) (X2 : Vec F S1024x1536 .bf16) :
    out0_3 X0 X1 X2 = View.canon (pieces X0 X1 X2 24) := by
  unfold out0_3
  refine congrArg View.canon ?_
  iterate 24 (refine tail_eq ?_ ?_; · rfl)
  rfl

end

theorem rms_at (x : FVec Ideal S512x1024 .f32) (g : FVec Ideal S1x1024 .f32) (r : Fin 512) (n : Fin 1024) :
    rms (F := Ideal) x g (ix2 r n) = PostSpec.norm (fun d => x (ix2 r d)) (fun d => g (ix2 0 d)) n := by
  pointwise [rms, PostSpec.norm]

theorem prod_at (x : FVec Ideal S512x1024 .f32) (g : FVec Ideal S1x1024 .f32) (w : FVec Ideal S1024x1536 .bf16) (r : Fin 512) (n : Fin 1536) :
    prod (F := Ideal) x g w (ix2 r n) = ProjSpec.dot (fun d => x (ix2 r d)) (fun d => g (ix2 0 d)) (fun d n => w (ix2 d n)) n := by
  unfold ProjSpec.dot
  simp only [← rms_at]
  unfold prod
  generalize rms (F := Ideal) x g = y
  pointwise

theorem x_cast (y : FVec Ideal S1x512x1024 .f32) (a : Fin 512) (d : Fin 1024) :
    shapeCast S512x1024 y shapeCasts_S1x512x1024_S512x1024 (ix2 a d) = y (ix3 0 a d) := by
  pointwise

theorem x_tile (X0 : FVec Ideal S1x1024x1024 .f32) (r : Fin 2) (a : Fin 512) (d : Fin 1024) :
    xTile (F := Ideal) X0 r (ix3 0 a d) = X0 (ix3 0 ⟨512 * r + a, by omega⟩ d) := by
  pointwise [xTile]

theorem gain_at (X1 : FVec Ideal S1x1024 .f32) (d : Fin 1024) : gain (F := Ideal) X1 (ix2 0 d) = X1 (ix2 0 d) := by
  pointwise [gain]

theorem weights_at (X2 : FVec Ideal S1024x1536 .bf16) (d : Fin 1024) (n : Fin 1536) : weights (F := Ideal) X2 (ix2 d n) = X2 (ix2 d n) := by
  pointwise [weights]

theorem half_at (X0 : FVec Ideal S1x1024x1024 .f32) (X1 : FVec Ideal S1x1024 .f32) (X2 : FVec Ideal S1024x1536 .bf16) (r : Fin 2) (a : Fin 512) (n : Fin 1536) :
    half (F := Ideal) X0 X1 X2 r (ix2 a n)
      = ProjSpec.dot (fun d => X0 (ix3 0 ⟨512 * r + a, by omega⟩ d)) (fun d => X1 (ix2 0 d)) (fun d n => X2 (ix2 d n)) n := by
  unfold half
  rw [prod_at]
  simp only [x_cast, x_tile, gain_at, weights_at]

/-- The constant that is named in the program. -/
theorem named_eq : Named.named (F := Ideal) κ "q_scale" (φ := .f32) 0x3E38AA3B#32 = ProjSpec.scale :=
  IdealRules.named_const.ideal_named_scalar _ _ _ _ rfl

theorem tile_at (p : FVec Ideal S512x1536 .f32) (G : Fin 12) (a : Fin 512) (l : Fin 128) :
    tile (F := Ideal) p G (ix4 0 0 a l)
      = if (G : ℕ) < 6 ∨ 10 ≤ (G : ℕ) then p (ix2 a ⟨128 * G + l, by omega⟩) * ProjSpec.scale else p (ix2 a ⟨128 * G + l, by omega⟩) := by
  unfold tile
  split_ifs
  · rw [← named_eq]
    pointwise [scaled]
  · pointwise [plain]

end Cert.ProjAIdeal.Proj

end
-- ==== Proof.ProjALoads.lean ====
/- The blocks a grid point of layer A's in-projection reads, entry by entry: entries of the argument arrays, the columns of the weights
   in the order of the table the host takes them by. -/
module

public import proofs.«01_k».proof.Proof.ProjAUnit
import Idealize.ShloMosaic.Lib.Pipeline.ValueKit

@[expose] public section

set_option maxRecDepth 16384

noncomputable section

namespace Cert.ProjAIdeal.Proj

open Idealize.ShloMosaic Idealize.ShloMosaic.TcCoe Cert.ProjAIdeal.Gen Cert

set_option maxRecDepth 100000 in
/-- The table of column numbers. -/
theorem table : ∀ n : Fin 1536, lit0 n = BitVec.ofNat 32 (ProjSpec.colA n) := by decide +kernel

variable (m : (ℓ : Loc nD τ sig) → Buf (Elt Ideal) ℓ) (c : Dev nD)

/-- The residual stream. -/
abbrev AX : FVec Ideal S8x8192x1024 .f32 := m ((c : Thread nD τ).loc main_arg0)
/-- The gain. -/
abbrev AN : FVec Ideal S1024 .f32 := m ((c : Thread nD τ).loc main_arg1)
/-- The weights. -/
abbrev AW : FVec Ideal S1024x1536 .f32 := m ((c : Thread nD τ).loc main_arg2)

theorem idx : ∀ t : Fin cfg0.N, win0_0.index t = ![t.val / 8, t.val % 8, 0] ∧ win0_1.index t = ![0, 0]
    ∧ win0_2.index t = ![0, 0] ∧ win0_3.index t = ![t.val / 8, 0, t.val % 8, 0] :=
  (by decide +kernel : ∀ t : Fin grid0.N, _)

theorem lt64 (t : Fin cfg0.N) : t.val < 64 := t.isLt

/-- The table as the host passes it on. -/
def cols : IVec S1536x1 32 :=
  broadcastInDim S1536x1 ![0] bcast_S1536_S1536x1_0 (select (constantI S1536 1 0#1)
    (addi (fun i => lit0 (S1536.rowMajor i)) (broadcastInDim S1536 ![] bcast_S_S1536 (constantI S_ 32 1536#32))) (fun i => lit0 (S1536.rowMajor i)))

theorem cols_at (n : Fin 1536) : cols (ix2 n 0) = BitVec.ofNat 32 (ProjSpec.colA n) := by
  rw [← table]
  unfold cols
  generalize hq : (fun i : S1536.Idx => lit0 (S1536.rowMajor i)) = q
  have e : q (ix1 n) = lit0 n := by
    rw [← hq]
    show lit0 (S1536.rowMajor (ix1 n)) = lit0 n
    congr 1
    refine Fin.ext ?_
    rw [Shape.rowMajor_val_one]
    rfl
  rw [← e]
  clear e hq
  pointwise

theorem V_w : V m c main_v5 = truncf .bf16 (Host.gather gather_S1024x1536_S1536x1_S1024x1536_0_1_n_n_1_1_10241 (AW m c) cols) bitsLt_bf16_f32 := by
  unfold V hostOps0
  after_results
  try rfl

theorem V_g : V m c main_v6 = shapeCast S1x1024 (AN m c) shapeCasts_S1024_S1x1024 := by
  unfold V hostOps0
  after_results
  try rfl

variable (t : Fin cfg0.N) (b : Fin 8)

theorem x_at (hb : (b : ℕ) = t.val / 8) (R : Fin 1024) (d : Fin 1024) :
    iblk m c 0 t (ix3 0 R d) = AX m c (ix3 b ⟨1024 * (t.val % 8) + R, by omega⟩ d) := by
  blk_ext [iblk, V, idx t]

theorem row_at (x : FVec Ideal S1024 .f32) (d : Fin 1024) : shapeCast S1x1024 x shapeCasts_S1024_S1x1024 (ix2 0 d) = x (ix1 d) := by
  pointwise

theorem g_at (d : Fin 1024) : iblk m c 1 t (ix2 0 d) = AN m c (ix1 d) := by
  rw [← row_at (AN m c) d, ← V_g]
  blk_ext [iblk, idx t]

theorem w_at (d : Fin 1024) (n : Fin 1536) : iblk m c 2 t (ix2 d n) = AW m c (ix2 d (ProjSpec.colA n)) := by
  refine Eq.trans ?_ ((congrFun (V_w m c) (ix2 d n)).trans
    (ProjSpec.gather_cols (by norm_num) gather_S1024x1536_S1536x1_S1024x1536_0_1_n_n_1_1_10241_wf (AW m c) cols d n _ (cols_at n)))
  blk_ext [iblk, idx t]

end Cert.ProjAIdeal.Proj

end
-- ==== Proof.ProjAFinal.lean ====
/- The result array of layer A's in-projection. -/
module

public import proofs.«01_k».proof.Proof.ProjALoads
import Idealize.ShloMosaic.Lib.Pipeline.ValueKit

@[expose] public section

set_option maxRecDepth 16384

noncomputable section

namespace Cert.ProjAIdeal.Proj

open Idealize.ShloMosaic Idealize.ShloMosaic.TcCoe Cert.ProjAIdeal.Gen Cert

section
variable {F : FTy → Type} [FloatOps F] [Named F] (X0 : Vec F S1x1024x1024 .f32) (X1 : Vec F S1x1024 .f32) (X2 : Vec F S1024x1536 .bf16)

theorem mem_pieces (k : ℕ) : ∀ n, k < n → piece X0 X1 X2 (Fin.ofNat 2 (k / 12)) (Fin.ofNat 12 k) ∈ pieces X0 X1 X2 n
  | 0, h => absurd h (Nat.not_lt_zero _)
  | n + 1, h => by
    unfold pieces
    rcases Nat.lt_succ_iff_lt_or_eq.1 h with h | rfl
    · exact List.mem_cons_of_mem _ (mem_pieces k n h)
    · exact List.mem_cons_self

theorem of_mem_pieces (q : View.Piece (Elt F) S1x12x1024x128 .bf16) : ∀ n, q ∈ pieces X0 X1 X2 n → ∃ r G, q = piece X0 X1 X2 r G
  | 0, h => absurd h List.not_mem_nil
  | n + 1, h => by
    unfold pieces at h
    rcases List.mem_cons.1 h with h | h
    · exact ⟨_, _, h⟩
    · exact of_mem_pieces q n h

end

variable (m : (ℓ : Loc nD τ sig) → Buf (Elt Ideal) ℓ) (c : Dev nD)

/-- The result, entry by entry. -/
def resOf (b : Fin 8) (G : Fin 12) (R : Fin 8192) (l : Fin 128) : EReal :=
  ProjSpec.outA (fun d => AX m c (ix3 b R d)) (fun d => AN m c (ix1 d)) (fun d n => AW m c (ix2 d n)) G l

/-- The result array. -/
def OUT : FVec Ideal S8x12x8192x128 .bf16 := fun i => resOf m c (i 0) (i 1) (i 2) (i 3)

variable (t : Fin cfg0.N) (b : Fin 8)

theorem piece_at (hb : (b : ℕ) = t.val / 8) (r : Fin 2) (G : Fin 12) (a : Fin 512) (l : Fin 128) (R : Fin 8192) (hR : (R : ℕ) = 1024 * (t.val % 8) + (512 * r + a)) :
    tile (F := Ideal) (half (iblk m c 0 t) (iblk m c 1 t) (iblk m c 2 t) r) G (ix4 0 0 a l) = resOf m c b G R l := by
  rw [tile_at, half_at]
  have hR' : (⟨1024 * (t.val % 8) + (512 * r + a), by omega⟩ : Fin 8192) = R := Fin.ext hR.symm
  have e0 : (fun d => iblk m c 0 t (ix3 0 ⟨512 * r + a, by omega⟩ d)) = fun d => AX m c (ix3 b R d) :=
    funext fun d => (x_at m c t b hb _ d).trans (congrArg (fun r => AX m c (ix3 b r d)) hR')
  have e1 : (fun d => iblk m c 1 t (ix2 0 d)) = fun d => AN m c (ix1 d) := funext fun d => g_at m c t d
  have e2 : (fun d n => iblk m c 2 t (ix2 d n)) = fun d n => AW m c (ix2 d (ProjSpec.colA n)) := funext fun d => funext fun n => w_at m c t d n
  unfold resOf ProjSpec.outA
  rw [e0, e1, e2]
  rfl

theorem piece_of (hb : (b : ℕ) = t.val / 8) (r : Fin 2) (G : Fin 12) (x : S1x1x512x128.Idx) (g : Fin 12) (R : Fin 1024) (l : Fin 128)
    (hg : (g : ℕ) = G) (hR : (R : ℕ) = 512 * r + (x 2 : ℕ)) (hl : (l : ℕ) = (x 3 : ℕ)) :
    tile (F := Ideal) (half (iblk m c 0 t) (iblk m c 1 t) (iblk m c 2 t) r) G x = resOf m c b g ⟨1024 * (t.val % 8) + R, by omega⟩ l := by
  obtain ⟨x0, x1, a, l', rfl⟩ : ∃ (x0 x1 : Fin 1) (a : Fin 512) (l' : Fin 128), x = ix4 x0 x1 a l' := ⟨x 0, x 1, x 2, x 3, by idx_vars x⟩
  obtain rfl : x0 = 0 := by omega
  obtain rfl : x1 = 0 := by omega
  obtain rfl : g = G := Fin.ext hg
  obtain rfl : l' = l := Fin.ext hl.symm
  exact piece_at m c t b hb r g a l' _ (by show 1024 * (t.val % 8) + (R : ℕ) = _; rw [hR]; rfl)

/-- What a point leaves at an entry of its block. -/
theorem out_at (hb : (b : ℕ) = t.val / 8) (g : Fin 12) (R : Fin 1024) (l : Fin 128) :
    out0_3 (F := Ideal) (iblk m c 0 t) (iblk m c 1 t) (iblk m c 2 t) (ix4 0 g R l) = resOf m c b g ⟨1024 * (t.val % 8) + R, by omega⟩ l := by
  rw [out_eq]
  refine View.canon_eq_of_allAt _ _ _ ?_ ?_
  · refine ⟨_, mem_pieces _ _ _ (12 * (R / 512) + g) 24 (by omega), ?_⟩
    unfold piece
    apply Rect.mem_set_unit.mpr
    intro a
    fin_cases a
    · exact ⟨Nat.zero_le _, Nat.zero_lt_one⟩
    · show (12 * ((R : ℕ) / 512) + g) % 12 ≤ (g : ℕ) ∧ (g : ℕ) < (12 * ((R : ℕ) / 512) + g) % 12 + 1
      omega
    · show 512 * ((12 * ((R : ℕ) / 512) + g) / 12 % 2) ≤ (R : ℕ) ∧ (R : ℕ) < 512 * ((12 * ((R : ℕ) / 512) + g) / 12 % 2) + 512
      omega
    · exact ⟨Nat.zero_le _, by show (l : ℕ) < 0 + 128; omega⟩
    exact inb_o _ _
  · intro q hq x hx
    obtain ⟨r, G, rfl⟩ := of_mem_pieces _ _ _ q 24 hq
    have g0 : (x 1 : ℕ) < 1 := (x 1).isLt
    have g1 : (G : ℕ) + 1 * (x 1 : ℕ) = g := congrArg (fun y : S1x12x1024x128.Idx => (y 1 : ℕ)) hx
    have g2 : 512 * (r : ℕ) + 1 * (x 2 : ℕ) = R := congrArg (fun y : S1x12x1024x128.Idx => (y 2 : ℕ)) hx
    have g3 : 0 + 1 * (x 3 : ℕ) = l := congrArg (fun y : S1x12x1024x128.Idx => (y 3 : ℕ)) hx
    exact piece_of m c t b hb r G x g R l (by omega) (by omega) (by omega)

/-- The result array after the run. -/
theorem final : (dats m 0 c).arrAt 3 (cfgs 0).N = OUT m c := by
  refine (dats m 0 c).arrAt_eq_of_covers 3 _ (by decide +kernel) fun t _ y => ?_
  blk_simp
  rw [after0_3]
  have ht := lt64 t
  obtain ⟨y0, g, R, l, rfl⟩ : ∃ (y0 : Fin 1) (g : Fin 12) (R : Fin 1024) (l : Fin 128), y = ix4 y0 g R l := ⟨y 0, y 1, y 2, y 3, by idx_vars y⟩
  obtain rfl : y0 = 0 := by omega
  refine (out_at m c t ⟨t.val / 8, by omega⟩ rfl g R l).trans ?_
  unfold OUT
  congr 1 <;> (refine Fin.ext ?_; blk_simp [idx t]; try first | rfl | (dsimp only; omega))

end Cert.ProjAIdeal.Proj

end
-- ==== Proof.ProjARef.lean ====
/- What the reference of layer A's in-projection computes, entry by entry. -/
module

public import proofs.«01_k».proof.Proof.Gen.ProjAReferenceIdeal.Read
public import proofs.«01_k».proof.Proof.ProjSpec
public import Idealize.ShloMosaic.Lib.Pointwise

@[expose] public section

set_option maxRecDepth 16384

noncomputable section

namespace Cert.ProjAReferenceIdeal.Proj

open Idealize.ShloMosaic Cert.ProjAReferenceIdeal Cert.ProjAReferenceIdeal.Gen Cert.ProjAReferenceIdeal.Read Cert

variable (x0 : FVec Ideal S8x8192x1024 .f32) (x1 : FVec Ideal S1024 .f32) (x2 : FVec Ideal S1024x1536 .f32)

theorem norm_at (b : Fin 8) (R : Fin 8192) (n : Fin 1024) : val_main_v12 (F := Ideal) x0 x1 (ix3 b R n)
    = PostSpec.norm (fun d => x0 (ix3 b R d)) (fun d => x1 (ix1 d)) n := by
  generalize hR : PostSpec.norm (_ : Fin 1024 → EReal) _ _ = r
  unfold val_main_v12 val_main_v9 val_main_v8 val_main_v7 val_main_v6 val_main_v4 val_main_v2 val_main_v1 val_main_v0
  subst hR
  pointwise [val_main_v11, val_main_v10, val_main_v5, val_main_cst_1, val_main_v3, val_main_cst_0, val_main_cst, PostSpec.norm]

theorem dot_at (b : Fin 8) (R : Fin 8192) (n : Fin 1536) : val_main_v13 (F := Ideal) x0 x1 x2 (ix3 b R n)
    = ProjSpec.dot (fun d => x0 (ix3 b R d)) (fun d => x1 (ix1 d)) (fun d n => x2 (ix2 d n)) n := by
  unfold ProjSpec.dot
  simp only [← norm_at]
  unfold val_main_v13
  generalize val_main_v12 (F := Ideal) x0 x1 = y
  pointwise

theorem factor_at (i : S_.Idx) : val_main_v15 (F := Ideal) i = ProjSpec.scale := ProjSpec.scale_eq

theorem q_at (b : Fin 8) (R : Fin 8192) (n : Fin 768) : val_main_v18 (F := Ideal) x0 x1 x2 (ix3 b R n)
    = val_main_v13 (F := Ideal) x0 x1 x2 (ix3 b R ⟨n, by omega⟩) * ProjSpec.scale := by
  unfold val_main_v18 val_main_v17 val_main_v16
  rw [← factor_at ix0]
  generalize val_main_v13 (F := Ideal) x0 x1 x2 = y
  generalize val_main_v15 (F := Ideal) = z
  pointwise

/-- A position of a rank-6 array, as one sum of products. -/
theorem rowMajor_six {d : Fin 6 → ℕ} (i : (⟨6, d⟩ : Shape).Idx) :
    ((⟨6, d⟩ : Shape).rowMajor i).val
      = (((((i 0).val * d 1 + (i 1).val) * d 2 + (i 2).val) * d 3 + (i 3).val) * d 4 + (i 4).val) * d 5 + (i 5).val := by
  rw [Shape.rowMajor_val_succ, Shape.rowMajor_val_five]
  have e : (⟨5, fun a => d a.succ⟩ : Shape).numel = d 1 * d 2 * d 3 * d 4 * d 5 := by
    simp [Shape.numel, Fin.prod_univ_succ]; ring_nf
  rw [e]
  show (i 0).val * (d 1 * d 2 * d 3 * d 4 * d 5)
    + (((((i 1).val * d 2 + (i 2).val) * d 3 + (i 3).val) * d 4 + (i 4).val) * d 5 + (i 5).val) = _
  ring

/-- The twelve query heads, paired with the one three further on. -/
theorem heads_at (y : FVec Ideal S8x8192x768 .f32) (b : Fin 8) (p : Fin 2) (e : Fin 3) (R : Fin 8192) (h : Fin 2) (d : Fin 64) :
    shapeCast S8x6x8192x128 (transpose S8x2x3x8192x2x64 [0, 2, 4, 1, 3, 5] (shapeCast S8x8192x2x2x3x64 y shapeCasts_S8x8192x768_S8x8192x2x2x3x64)
        transposes_S8x8192x2x2x3x64_S8x2x3x8192x2x64_0_2_4_1_3_5) shapeCasts_S8x2x3x8192x2x64_S8x6x8192x128
        (ix4 b ⟨3 * p + e, by omega⟩ R ⟨64 * h + d, by omega⟩)
      = y (ix3 b R ⟨64 * (3 * (2 * p + h) + e) + d, by omega⟩) := by
  refine (shapeCast_apply _ _ _ (ix6 b p e R h d) ?_).trans ((transpose_apply _ _ _ _ (ix6 b R p h e d) ?_).trans (shapeCast_apply _ _ _ _ ?_))
  · rw [rowMajor_six, Shape.rowMajor_val_four]
    show ((((((b : ℕ) * 2 + p) * 3 + e) * 8192 + R) * 2 + h) * 64 + d) = (((b : ℕ) * 6 + (3 * p + e)) * 8192 + R) * 128 + (64 * h + d)
    omega
  · intro k
    match k with
    | ⟨0, _⟩ => rfl
    | ⟨1, _⟩ => rfl
    | ⟨2, _⟩ => rfl
    | ⟨3, _⟩ => rfl
    | ⟨4, _⟩ => rfl
    | ⟨5, _⟩ => rfl
  · rw [rowMajor_six, Shape.rowMajor_val_three]
    show ((b : ℕ) * 8192 + R) * 768 + (64 * (3 * (2 * p + h) + e) + d) = (((((b : ℕ) * 8192 + R) * 2 + p) * 2 + h) * 3 + e) * 64 + d
    omega

theorem queries_at (b : Fin 8) (G : Fin 6) (R : Fin 8192) (l : Fin 128) : val_main_v21 (F := Ideal) x0 x1 x2 (ix4 b G R l)
    = val_main_v13 (F := Ideal) x0 x1 x2 (ix3 b R (ProjSpec.colA ⟨128 * G + l, by omega⟩)) * ProjSpec.scale := by
  obtain ⟨p, e, rfl⟩ : ∃ (p : Fin 2) (e : Fin 3), G = ⟨3 * p + e, by omega⟩ := ⟨⟨G / 3, by omega⟩, ⟨G % 3, by omega⟩, Fin.ext (by simp only []; omega)⟩
  obtain ⟨h, d, rfl⟩ : ∃ (h : Fin 2) (d : Fin 64), l = ⟨64 * h + d, by omega⟩ := ⟨⟨l / 64, by omega⟩, ⟨l % 64, by omega⟩, Fin.ext (by simp only []; omega)⟩
  unfold val_main_v21 val_main_v20 val_main_v19
  rw [heads_at, q_at]
  congr 3
  refine Fin.ext ?_
  unfold ProjSpec.colA
  simp only []
  have q1 : (128 * (3 * (p : ℕ) + e) + (64 * h + d)) / 384 = p := by omega
  have q2 : (128 * (3 * (p : ℕ) + e) + (64 * h + d)) / 64 = 6 * p + 2 * e + h := by omega
  have q3 : (128 * (3 * (p : ℕ) + e) + (64 * h + d)) / 128 = 3 * p + e := by omega
  have q4 : (128 * (3 * (p : ℕ) + e) + (64 * h + d)) % 64 = d := by omega
  have q5 : (6 * (p : ℕ) + 2 * e + h) % 2 = h := by omega
  have q6 : (3 * (p : ℕ) + e) % 3 = e := by omega
  rw [if_pos (by omega)]
  simp only [q1, q2, q3, q4, q5, q6]
  omega

theorem kv_at (b : Fin 8) (G : Fin 4) (R : Fin 8192) (l : Fin 128) : val_main_v24 (F := Ideal) x0 x1 x2 (ix4 b G R l)
    = val_main_v13 (F := Ideal) x0 x1 x2 (ix3 b R (ProjSpec.colA ⟨128 * (6 + G) + l, by omega⟩)) := by
  rw [val_main_v24_apply, val_main_v23_apply, val_main_v22_apply]
  refine congrArg _ (funext fun a => Fin.ext ?_)
  unfold ProjSpec.colA
  rw [if_neg (by simp only []; omega)]
  match a with
  | ⟨0, _⟩ => show ((((b : ℕ) * 8192 + R) * 4 + G) * 128 + l) / 4194304 = b; omega
  | ⟨1, _⟩ => show ((((b : ℕ) * 8192 + R) * 4 + G) * 128 + l) / 512 % 8192 = R; omega
  | ⟨2, _⟩ => show 768 + ((((b : ℕ) * 8192 + R) * 4 + G) * 128 + l) % 512 = 128 * (6 + G) + l; omega

theorem qm_at (b : Fin 8) (G : Fin 2) (R : Fin 8192) (l : Fin 128) : val_main_v29 (F := Ideal) x0 x1 x2 (ix4 b G R l)
    = val_main_v13 (F := Ideal) x0 x1 x2 (ix3 b R (ProjSpec.colA ⟨128 * (10 + G) + l, by omega⟩)) * ProjSpec.scale := by
  rw [val_main_v29_apply, val_main_v28_apply, val_main_v27_apply, val_main_v26_apply, val_main_v25_apply, factor_at]
  refine congrArg (· * ProjSpec.scale) (congrArg (val_main_v13 (F := Ideal) x0 x1 x2) (funext fun a => Fin.ext ?_))
  unfold ProjSpec.colA
  rw [if_neg (by simp only []; omega)]
  match a with
  | ⟨0, _⟩ => show ((((b : ℕ) * 8192 + R) * 2 + G) * 128 + l) / 2097152 = b; omega
  | ⟨1, _⟩ => show ((((b : ℕ) * 8192 + R) * 2 + G) * 128 + l) / 256 % 8192 = R; omega
  | ⟨2, _⟩ => show 1280 + ((((b : ℕ) * 8192 + R) * 2 + G) * 128 + l) % 256 = 128 * (10 + G) + l; omega

theorem result_at (b : Fin 8) (G : Fin 12) (R : Fin 8192) (l : Fin 128) : val_main_v31 (F := Ideal) x0 x1 x2 (ix4 b G R l)
    = ProjSpec.outA (fun d => x0 (ix3 b R d)) (fun d => x1 (ix1 d)) (fun d n => x2 (ix2 d n)) G l := by
  unfold ProjSpec.outA
  simp only [← dot_at]
  have key : val_main_v31 (F := Ideal) x0 x1 x2 (ix4 b G R l)
      = if h : (G : ℕ) < 6 then val_main_v21 (F := Ideal) x0 x1 x2 (ix4 b ⟨G, h⟩ R l)
        else if h' : (G : ℕ) < 10 then val_main_v24 (F := Ideal) x0 x1 x2 (ix4 b ⟨G - 6, by omega⟩ R l)
        else val_main_v29 (F := Ideal) x0 x1 x2 (ix4 b ⟨G - 10, by omega⟩ R l) := by
    unfold val_main_v31 val_main_v30
    generalize val_main_v21 (F := Ideal) x0 x1 x2 = y1
    generalize val_main_v24 (F := Ideal) x0 x1 x2 = y2
    generalize val_main_v29 (F := Ideal) x0 x1 x2 = y3
    pointwise
    by_cases h1 : (G : ℕ) < 6
    · rw [dif_pos h1, dif_pos h1]
    · rw [dif_neg h1, dif_neg h1]
      by_cases h2 : (G : ℕ) < 10
      · rw [dif_pos (show (G : ℕ) - 6 < 4 by omega), dif_pos h2]
      · rw [dif_neg (show ¬ (G : ℕ) - 6 < 4 by omega), dif_neg h2]
        rfl
  rw [key]
  split_ifs with h1 h2 h3 h4 h5
  · exact queries_at x0 x1 x2 b ⟨G, h1⟩ R l
  · omega
  · omega
  · refine (kv_at x0 x1 x2 b ⟨G - 6, by omega⟩ R l).trans ?_
    congr 4
    show 128 * (6 + ((G : ℕ) - 6)) + (l : ℕ) = 128 * G + l
    omega
  · refine (qm_at x0 x1 x2 b ⟨G - 10, by omega⟩ R l).trans ?_
    congr 4
    refine Fin.ext ?_
    show 128 * (10 + ((G : ℕ) - 10)) + (l : ℕ) = 128 * G + l
    omega
  · omega

/-- The reference's result array. -/
theorem result : val_main_v31 (F := Ideal) x0 x1 x2 = fun i =>
    ProjSpec.outA (fun d => x0 (ix3 (i 0) (i 2) d)) (fun d => x1 (ix1 d)) (fun d n => x2 (ix2 d n)) (i 1) (i 3) := by
  funext i
  obtain ⟨b, G, R, l, rfl⟩ : ∃ (b : Fin 8) (G : Fin 12) (R : Fin 8192) (l : Fin 128), i = ix4 b G R l := ⟨i 0, i 1, i 2, i 3, by idx_vars i⟩
  exact result_at _ _ _ b G R l

end Cert.ProjAReferenceIdeal.Proj

end
-- ==== Proof.ProjBUnit.lean ====
/- What layer B's in-projection leaves in a block of 1024 rows: two halves of 512 rows, each in twenty groups of 128 columns,
   every one of these a slice of the half's product, times the factor of the queries where the group holds queries. -/
module

public import proofs.«01_k».proof.Proof.Gen.ProjBIdeal.Value
public import proofs.«01_k».proof.Proof.ProjSpec
public import Idealize.ShloMosaic.Lib.Pointwise
import Idealize.ShloMosaic.Lib.Pipeline.ValueKit

@[expose] public section

set_option maxRecDepth 16384

noncomputable section

namespace Cert.ProjBIdeal.Proj

open Idealize.ShloMosaic Cert.ProjBIdeal.Gen Cert

section
variable {F : FTy → Type} [FloatOps F] [Named F]

/-- 512 rows divided by their root mean square, times a gain. -/
def rms (x : FVec F S512x1024 .f32) (g : FVec F S1x1024 .f32) : FVec F S512x1024 .f32 :=
  mulf (mulf x (broadcastTo S512x1024 (rsqrt (addf (divf (shapeCast S512x1 (multiReduction .add [1] S512 (mulf x x) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)

/-- 512 normalised rows times the weights. -/
def prod (x : FVec F S512x1024 .f32) (g : FVec F S1x1024 .f32) (w : FVec F S1024x2560 .bf16) : FVec F S512x2560 .f32 :=
  matmul dot_S512x1024_S1024x2560_S512x2560_1_0_0_1_n_n none (truncf .bf16 (rms x g) bitsLt_bf16_f32)
    (shapeCast S1024x2560 w shapeCasts_S1024x2560_S1024x2560) (constant S512x2560 .f32 0x00000000#32)

theorem inb_x (r : Fin 2) : ∀ a, (![0, 512 * (r : ℕ), 0] : Fin 3 → ℕ) a + S1x512x1024.size a ≤ S1x1024x1024.size a := by
  intro a; fin_cases a <;> simp [S1x512x1024, S1x1024x1024] <;> omega

theorem inb_o (G : Fin 20) (r : Fin 2) : ∀ a, (![0, (G : ℕ), 512 * (r : ℕ), 0] : Fin 4 → ℕ) a + S1x1x512x128.size a ≤ S1x20x1024x128.size a := by
  intro a; fin_cases a <;> simp [S1x1x512x128, S1x20x1024x128] <;> omega

theorem slices (G : Fin 20) : S512x2560.Slices ![0, 128 * (G : ℕ)] S512x128 :=
  ⟨rfl, fun a => by fin_cases a <;> simp [S512x128, S512x2560] <;> omega⟩

/-- The rows of half `r`. -/
def xTile (X0 : Vec F S1x1024x1024 .f32) (r : Fin 2) : Vec F S1x512x1024 .f32 :=
  View.ld X0 (Rect.unit (s := S1x1024x1024) ![0, 512 * (r : ℕ), 0] S1x512x1024.size (inb_x r))

/-- The gain, whole. -/
def gain (X1 : Vec F S1x1024 .f32) : Vec F S1x1024 .f32 := View.ld X1 (Rect.unit (s := S1x1024) ![0, 0] S1x1024.size inb_S1x1024_S1x1024_0_0)

/-- The weights, whole. -/
def weights (X2 : Vec F S1024x2560 .bf16) : Vec F S1024x2560 .bf16 :=
  View.ld X2 (Rect.unit (s := S1024x2560) ![0, 0] S1024x2560.size inb_S1024x2560_S1024x2560_0_0)

/-- The product of half `r`. -/
def half (X0 : Vec F S1x1024x1024 .f32) (X1 : Vec F S1x1024 .f32) (X2 : Vec F S1024x2560 .bf16) (r : Fin 2) : FVec F S512x2560 .f32 :=
  prod (shapeCast S512x1024 (xTile X0 r) shapeCasts_S1x512x1024_S512x1024) (gain X1) (weights X2)

/-- A group as it is. -/
def plain (p : FVec F S512x2560 .f32) (G : Fin 20) : FVec F S1x1x512x128 .bf16 :=
  shapeCast S1x1x512x128 (truncf .bf16 (extractStridedSlice S512x128 ![0, 128 * (G : ℕ)] p (slices G)) bitsLt_bf16_f32) shapeCasts_S512x128_S1x1x512x128

/-- A group times the factor of the queries. -/
def scaled (p : FVec F S512x2560 .f32) (G : Fin 20) : FVec F S1x1x512x128 .bf16 :=
  shapeCast S1x1x512x128 (truncf .bf16 (mulf (extractStridedSlice S512x128 ![0, 128 * (G : ℕ)] p (slices G))
    (broadcast S512x128 (Named.named κ "q_scale" 0x3E38AA3B#32))) bitsLt_bf16_f32) shapeCasts_S512x128_S1x1x512x128

/-- What is stored for a group. -/
def tile (p : FVec F S512x2560 .f32) (G : Fin 20) : FVec F S1x1x512x128 .bf16 :=
  if 12 ≤ (G : ℕ) then scaled p G else plain p G

/-- One store. -/
def piece (X0 : Vec F S1x1024x1024 .f32) (X1 : Vec F S1x1024 .f32) (X2 : Vec F S1024x2560 .bf16) (r : Fin 2) (G : Fin 20) : View.Piece (Elt F) S1x20x1024x128 .bf16 :=
  ⟨Rect.unit (s := S1x20x1024x128) ![0, (G : ℕ), 512 * (r : ℕ), 0] S1x1x512x128.size (inb_o G r), tile (half X0 X1 X2 r) G⟩

/-- The stores of a point, the last first. -/
def pieces (X0 : Vec F S1x1024x1024 .f32) (X1 : Vec F S1x1024 .f32) (X2 : Vec F S1024x2560 .bf16) : ℕ → List (View.Piece (Elt F) S1x20x1024x128 .bf16)
  | 0 => []
  | n + 1 => piece X0 X1 X2 (Fin.ofNat 2 (n / 20)) (Fin.ofNat 20 n) :: pieces X0 X1 X2 n

theorem tail_eq {α : Type} {a b : α} {l l' : List α} (h : a = b) (h' : l = l') : a :: l = b :: l' := h ▸ h' ▸ rfl

set_option maxRecDepth 100000 in
set_option maxHeartbeats 0 in
theorem out_eq (X0 : Vec F S1x1024x1024 .f32) (X1 : Vec F S1x1024 .f32) (X2 : Vec F S1024x2560 .bf16) :
    out0_3 X0 X1 X2 = View.canon (pieces X0 X1 X2 40) := by
  unfold out0_3
  refine congrArg View.canon ?_
  iterate 40 (refine tail_eq ?_ ?_; · rfl)
  rfl

end

theorem rms_at (x : FVec Ideal S512x1024 .f32) (g : FVec Ideal S1x1024 .f32) (r : Fin 512) (n : Fin 1024) :
    rms (F := Ideal) x g (ix2 r n) = PostSpec.norm (fun d => x (ix2 r d)) (fun d => g (ix2 0 d)) n := by
  pointwise [rms, PostSpec.norm]

theorem prod_at (x : FVec Ideal S512x1024 .f32) (g : FVec Ideal S1x1024 .f32) (w : FVec Ideal S1024x2560 .bf16) (r : Fin 512) (n : Fin 2560) :
    prod (F := Ideal) x g w (ix2 r n) = ProjSpec.dot (fun d => x (ix2 r d)) (fun d => g (ix2 0 d)) (fun d n => w (ix2 d n)) n := by
  unfold ProjSpec.dot
  simp only [← rms_at]
  unfold prod
  generalize rms (F := Ideal) x g = y
  pointwise

theorem x_cast (y : FVec Ideal S1x512x1024 .f32) (a : Fin 512) (d : Fin 1024) :
    shapeCast S512x1024 y shapeCasts_S1x512x1024_S512x1024 (ix2 a d) = y (ix3 0 a d) := by
  pointwise

theorem x_tile (X0 : FVec Ideal S1x1024x1024 .f32) (r : Fin 2) (a : Fin 512) (d : Fin 1024) :
    xTile (F := Ideal) X0 r (ix3 0 a d) = X0 (ix3 0 ⟨512 * r + a, by omega⟩ d) := by
  pointwise [xTile]

theorem gain_at (X1 : FVec Ideal S1x1024 .f32) (d : Fin 1024) : gain (F := Ideal) X1 (ix2 0 d) = X1 (ix2 0 d) := by
  pointwise [gain]

theorem weights_at (X2 : FVec Ideal S1024x2560 .bf16) (d : Fin 1024) (n : Fin 2560) : weights (F := Ideal) X2 (ix2 d n) = X2 (ix2 d n) := by
  pointwise [weights]

theorem half_at (X0 : FVec Ideal S1x1024x1024 .f32) (X1 : FVec Ideal S1x1024 .f32) (X2 : FVec Ideal S1024x2560 .bf16) (r : Fin 2) (a : Fin 512) (n : Fin 2560) :
    half (F := Ideal) X0 X1 X2 r (ix2 a n)
      = ProjSpec.dot (fun d => X0 (ix3 0 ⟨512 * r + a, by omega⟩ d)) (fun d => X1 (ix2 0 d)) (fun d n => X2 (ix2 d n)) n := by
  unfold half
  rw [prod_at]
  simp only [x_cast, x_tile, gain_at, weights_at]

/-- The constant that is named in the program. -/
theorem named_eq : Named.named (F := Ideal) κ "q_scale" (φ := .f32) 0x3E38AA3B#32 = ProjSpec.scale :=
  IdealRules.named_const.ideal_named_scalar _ _ _ _ rfl

theorem tile_at (p : FVec Ideal S512x2560 .f32) (G : Fin 20) (a : Fin 512) (l : Fin 128) :
    tile (F := Ideal) p G (ix4 0 0 a l)
      = if 12 ≤ (G : ℕ) then p (ix2 a ⟨128 * G + l, by omega⟩) * ProjSpec.scale else p (ix2 a ⟨128 * G + l, by omega⟩) := by
  unfold tile
  split_ifs
  · rw [← named_eq]
    pointwise [scaled]
  · pointwise [plain]

end Cert.ProjBIdeal.Proj

end
-- ==== Proof.ProjBLoads.lean ====
/- The blocks a grid point of layer B's in-projection reads, entry by entry: entries of the argument arrays, the columns of the weights
   in the order of the table the host takes them by. -/
module

public import proofs.«01_k».proof.Proof.ProjBUnit
import Idealize.ShloMosaic.Lib.Pipeline.ValueKit

@[expose] public section

set_option maxRecDepth 16384

noncomputable section

namespace Cert.ProjBIdeal.Proj

open Idealize.ShloMosaic Idealize.ShloMosaic.TcCoe Cert.ProjBIdeal.Gen Cert

set_option maxRecDepth 100000 in
/-- The table of column numbers. -/
theorem table : ∀ n : Fin 2560, lit0 n = BitVec.ofNat 32 (ProjSpec.colB n) := by decide +kernel

variable (m : (ℓ : Loc nD τ sig) → Buf (Elt Ideal) ℓ) (c : Dev nD)

/-- The residual stream. -/
abbrev AX : FVec Ideal S8x8192x1024 .f32 := m ((c : Thread nD τ).loc main_arg0)
/-- The gain. -/
abbrev AN : FVec Ideal S1024 .f32 := m ((c : Thread nD τ).loc main_arg1)
/-- The weights. -/
abbrev AW : FVec Ideal S1024x2560 .f32 := m ((c : Thread nD τ).loc main_arg2)

theorem idx : ∀ t : Fin cfg0.N, win0_0.index t = ![t.val / 8, t.val % 8, 0] ∧ win0_1.index t = ![0, 0]
    ∧ win0_2.index t = ![0, 0] ∧ win0_3.index t = ![t.val / 8, 0, t.val % 8, 0] :=
  (by decide +kernel : ∀ t : Fin grid0.N, _)

theorem lt64 (t : Fin cfg0.N) : t.val < 64 := t.isLt

/-- The table as the host passes it on. -/
def cols : IVec S2560x1 32 :=
  broadcastInDim S2560x1 ![0] bcast_S2560_S2560x1_0 (select (constantI S2560 1 0#1)
    (addi (fun i => lit0 (S2560.rowMajor i)) (broadcastInDim S2560 ![] bcast_S_S2560 (constantI S_ 32 2560#32))) (fun i => lit0 (S2560.rowMajor i)))

theorem cols_at (n : Fin 2560) : cols (ix2 n 0) = BitVec.ofNat 32 (ProjSpec.colB n) := by
  rw [← table]
  unfold cols
  generalize hq : (fun i : S2560.Idx => lit0 (S2560.rowMajor i)) = q
  have e : q (ix1 n) = lit0 n := by
    rw [← hq]
    show lit0 (S2560.rowMajor (ix1 n)) = lit0 n
    congr 1
    refine Fin.ext ?_
    rw [Shape.rowMajor_val_one]
    rfl
  rw [← e]
  clear e hq
  pointwise

theorem V_w : V m c main_v5 = truncf .bf16 (Host.gather gather_S1024x2560_S2560x1_S1024x2560_0_1_n_n_1_1_10241 (AW m c) cols) bitsLt_bf16_f32 := by
  unfold V hostOps0
  after_results
  try rfl

theorem V_g : V m c main_v6 = shapeCast S1x1024 (AN m c) shapeCasts_S1024_S1x1024 := by
  unfold V hostOps0
  after_results
  try rfl

variable (t : Fin cfg0.N) (b : Fin 8)

theorem x_at (hb : (b : ℕ) = t.val / 8) (R : Fin 1024) (d : Fin 1024) :
    iblk m c 0 t (ix3 0 R d) = AX m c (ix3 b ⟨1024 * (t.val % 8) + R, by omega⟩ d) := by
  blk_ext [iblk, V, idx t]

theorem row_at (x : FVec Ideal S1024 .f32) (d : Fin 1024) : shapeCast S1x1024 x shapeCasts_S1024_S1x1024 (ix2 0 d) = x (ix1 d) := by
  pointwise

theorem g_at (d : Fin 1024) : iblk m c 1 t (ix2 0 d) = AN m c (ix1 d) := by
  rw [← row_at (AN m c) d, ← V_g]
  blk_ext [iblk, idx t]

theorem w_at (d : Fin 1024) (n : Fin 2560) : iblk m c 2 t (ix2 d n) = AW m c (ix2 d (ProjSpec.colB n)) := by
  refine Eq.trans ?_ ((congrFun (V_w m c) (ix2 d n)).trans
    (ProjSpec.gather_cols (by norm_num) gather_S1024x2560_S2560x1_S1024x2560_0_1_n_n_1_1_10241_wf (AW m c) cols d n _ (cols_at n)))
  blk_ext [iblk, idx t]

end Cert.ProjBIdeal.Proj

end
-- ==== Proof.ProjBFinal.lean ====
/- The result array of layer B's in-projection. -/
module

public import proofs.«01_k».proof.Proof.ProjBLoads
import Idealize.ShloMosaic.Lib.Pipeline.ValueKit

@[expose] public section

set_option maxRecDepth 16384

noncomputable section

namespace Cert.ProjBIdeal.Proj

open Idealize.ShloMosaic Idealize.ShloMosaic.TcCoe Cert.ProjBIdeal.Gen Cert

section
variable {F : FTy → Type} [FloatOps F] [Named F] (X0 : Vec F S1x1024x1024 .f32) (X1 : Vec F S1x1024 .f32) (X2 : Vec F S1024x2560 .bf16)

theorem mem_pieces (k : ℕ) : ∀ n, k < n → piece X0 X1 X2 (Fin.ofNat 2 (k / 20)) (Fin.ofNat 20 k) ∈ pieces X0 X1 X2 n
  | 0, h => absurd h (Nat.not_lt_zero _)
  | n + 1, h => by
    unfold pieces
    rcases Nat.lt_succ_iff_lt_or_eq.1 h with h | rfl
    · exact List.mem_cons_of_mem _ (mem_pieces k n h)
    · exact List.mem_cons_self

theorem of_mem_pieces (q : View.Piece (Elt F) S1x20x1024x128 .bf16) : ∀ n, q ∈ pieces X0 X1 X2 n → ∃ r G, q = piece X0 X1 X2 r G
  | 0, h => absurd h List.not_mem_nil
  | n + 1, h => by
    unfold pieces at h
    rcases List.mem_cons.1 h with h | h
    · exact ⟨_, _, h⟩
    · exact of_mem_pieces q n h

end

variable (m : (ℓ : Loc nD τ sig) → Buf (Elt Ideal) ℓ) (c : Dev nD)

/-- The result, entry by entry. -/
def resOf (b : Fin 8) (G : Fin 20) (R : Fin 8192) (l : Fin 128) : EReal :=
  ProjSpec.outB (fun d => AX m c (ix3 b R d)) (fun d => AN m c (ix1 d)) (fun d n => AW m c (ix2 d n)) G l

/-- The result array. -/
def OUT : FVec Ideal S8x20x8192x128 .bf16 := fun i => resOf m c (i 0) (i 1) (i 2) (i 3)

variable (t : Fin cfg0.N) (b : Fin 8)

theorem piece_at (hb : (b : ℕ) = t.val / 8) (r : Fin 2) (G : Fin 20) (a : Fin 512) (l : Fin 128) (R : Fin 8192) (hR : (R : ℕ) = 1024 * (t.val % 8) + (512 * r + a)) :
    tile (F := Ideal) (half (iblk m c 0 t) (iblk m c 1 t) (iblk m c 2 t) r) G (ix4 0 0 a l) = resOf m c b G R l := by
  rw [tile_at, half_at]
  have hR' : (⟨1024 * (t.val % 8) + (512 * r + a), by omega⟩ : Fin 8192) = R := Fin.ext hR.symm
  have e0 : (fun d => iblk m c 0 t (ix3 0 ⟨512 * r + a, by omega⟩ d)) = fun d => AX m c (ix3 b R d) :=
    funext fun d => (x_at m c t b hb _ d).trans (congrArg (fun r => AX m c (ix3 b r d)) hR')
  have e1 : (fun d => iblk m c 1 t (ix2 0 d)) = fun d => AN m c (ix1 d) := funext fun d => g_at m c t d
  have e2 : (fun d n => iblk m c 2 t (ix2 d n)) = fun d n => AW m c (ix2 d (ProjSpec.colB n)) := funext fun d => funext fun n => w_at m c t d n
  unfold resOf ProjSpec.outB
  rw [e0, e1, e2]
  rfl

theorem piece_of (hb : (b : ℕ) = t.val / 8) (r : Fin 2) (G : Fin 20) (x : S1x1x512x128.Idx) (g : Fin 20) (R : Fin 1024) (l : Fin 128)
    (hg : (g : ℕ) = G) (hR : (R : ℕ) = 512 * r + (x 2 : ℕ)) (hl : (l : ℕ) = (x 3 : ℕ)) :
    tile (F := Ideal) (half (iblk m c 0 t) (iblk m c 1 t) (iblk m c 2 t) r) G x = resOf m c b g ⟨1024 * (t.val % 8) + R, by omega⟩ l := by
  obtain ⟨x0, x1, a, l', rfl⟩ : ∃ (x0 x1 : Fin 1) (a : Fin 512) (l' : Fin 128), x = ix4 x0 x1 a l' := ⟨x 0, x 1, x 2, x 3, by idx_vars x⟩
  obtain rfl : x0 = 0 := by omega
  obtain rfl : x1 = 0 := by omega
  obtain rfl : g = G := Fin.ext hg
  obtain rfl : l' = l := Fin.ext hl.symm
  exact piece_at m c t b hb r g a l' _ (by show 1024 * (t.val % 8) + (R : ℕ) = _; rw [hR]; rfl)

/-- What a point leaves at an entry of its block. -/
theorem out_at (hb : (b : ℕ) = t.val / 8) (g : Fin 20) (R : Fin 1024) (l : Fin 128) :
    out0_3 (F := Ideal) (iblk m c 0 t) (iblk m c 1 t) (iblk m c 2 t) (ix4 0 g R l) = resOf m c b g ⟨1024 * (t.val % 8) + R, by omega⟩ l := by
  rw [out_eq]
  refine View.canon_eq_of_allAt _ _ _ ?_ ?_
  · refine ⟨_, mem_pieces _ _ _ (20 * (R / 512) + g) 40 (by omega), ?_⟩
    unfold piece
    apply Rect.mem_set_unit.mpr
    intro a
    fin_cases a
    · exact ⟨Nat.zero_le _, Nat.zero_lt_one⟩
    · show (20 * ((R : ℕ) / 512) + g) % 20 ≤ (g : ℕ) ∧ (g : ℕ) < (20 * ((R : ℕ) / 512) + g) % 20 + 1
      omega
    · show 512 * ((20 * ((R : ℕ) / 512) + g) / 20 % 2) ≤ (R : ℕ) ∧ (R : ℕ) < 512 * ((20 * ((R : ℕ) / 512) + g) / 20 % 2) + 512
      omega
    · exact ⟨Nat.zero_le _, by show (l : ℕ) < 0 + 128; omega⟩
    exact inb_o _ _
  · intro q hq x hx
    obtain ⟨r, G, rfl⟩ := of_mem_pieces _ _ _ q 40 hq
    have g0 : (x 1 : ℕ) < 1 := (x 1).isLt
    have g1 : (G : ℕ) + 1 * (x 1 : ℕ) = g := congrArg (fun y : S1x20x1024x128.Idx => (y 1 : ℕ)) hx
    have g2 : 512 * (r : ℕ) + 1 * (x 2 : ℕ) = R := congrArg (fun y : S1x20x1024x128.Idx => (y 2 : ℕ)) hx
    have g3 : 0 + 1 * (x 3 : ℕ) = l := congrArg (fun y : S1x20x1024x128.Idx => (y 3 : ℕ)) hx
    exact piece_of m c t b hb r G x g R l (by omega) (by omega) (by omega)

/-- The result array after the run. -/
theorem final : (dats m 0 c).arrAt 3 (cfgs 0).N = OUT m c := by
  refine (dats m 0 c).arrAt_eq_of_covers 3 _ (by decide +kernel) fun t _ y => ?_
  blk_simp
  rw [after0_3]
  have ht := lt64 t
  obtain ⟨y0, g, R, l, rfl⟩ : ∃ (y0 : Fin 1) (g : Fin 20) (R : Fin 1024) (l : Fin 128), y = ix4 y0 g R l := ⟨y 0, y 1, y 2, y 3, by idx_vars y⟩
  obtain rfl : y0 = 0 := by omega
  refine (out_at m c t ⟨t.val / 8, by omega⟩ rfl g R l).trans ?_
  unfold OUT
  congr 1 <;> (refine Fin.ext ?_; blk_simp [idx t]; try first | rfl | (dsimp only; omega))

end Cert.ProjBIdeal.Proj

end
-- ==== Proof.ProjBRef.lean ====
/- What the reference of layer B's in-projection computes, entry by entry. -/
module

public import proofs.«01_k».proof.Proof.Gen.ProjBReferenceIdeal.Read
public import proofs.«01_k».proof.Proof.ProjSpec
public import Idealize.ShloMosaic.Lib.Pointwise

@[expose] public section

set_option maxRecDepth 16384

noncomputable section

namespace Cert.ProjBReferenceIdeal.Proj

open Idealize.ShloMosaic Cert.ProjBReferenceIdeal Cert.ProjBReferenceIdeal.Gen Cert.ProjBReferenceIdeal.Read Cert

variable (x0 : FVec Ideal S8x8192x1024 .f32) (x1 : FVec Ideal S1024 .f32) (x2 : FVec Ideal S1024x2560 .f32)

theorem norm_at (b : Fin 8) (R : Fin 8192) (n : Fin 1024) : val_main_v12 (F := Ideal) x0 x1 (ix3 b R n)
    = PostSpec.norm (fun d => x0 (ix3 b R d)) (fun d => x1 (ix1 d)) n := by
  generalize hR : PostSpec.norm (_ : Fin 1024 → EReal) _ _ = r
  unfold val_main_v12 val_main_v9 val_main_v8 val_main_v7 val_main_v6 val_main_v4 val_main_v2 val_main_v1 val_main_v0
  subst hR
  pointwise [val_main_v11, val_main_v10, val_main_v5, val_main_cst_1, val_main_v3, val_main_cst_0, val_main_cst, PostSpec.norm]

theorem dot_at (b : Fin 8) (R : Fin 8192) (n : Fin 2560) : val_main_v13 (F := Ideal) x0 x1 x2 (ix3 b R n)
    = ProjSpec.dot (fun d => x0 (ix3 b R d)) (fun d => x1 (ix1 d)) (fun d n => x2 (ix2 d n)) n := by
  unfold ProjSpec.dot
  simp only [← norm_at]
  unfold val_main_v13
  generalize val_main_v12 (F := Ideal) x0 x1 = y
  pointwise

theorem factor_at (i : S_.Idx) : val_main_v15 (F := Ideal) i = ProjSpec.scale := ProjSpec.scale_eq

theorem kv_at (b : Fin 8) (R : Fin 8192) (n : Fin 1536) : val_main_v16 (F := Ideal) x0 x1 x2 (ix3 b R n)
    = val_main_v13 (F := Ideal) x0 x1 x2 (ix3 b R ⟨768 + n, by omega⟩) := by
  unfold val_main_v16
  generalize val_main_v13 (F := Ideal) x0 x1 x2 = y
  pointwise

theorem q_at (b : Fin 8) (R : Fin 8192) (n : Fin 768) : val_main_v19 (F := Ideal) x0 x1 x2 (ix3 b R n)
    = val_main_v13 (F := Ideal) x0 x1 x2 (ix3 b R ⟨n, by omega⟩) * ProjSpec.scale := by
  unfold val_main_v19 val_main_v18 val_main_v17
  rw [← factor_at ix0]
  generalize val_main_v13 (F := Ideal) x0 x1 x2 = y
  generalize val_main_v15 (F := Ideal) = z
  pointwise

theorem qm_at (b : Fin 8) (R : Fin 8192) (n : Fin 256) : val_main_v22 (F := Ideal) x0 x1 x2 (ix3 b R n)
    = val_main_v13 (F := Ideal) x0 x1 x2 (ix3 b R ⟨2304 + n, by omega⟩) * ProjSpec.scale := by
  unfold val_main_v22 val_main_v21 val_main_v20
  rw [← factor_at ix0]
  generalize val_main_v13 (F := Ideal) x0 x1 x2 = y
  generalize val_main_v15 (F := Ideal) = z
  pointwise

theorem cat_at (b : Fin 8) (R : Fin 8192) (n : Fin 2560) : val_main_v23 (F := Ideal) x0 x1 x2 (ix3 b R n)
    = if (n : ℕ) < 1536 then val_main_v13 (F := Ideal) x0 x1 x2 (ix3 b R (ProjSpec.colB n))
      else val_main_v13 (F := Ideal) x0 x1 x2 (ix3 b R (ProjSpec.colB n)) * ProjSpec.scale := by
  have key : val_main_v23 (F := Ideal) x0 x1 x2 (ix3 b R n)
      = if h : (n : ℕ) < 1536 then val_main_v16 (F := Ideal) x0 x1 x2 (ix3 b R ⟨n, h⟩)
        else if h' : (n : ℕ) < 2304 then val_main_v19 (F := Ideal) x0 x1 x2 (ix3 b R ⟨n - 1536, by omega⟩)
        else val_main_v22 (F := Ideal) x0 x1 x2 (ix3 b R ⟨n - 2304, by omega⟩) := by
    unfold val_main_v23
    generalize val_main_v16 (F := Ideal) x0 x1 x2 = y1
    generalize val_main_v19 (F := Ideal) x0 x1 x2 = y2
    generalize val_main_v22 (F := Ideal) x0 x1 x2 = y3
    pointwise
    have e : ∀ u v : Fin 256, (u : ℕ) = v → y3 (ix3 b R u) = y3 (ix3 b R v) := fun u v h => by rw [Fin.ext h]
    by_cases h1 : (n : ℕ) < 1536
    · rw [dif_pos h1, dif_pos h1]
    · rw [dif_neg h1, dif_neg h1]
      by_cases h2 : (n : ℕ) < 2304
      · rw [dif_pos (show (n : ℕ) - 1536 < 768 by omega), dif_pos h2]
      · rw [dif_neg (show ¬ (n : ℕ) - 1536 < 768 by omega), dif_neg h2]
        exact e _ _ (by show (n : ℕ) - 1536 - 768 = n - 2304; omega)
  rw [key]
  unfold ProjSpec.colB
  split_ifs with h1 h2
  · rw [kv_at]
    congr 2
    refine Fin.ext ?_
    show 768 + (n : ℕ) = (n + 768) % 2560
    omega
  · rw [q_at]
  · rw [qm_at]
    congr 3
    refine Fin.ext ?_
    show 2304 + ((n : ℕ) - 2304) = n
    omega

theorem result_at (b : Fin 8) (G : Fin 20) (R : Fin 8192) (l : Fin 128) : val_main_v26 (F := Ideal) x0 x1 x2 (ix4 b G R l)
    = ProjSpec.outB (fun d => x0 (ix3 b R d)) (fun d => x1 (ix1 d)) (fun d n => x2 (ix2 d n)) G l := by
  have e : val_main_v26 (F := Ideal) x0 x1 x2 (ix4 b G R l) = val_main_v23 (F := Ideal) x0 x1 x2 (ix3 b R ⟨128 * G + l, by omega⟩) := by
    rw [val_main_v26_apply, val_main_v25_apply, val_main_v24_apply]
    refine congrArg (val_main_v23 (F := Ideal) x0 x1 x2) (funext fun a => Fin.ext ?_)
    match a with
    | ⟨0, _⟩ => show ((((b : ℕ) * 8192 + R) * 20 + G) * 128 + l) / 20971520 = b; omega
    | ⟨1, _⟩ => show ((((b : ℕ) * 8192 + R) * 20 + G) * 128 + l) / 2560 % 8192 = R; omega
    | ⟨2, _⟩ => show ((((b : ℕ) * 8192 + R) * 20 + G) * 128 + l) % 2560 = 128 * G + l; omega
  rw [e, cat_at]
  unfold ProjSpec.outB
  simp only [← dot_at]
  by_cases h : 12 ≤ (G : ℕ)
  · rw [if_neg (by show ¬ 128 * (G : ℕ) + l < 1536; omega), if_pos h]
  · rw [if_pos (by show 128 * (G : ℕ) + l < 1536; omega), if_neg h]

/-- The reference's result array. -/
theorem result : val_main_v26 (F := Ideal) x0 x1 x2 = fun i =>
    ProjSpec.outB (fun d => x0 (ix3 (i 0) (i 2) d)) (fun d => x1 (ix1 d)) (fun d n => x2 (ix2 d n)) (i 1) (i 3) := by
  funext i
  obtain ⟨b, G, R, l, rfl⟩ : ∃ (b : Fin 8) (G : Fin 20) (R : Fin 8192) (l : Fin 128), i = ix4 b G R l := ⟨i 0, i 1, i 2, i 3, by idx_vars i⟩
  exact result_at _ _ _ b G R l

end Cert.ProjBReferenceIdeal.Proj

end
-- ==== Proof.MemKvUnit.lean ====
/- What a grid step of the memory call leaves: for one layer, the keys and values of 2048 memory rows, 256 of each batch, in four
   groups of 128 columns, each a slice of one product. -/
module

public import proofs.«01_k».proof.Proof.Gen.MemKvIdeal.Value
public import proofs.«01_k».proof.Proof.ProjSpec
public import Idealize.ShloMosaic.Lib.Pointwise
import Idealize.ShloMosaic.Lib.Pipeline.ValueKit

@[expose] public section

set_option maxRecDepth 16384

noncomputable section

namespace Cert.MemKvIdeal.Mem

open Idealize.ShloMosaic Idealize.ShloMosaic.TcCoe Cert.MemKvIdeal.Gen Cert

section
variable {F : FTy → Type} [FloatOps F]

/-- 2048 rows divided by their root mean square, times a gain. -/
def rms (x : FVec F S2048x1024 .f32) (g : FVec F S1x1024 .f32) : FVec F S2048x1024 .f32 :=
  mulf (mulf x (broadcastTo S2048x1024 (rsqrt (addf (divf (shapeCast S2048x1 (multiReduction .add [1] S2048 (mulf x x) 0x00000000#32 reduces_S2048x1024_S2048 (.inl rfl) rfl) shapeCasts_S2048_S2048x1)
      (broadcast S2048x1 (Scalar.ofBits .f32 0x44800000#32))) (broadcast S2048x1 (Scalar.ofBits .f32 0x358637BD#32)))) broadcasts_S2048x1_S2048x1024))
    (broadcastTo S2048x1024 g broadcasts_S1x1024_S2048x1024)

/-- 2048 normalised rows times the weights. -/
def prod (x : FVec F S2048x1024 .f32) (g : FVec F S1x1024 .f32) (w : FVec F S1024x512 .bf16) : FVec F S2048x512 .f32 :=
  matmul dot_S2048x1024_S1024x512_S2048x512_1_0_0_1_n_n none (truncf .bf16 (rms x g) bitsLt_bf16_f32) w (constant S2048x512 .f32 0x00000000#32)

theorem inb_o (b : Fin 8) (G : Fin 4) : ∀ a, (![0, (b : ℕ), (G : ℕ), 0, 0] : Fin 5 → ℕ) a + S1x1x1x256x128.size a ≤ S1x8x4x256x128.size a := by
  intro a; fin_cases a <;> simp [S1x1x1x256x128, S1x8x4x256x128] <;> omega

theorem slices (b : Fin 8) (G : Fin 4) : S2048x512.Slices ![256 * (b : ℕ), 128 * (G : ℕ)] S256x128 :=
  ⟨rfl, fun a => by fin_cases a <;> simp [S256x128, S2048x512] <;> omega⟩

/-- The memory rows, whole. -/
def rows (X0 : Vec F S8x256x1024 .f32) : Vec F S8x256x1024 .f32 :=
  View.ld X0 (Rect.unit (s := S8x256x1024) ![0, 0, 0] S8x256x1024.size inb_S8x256x1024_S8x256x1024_0_0_0)

/-- The layer's gain. -/
def gain (X1 : Vec F S1x1x1024 .f32) : Vec F S1x1x1024 .f32 :=
  View.ld X1 (Rect.unit (s := S1x1x1024) ![0, 0, 0] S1x1x1024.size inb_S1x1x1024_S1x1x1024_0_0_0)

/-- The layer's weights. -/
def weights (X2 : Vec F S1x1024x512 .bf16) : Vec F S1x1024x512 .bf16 :=
  View.ld X2 (Rect.unit (s := S1x1024x512) ![0, 0, 0] S1x1024x512.size inb_S1x1024x512_S1x1024x512_0_0_0)

/-- The product of a step. -/
def whole (X0 : Vec F S8x256x1024 .f32) (X1 : Vec F S1x1x1024 .f32) (X2 : Vec F S1x1024x512 .bf16) : FVec F S2048x512 .f32 :=
  prod (shapeCast S2048x1024 (rows X0) shapeCasts_S8x256x1024_S2048x1024) (shapeCast S1x1024 (gain X1) shapeCasts_S1x1x1024_S1x1024)
    (shapeCast S1024x512 (weights X2) shapeCasts_S1x1024x512_S1024x512)

/-- What is stored for a batch and a group. -/
def tile (p : FVec F S2048x512 .f32) (b : Fin 8) (G : Fin 4) : FVec F S1x1x1x256x128 .bf16 :=
  shapeCast S1x1x1x256x128 (truncf .bf16 (extractStridedSlice S256x128 ![256 * (b : ℕ), 128 * (G : ℕ)] p (slices b G)) bitsLt_bf16_f32) shapeCasts_S256x128_S1x1x1x256x128

/-- One store. -/
def piece (X0 : Vec F S8x256x1024 .f32) (X1 : Vec F S1x1x1024 .f32) (X2 : Vec F S1x1024x512 .bf16) (b : Fin 8) (G : Fin 4) : View.Piece (Elt F) S1x8x4x256x128 .bf16 :=
  ⟨Rect.unit (s := S1x8x4x256x128) ![0, (b : ℕ), (G : ℕ), 0, 0] S1x1x1x256x128.size (inb_o b G), tile (whole X0 X1 X2) b G⟩

/-- The stores of a step, the last first. -/
def pieces (X0 : Vec F S8x256x1024 .f32) (X1 : Vec F S1x1x1024 .f32) (X2 : Vec F S1x1024x512 .bf16) : ℕ → List (View.Piece (Elt F) S1x8x4x256x128 .bf16)
  | 0 => []
  | n + 1 => piece X0 X1 X2 (Fin.ofNat 8 (n / 4)) (Fin.ofNat 4 n) :: pieces X0 X1 X2 n

theorem tail_eq {α : Type} {a b : α} {l l' : List α} (h : a = b) (h' : l = l') : a :: l = b :: l' := h ▸ h' ▸ rfl

set_option maxRecDepth 100000 in
set_option maxHeartbeats 0 in
theorem out_eq (X0 : Vec F S8x256x1024 .f32) (X1 : Vec F S1x1x1024 .f32) (X2 : Vec F S1x1024x512 .bf16) :
    out0_3 X0 X1 X2 = View.canon (pieces X0 X1 X2 32) := by
  unfold out0_3
  refine congrArg View.canon ?_
  iterate 32 (refine tail_eq ?_ ?_; · rfl)
  rfl

theorem mem_pieces (X0 : Vec F S8x256x1024 .f32) (X1 : Vec F S1x1x1024 .f32) (X2 : Vec F S1x1024x512 .bf16) (k : ℕ) : ∀ n, k < n →
    piece X0 X1 X2 (Fin.ofNat 8 (k / 4)) (Fin.ofNat 4 k) ∈ pieces X0 X1 X2 n
  | 0, h => absurd h (Nat.not_lt_zero _)
  | n + 1, h => by
    unfold pieces
    rcases Nat.lt_succ_iff_lt_or_eq.1 h with h | rfl
    · exact List.mem_cons_of_mem _ (mem_pieces X0 X1 X2 k n h)
    · exact List.mem_cons_self

theorem of_mem_pieces (X0 : Vec F S8x256x1024 .f32) (X1 : Vec F S1x1x1024 .f32) (X2 : Vec F S1x1024x512 .bf16) (q : View.Piece (Elt F) S1x8x4x256x128 .bf16) :
    ∀ n, q ∈ pieces X0 X1 X2 n → ∃ b G, q = piece X0 X1 X2 b G
  | 0, h => absurd h List.not_mem_nil
  | n + 1, h => by
    unfold pieces at h
    rcases List.mem_cons.1 h with h | h
    · exact ⟨_, _, h⟩
    · exact of_mem_pieces X0 X1 X2 q n h

end

theorem rms_at (x : FVec Ideal S2048x1024 .f32) (g : FVec Ideal S1x1024 .f32) (r : Fin 2048) (n : Fin 1024) :
    rms (F := Ideal) x g (ix2 r n) = PostSpec.norm (fun d => x (ix2 r d)) (fun d => g (ix2 0 d)) n := by
  pointwise [rms, PostSpec.norm]

theorem prod_at (x : FVec Ideal S2048x1024 .f32) (g : FVec Ideal S1x1024 .f32) (w : FVec Ideal S1024x512 .bf16) (r : Fin 2048) (n : Fin 512) :
    prod (F := Ideal) x g w (ix2 r n) = ProjSpec.dot (fun d => x (ix2 r d)) (fun d => g (ix2 0 d)) (fun d n => w (ix2 d n)) n := by
  unfold ProjSpec.dot
  simp only [← rms_at]
  unfold prod
  generalize rms (F := Ideal) x g = y
  pointwise

theorem x_cast (y : FVec Ideal S8x256x1024 .f32) (b : Fin 8) (a : Fin 256) (d : Fin 1024) :
    shapeCast S2048x1024 y shapeCasts_S8x256x1024_S2048x1024 (ix2 ⟨256 * b + a, by omega⟩ d) = y (ix3 b a d) := by
  refine shapeCast_apply _ _ _ _ ?_
  rw [Shape.rowMajor_val_three, Shape.rowMajor_val_two]
  show ((b : ℕ) * 256 + a) * 1024 + d = (256 * b + a) * 1024 + d
  omega

theorem g_cast (y : FVec Ideal S1x1x1024 .f32) (d : Fin 1024) : shapeCast S1x1024 y shapeCasts_S1x1x1024_S1x1024 (ix2 0 d) = y (ix3 0 0 d) := by
  pointwise

theorem w_cast (y : FVec Ideal S1x1024x512 .bf16) (d : Fin 1024) (n : Fin 512) :
    shapeCast S1024x512 y shapeCasts_S1x1024x512_S1024x512 (ix2 d n) = y (ix3 0 d n) := by
  pointwise

theorem rows_at (X0 : FVec Ideal S8x256x1024 .f32) (b : Fin 8) (a : Fin 256) (d : Fin 1024) : rows (F := Ideal) X0 (ix3 b a d) = X0 (ix3 b a d) := by
  pointwise [rows]

theorem gain_at (X1 : FVec Ideal S1x1x1024 .f32) (d : Fin 1024) : gain (F := Ideal) X1 (ix3 0 0 d) = X1 (ix3 0 0 d) := by
  pointwise [gain]

theorem weights_at (X2 : FVec Ideal S1x1024x512 .bf16) (d : Fin 1024) (n : Fin 512) : weights (F := Ideal) X2 (ix3 0 d n) = X2 (ix3 0 d n) := by
  pointwise [weights]

theorem whole_at (X0 : FVec Ideal S8x256x1024 .f32) (X1 : FVec Ideal S1x1x1024 .f32) (X2 : FVec Ideal S1x1024x512 .bf16) (b : Fin 8) (a : Fin 256) (n : Fin 512) :
    whole (F := Ideal) X0 X1 X2 (ix2 ⟨256 * b + a, by omega⟩ n)
      = ProjSpec.dot (fun d => X0 (ix3 b a d)) (fun d => X1 (ix3 0 0 d)) (fun d n => X2 (ix3 0 d n)) n := by
  unfold whole
  rw [prod_at]
  simp only [x_cast, g_cast, w_cast, rows_at, gain_at, weights_at]

theorem tile_at (p : FVec Ideal S2048x512 .f32) (b : Fin 8) (G : Fin 4) (a : Fin 256) (l : Fin 128) :
    tile (F := Ideal) p b G (ix5 0 0 0 a l) = p (ix2 ⟨256 * b + a, by omega⟩ ⟨128 * G + l, by omega⟩) := by
  unfold tile
  refine (shapeCast_apply _ _ _ (ix2 a l) ?_).trans ?_
  · rw [Shape.rowMajor_val_two, Shape.rowMajor_val_five]
    show (a : ℕ) * 128 + l = (((0 * 1 + 0) * 1 + 0) * 256 + (a : ℕ)) * 128 + l
    omega
  · pointwise

end Cert.MemKvIdeal.Mem

end
-- ==== Proof.MemKvFinal.lean ====
/- The blocks a step of the memory call reads, and the call's result array. -/
module

public import proofs.«01_k».proof.Proof.MemKvUnit
import Idealize.ShloMosaic.Lib.Pipeline.ValueKit

@[expose] public section

set_option maxRecDepth 16384

noncomputable section

namespace Cert.MemKvIdeal.Mem

open Idealize.ShloMosaic Idealize.ShloMosaic.TcCoe Cert.MemKvIdeal.Gen Cert

variable (m : (ℓ : Loc nD τ sig) → Buf (Elt Ideal) ℓ) (c : Dev nD)

/-- The memory. -/
abbrev AM : FVec Ideal S8x256x1024 .f32 := m ((c : Thread nD τ).loc main_arg0)
/-- The gains. -/
abbrev AN : FVec Ideal S4x1024 .f32 := m ((c : Thread nD τ).loc main_arg1)
/-- The weights. -/
abbrev AW : FVec Ideal S4x1024x512 .f32 := m ((c : Thread nD τ).loc main_arg2)

theorem idx : ∀ t : Fin cfg0.N, win0_0.index t = ![0, 0, 0] ∧ win0_1.index t = ![t.val, 0, 0]
    ∧ win0_2.index t = ![t.val, 0, 0] ∧ win0_3.index t = ![t.val, 0, 0, 0, 0] :=
  (by decide +kernel : ∀ t : Fin grid0.N, _)

theorem lt4 (t : Fin cfg0.N) : t.val < 4 := t.isLt

theorem V_w : V m c main_v0 = truncf .bf16 (AW m c) bitsLt_bf16_f32 := by
  unfold V hostOps0
  after_results
  try rfl

theorem V_g : V m c main_v1 = shapeCast S4x1x1024 (AN m c) shapeCasts_S4x1024_S4x1x1024 := by
  unfold V hostOps0
  after_results
  try rfl

variable (t : Fin cfg0.N) (L : Fin 4)

theorem m_at (b : Fin 8) (a : Fin 256) (d : Fin 1024) : iblk m c 0 t (ix3 b a d) = AM m c (ix3 b a d) := by
  blk_ext [iblk, V, idx t]

theorem row_at (x : FVec Ideal S4x1024 .f32) (L : Fin 4) (d : Fin 1024) : shapeCast S4x1x1024 x shapeCasts_S4x1024_S4x1x1024 (ix3 L 0 d) = x (ix2 L d) := by
  pointwise

theorem g_at (hL : (L : ℕ) = t.val) (d : Fin 1024) : iblk m c 1 t (ix3 0 0 d) = AN m c (ix2 L d) := by
  rw [← row_at (AN m c) L d, ← V_g]
  blk_ext [iblk, idx t]

theorem w_at (hL : (L : ℕ) = t.val) (d : Fin 1024) (n : Fin 512) : iblk m c 2 t (ix3 0 d n) = AW m c (ix3 L d n) := by
  refine Eq.trans ?_ (congrFun (V_w m c) (ix3 L d n))
  blk_ext [iblk, idx t]

/-- The result, entry by entry. -/
def resOf (L : Fin 4) (b : Fin 8) (G : Fin 4) (a : Fin 256) (l : Fin 128) : EReal :=
  ProjSpec.outM (fun d => AM m c (ix3 b a d)) (fun d => AN m c (ix2 L d)) (fun d n => AW m c (ix3 L d n)) G l

/-- The result array. -/
def OUT : FVec Ideal S4x8x4x256x128 .bf16 := fun i => resOf m c (i 0) (i 1) (i 2) (i 3) (i 4)

theorem piece_at (hL : (L : ℕ) = t.val) (b : Fin 8) (G : Fin 4) (a : Fin 256) (l : Fin 128) :
    tile (F := Ideal) (whole (iblk m c 0 t) (iblk m c 1 t) (iblk m c 2 t)) b G (ix5 0 0 0 a l) = resOf m c L b G a l := by
  rw [tile_at, whole_at]
  have e0 : (fun d => iblk m c 0 t (ix3 b a d)) = fun d => AM m c (ix3 b a d) := funext fun d => m_at m c t b a d
  have e1 : (fun d => iblk m c 1 t (ix3 0 0 d)) = fun d => AN m c (ix2 L d) := funext fun d => g_at m c t L hL d
  have e2 : (fun d n => iblk m c 2 t (ix3 0 d n)) = fun d n => AW m c (ix3 L d n) := funext fun d => funext fun n => w_at m c t L hL d n
  unfold resOf ProjSpec.outM
  rw [e0, e1, e2]

theorem piece_of (hL : (L : ℕ) = t.val) (b' : Fin 8) (G' : Fin 4) (x : S1x1x1x256x128.Idx) (b : Fin 8) (G : Fin 4) (a : Fin 256) (l : Fin 128)
    (hb : (b : ℕ) = b') (hG : (G : ℕ) = G') (ha : (a : ℕ) = (x 3 : ℕ)) (hl : (l : ℕ) = (x 4 : ℕ)) :
    tile (F := Ideal) (whole (iblk m c 0 t) (iblk m c 1 t) (iblk m c 2 t)) b' G' x = resOf m c L b G a l := by
  obtain ⟨x0, x1, x2, a', l', rfl⟩ : ∃ (x0 x1 x2 : Fin 1) (a' : Fin 256) (l' : Fin 128), x = ix5 x0 x1 x2 a' l' := ⟨x 0, x 1, x 2, x 3, x 4, by idx_vars x⟩
  obtain rfl : x0 = 0 := by omega
  obtain rfl : x1 = 0 := by omega
  obtain rfl : x2 = 0 := by omega
  obtain rfl : b = b' := Fin.ext hb
  obtain rfl : G = G' := Fin.ext hG
  obtain rfl : a' = a := Fin.ext ha.symm
  obtain rfl : l' = l := Fin.ext hl.symm
  exact piece_at m c t L hL b G a' l'

/-- What a step leaves at an entry of its block. -/
theorem out_at (hL : (L : ℕ) = t.val) (b : Fin 8) (G : Fin 4) (a : Fin 256) (l : Fin 128) :
    out0_3 (F := Ideal) (iblk m c 0 t) (iblk m c 1 t) (iblk m c 2 t) (ix5 0 b G a l) = resOf m c L b G a l := by
  rw [out_eq]
  refine View.canon_eq_of_allAt _ _ _ ?_ ?_
  · refine ⟨_, mem_pieces _ _ _ (4 * b + G) 32 (by omega), ?_⟩
    unfold piece
    apply Rect.mem_set_unit.mpr
    intro k
    fin_cases k
    · exact ⟨Nat.zero_le _, Nat.zero_lt_one⟩
    · show (4 * (b : ℕ) + G) / 4 % 8 ≤ (b : ℕ) ∧ (b : ℕ) < (4 * (b : ℕ) + G) / 4 % 8 + 1
      omega
    · show (4 * (b : ℕ) + G) % 4 ≤ (G : ℕ) ∧ (G : ℕ) < (4 * (b : ℕ) + G) % 4 + 1
      omega
    · exact ⟨Nat.zero_le _, by show (a : ℕ) < 0 + 256; omega⟩
    · exact ⟨Nat.zero_le _, by show (l : ℕ) < 0 + 128; omega⟩
    exact inb_o _ _
  · intro q hq x hx
    obtain ⟨b', G', rfl⟩ := of_mem_pieces _ _ _ q 32 hq
    have g0 : (x 1 : ℕ) < 1 := (x 1).isLt
    have g0' : (x 2 : ℕ) < 1 := (x 2).isLt
    have g1 : (b' : ℕ) + 1 * (x 1 : ℕ) = b := congrArg (fun y : S1x8x4x256x128.Idx => (y 1 : ℕ)) hx
    have g2 : (G' : ℕ) + 1 * (x 2 : ℕ) = G := congrArg (fun y : S1x8x4x256x128.Idx => (y 2 : ℕ)) hx
    have g3 : 0 + 1 * (x 3 : ℕ) = a := congrArg (fun y : S1x8x4x256x128.Idx => (y 3 : ℕ)) hx
    have g4 : 0 + 1 * (x 4 : ℕ) = l := congrArg (fun y : S1x8x4x256x128.Idx => (y 4 : ℕ)) hx
    exact piece_of m c t L hL b' G' x b G a l (by omega) (by omega) (by omega) (by omega)

/-- The result array after the run. -/
theorem final : (dats m 0 c).arrAt 3 (cfgs 0).N = OUT m c := by
  refine (dats m 0 c).arrAt_eq_of_covers 3 _ (by decide +kernel) fun t _ y => ?_
  blk_simp
  rw [after0_3]
  have ht := lt4 t
  obtain ⟨y0, b, G, a, l, rfl⟩ : ∃ (y0 : Fin 1) (b : Fin 8) (G : Fin 4) (a : Fin 256) (l : Fin 128), y = ix5 y0 b G a l := ⟨y 0, y 1, y 2, y 3, y 4, by idx_vars y⟩
  obtain rfl : y0 = 0 := by omega
  refine (out_at m c t ⟨t.val, by omega⟩ rfl b G a l).trans ?_
  unfold OUT
  congr 1 <;> (refine Fin.ext ?_; blk_simp [idx t]; try first | rfl | (dsimp only; omega))

end Cert.MemKvIdeal.Mem

end
-- ==== Proof.MemKvRef.lean ====
/- What the reference of the memory call computes, entry by entry. -/
module

public import proofs.«01_k».proof.Proof.Gen.MemKvReferenceIdeal.Read
public import proofs.«01_k».proof.Proof.ProjSpec
public import Idealize.ShloMosaic.Lib.Pointwise

@[expose] public section

set_option maxRecDepth 16384

noncomputable section

namespace Cert.MemKvReferenceIdeal.Mem

open Idealize.ShloMosaic Cert.MemKvReferenceIdeal Cert.MemKvReferenceIdeal.Gen Cert.MemKvReferenceIdeal.Read Cert

variable (x0 : FVec Ideal S8x256x1024 .f32) (x1 : FVec Ideal S4x1024 .f32) (x2 : FVec Ideal S4x1024x512 .f32)

theorem mean_at (b : Fin 8) (R : Fin 256) (n : Fin 1024) : val_main_v9 (F := Ideal) x0 (ix3 b R n)
    = x0 (ix3 b R n) * Ideal.rsqrt (Ideal.div (∑ d : Fin 1024, x0 (ix3 b R d) * x0 (ix3 b R d)) (Ideal.ofBits .f32 0x44800000#32) + Ideal.ofBits .f32 0x358637BD#32) := by
  pointwise [val_main_v9, val_main_v8, val_main_v7, val_main_v6, val_main_v4, val_main_v2, val_main_v1, val_main_v0, val_main_v5, val_main_cst_1, val_main_v3,
    val_main_cst_0, val_main_cst]

theorem norm_at (L : Fin 4) (b : Fin 8) (R : Fin 256) (n : Fin 1024) : val_main_v14 (F := Ideal) x0 x1 (ix4 L b R n)
    = PostSpec.norm (fun d => x0 (ix3 b R d)) (fun d => x1 (ix2 L d)) n := by
  unfold PostSpec.norm
  rw [← mean_at]
  unfold val_main_v14 val_main_v13 val_main_v12 val_main_v11 val_main_v10
  generalize val_main_v9 (F := Ideal) x0 = y
  pointwise

theorem dot_at (L : Fin 4) (b : Fin 8) (R : Fin 256) (n : Fin 512) : val_main_v15 (F := Ideal) x0 x1 x2 (ix4 L b R n)
    = ProjSpec.dot (fun d => x0 (ix3 b R d)) (fun d => x1 (ix2 L d)) (fun d n => x2 (ix3 L d n)) n := by
  unfold ProjSpec.dot
  simp only [← norm_at]
  unfold val_main_v15
  generalize val_main_v14 (F := Ideal) x0 x1 = y
  pointwise

theorem result_at (L : Fin 4) (b : Fin 8) (G : Fin 4) (R : Fin 256) (l : Fin 128) : val_main_v18 (F := Ideal) x0 x1 x2 (ix5 L b G R l)
    = ProjSpec.outM (fun d => x0 (ix3 b R d)) (fun d => x1 (ix2 L d)) (fun d n => x2 (ix3 L d n)) G l := by
  unfold ProjSpec.outM
  rw [← dot_at, val_main_v18_apply, val_main_v17_apply]
  unfold val_main_v16
  generalize val_main_v15 (F := Ideal) x0 x1 x2 = y
  refine (shapeCast_apply y _ _ (ix4 L b R ⟨128 * G + l, by omega⟩) ?_ :)
  rw [Shape.rowMajor_val_four, Shape.rowMajor_val_five]
  show (((L : ℕ) * 8 + b) * 256 + R) * 512 + (128 * G + l) = ((((L : ℕ) * 8 + b) * 256 + R) * 4 + G) * 128 + l
  omega

/-- The reference's result array. -/
theorem result : val_main_v18 (F := Ideal) x0 x1 x2 = fun i =>
    ProjSpec.outM (fun d => x0 (ix3 (i 1) (i 3) d)) (fun d => x1 (ix2 (i 0) d)) (fun d n => x2 (ix3 (i 0) d n)) (i 2) (i 4) := by
  funext i
  obtain ⟨L, b, G, R, l, rfl⟩ : ∃ (L : Fin 4) (b : Fin 8) (G : Fin 4) (R : Fin 256) (l : Fin 128), i = ix5 L b G R l := ⟨i 0, i 1, i 2, i 3, i 4, by idx_vars i⟩
  exact result_at _ _ _ L b G R l

end Cert.MemKvReferenceIdeal.Mem

end
-- ==== Proof.BiasSpec.lean ====
/- The position bias of the windowed attention: the bucket of a distance, the bias of a pair of positions, and the value a table of
   rows gives at a row number. -/
module

public import Idealize.ShloMosaic.Lib.Pointwise
public import Idealize.ShloMosaic.PureOps

@[expose] public section

noncomputable section

namespace Cert.BiasSpec

open Idealize.ShloMosaic

/-- The key's position less the query's: key `s` of the three blocks around the query's block, query `q` of the block. -/
def rel (q : Fin 128) (s : Fin 384) : BitVec 32 := BitVec.ofNat 32 s - 128#32 - BitVec.ofNat 32 q

/-- The distance before it is made a whole number: eight times its logarithm to the base sixteen, counted from eight. -/
def far (n : BitVec 32) : EReal :=
  Ideal.div (Ideal.log (Ideal.div (((IntOp.maxsi n 1#32).toInt : ℝ) : EReal) (Ideal.ofBits .f32 0x41000000#32))) (Ideal.ofBits .f32 0x40317218#32) * Ideal.ofBits .f32 0x41000000#32

/-- The bucket of a distance, leaving its sign aside. -/
def near (n : BitVec 32) : BitVec 32 :=
  Scalar.select (IntOp.cmpi .slt n 8#32) n (IntOp.minsi (IntOp.addi 8#32 (Ideal.fptosi 32 (far n))) 15#32)

/-- The bucket of a relative position. -/
def bucket (r : BitVec 32) : BitVec 32 :=
  IntOp.addi (Scalar.select (IntOp.cmpi .sgt r 0#32) 16#32 0#32) (near (IntOp.absi r))

theorem ofBits_eight : Ideal.ofBits FTy.f32 0x41000000#32 = ((8 : ℝ) : EReal) := by
  simp [Ideal.ofBits, Ideal.ieee]; rw [← EReal.coe_mul]; norm_num

theorem ofBits_log : ∃ r : ℝ, 1 ≤ r ∧ Ideal.ofBits FTy.f32 0x40317218#32 = (r : EReal) := by
  refine ⟨_, ?_, by simp [Ideal.ofBits, Ideal.ieee]; rw [← EReal.coe_mul]⟩
  norm_num

theorem far_nonneg (n : BitVec 32) (h : 8 ≤ n.toInt) (hn : n.toInt ≤ 256) : ∃ r : ℝ, 0 ≤ r ∧ r ≤ 256 ∧ far n = (r : EReal) := by
  obtain ⟨c, hc, e⟩ := ofBits_log
  have hm : IntOp.maxsi n 1#32 = n := by
    unfold IntOp.maxsi
    refine if_pos ?_
    rw [BitVec.slt_iff_toInt_lt]
    have : (1#32 : BitVec 32).toInt = 1 := by decide
    omega
  have h8 : (8 : ℝ) ≤ (n.toInt : ℝ) := by exact_mod_cast h
  have h256 : (n.toInt : ℝ) ≤ 256 := by exact_mod_cast hn
  have h1 : (1 : ℝ) ≤ (n.toInt : ℝ) * (1 / 8) := by linarith
  have hl := Real.log_nonneg h1
  have hu := Real.log_le_sub_one_of_pos (show (0 : ℝ) < (n.toInt : ℝ) * (1 / 8) by linarith)
  refine ⟨Real.log ((n.toInt : ℝ) * (1 / 8)) * (1 / c) * 8, by positivity, ?_, ?_⟩
  · have h2 : Real.log ((n.toInt : ℝ) * (1 / 8)) * (1 / c) ≤ Real.log ((n.toInt : ℝ) * (1 / 8)) :=
      mul_le_of_le_one_right hl (by rw [div_le_one (by linarith)]; exact hc)
    linarith
  · unfold far
    rw [hm, ofBits_eight, e, Ideal.div_coe (by norm_num : (8 : ℝ) ≠ 0), ← EReal.coe_mul, Ideal.log_coe, if_neg (by linarith),
      Ideal.div_coe (by linarith : c ≠ 0), ← EReal.coe_mul, ← EReal.coe_mul]

theorem whole (x : EReal) (r : ℝ) (e : x = (r : EReal)) (h0 : 0 ≤ r) (h1 : r ≤ 256) : ∃ k : ℕ, k ≤ 256 ∧ Ideal.fptosi 32 x = BitVec.ofNat 32 k := by
  refine ⟨⌊r⌋.toNat, ?_, ?_⟩
  · have : ⌊r⌋ ≤ 256 := by
      have := Int.floor_le r
      have h : ((⌊r⌋ : ℤ) : ℝ) ≤ ((256 : ℤ) : ℝ) := by push_cast; linarith
      exact_mod_cast h
    omega
  · have hf : 0 ≤ ⌊r⌋ := Int.floor_nonneg.mpr h0
    have hg : ⌊r⌋ ≤ 256 := by
      have := Int.floor_le r
      have h : ((⌊r⌋ : ℤ) : ℝ) ≤ ((256 : ℤ) : ℝ) := by push_cast; linarith
      exact_mod_cast h
    rw [e]
    unfold Ideal.fptosi
    rw [Ideal.toIntClamped_coe, if_pos h0]
    rw [show max (-((2 ^ (32 - 1) : ℕ) : ℤ)) (min (((2 ^ (32 - 1) : ℕ) : ℤ) - 1) ⌊r⌋) = ((⌊r⌋.toNat : ℕ) : ℤ) from by norm_num; omega]
    exact BitVec.ofInt_natCast _ _

theorem near_lt (n : BitVec 32) (h : 0 ≤ n.toInt) (hn : n.toInt ≤ 256) : 0 ≤ (near n).toInt ∧ (near n).toInt < 16 := by
  have hs8 : n.slt 8#32 = decide (n.toInt < 8) := rfl
  unfold near IntOp.cmpi Scalar.select
  dsimp only
  rw [hs8]
  by_cases h8 : n.toInt < 8
  · rw [decide_eq_true h8, if_pos (by decide)]
    omega
  · rw [decide_eq_false h8, if_neg (by decide)]
    obtain ⟨r, hr, hr', e⟩ := far_nonneg n (by omega) hn
    obtain ⟨k, hk, e'⟩ := whole _ r e hr hr'
    rw [e']
    unfold IntOp.minsi IntOp.addi
    have e15 : (15#32 : BitVec 32).toInt = 15 := by decide
    have ek : (8#32 + BitVec.ofNat 32 k).toInt = 8 + k := by
      rw [show (8#32 : BitVec 32) = BitVec.ofNat 32 8 from rfl, ← BitVec.ofNat_add, BitVec.toInt_eq_toNat_of_lt] <;>
        rw [BitVec.toNat_ofNat, Nat.mod_eq_of_lt (by omega)] <;> omega
    split
    · rename_i hs
      rw [BitVec.slt_iff_toInt_lt, e15, ek] at hs
      rw [ek]
      omega
    · omega

/-- The relative positions, as numbers. -/
theorem rel_range : ∀ d : Fin 511, (IntOp.absi (BitVec.ofNat 32 d - 255#32)).toInt ≤ 256 ∧ 0 ≤ (IntOp.absi (BitVec.ofNat 32 d - 255#32)).toInt := by
  decide +kernel

theorem rel_eq (q : Fin 128) (s : Fin 384) : rel q s = BitVec.ofNat 32 (s + (127 - q)) - 255#32 := by
  unfold rel
  apply BitVec.eq_of_toNat_eq
  simp only [BitVec.toNat_sub, BitVec.toNat_ofNat]
  omega

theorem bucket_lt (q : Fin 128) (s : Fin 384) : (bucket (rel q s)).toNat < 32 := by
  have h := rel_range ⟨s + (127 - q), by omega⟩
  rw [← rel_eq] at h
  obtain ⟨a, b⟩ := near_lt _ h.2 h.1
  unfold bucket IntOp.addi
  generalize near (IntOp.absi (rel q s)) = y at a b
  have hy : (y.toNat : ℤ) < 16 := by
    rw [BitVec.toInt_eq_toNat_cond] at a b
    split at a <;> omega
  unfold Scalar.select
  split <;> (rw [BitVec.toNat_add]; norm_num; omega)

/-- The same bucket from the position turned about, as the call's host code has it. -/
theorem turn : ∀ d : Fin 511, IntOp.absi (-(BitVec.ofNat 32 d - 255#32)) = IntOp.absi (BitVec.ofNat 32 d - 255#32)
    ∧ IntOp.cmpi .slt (-(BitVec.ofNat 32 d - 255#32)) 0#32 = IntOp.cmpi .sgt (BitVec.ofNat 32 d - 255#32) 0#32 := by
  decide +kernel

theorem bucket_turn (q : Fin 128) (s : Fin 384) :
    IntOp.addi (Scalar.select (IntOp.cmpi .slt (-(rel q s)) 0#32) 16#32 0#32) (near (IntOp.absi (-(rel q s)))) = bucket (rel q s) := by
  have h := turn ⟨s + (127 - q), by omega⟩
  rw [← rel_eq] at h
  unfold bucket
  rw [h.1, h.2]

/-- Within the window, by position in the three blocks. -/
theorem window_iff : ∀ d : Fin 511, IntOp.cmpi .sle (IntOp.absi (BitVec.ofNat 32 d - 255#32)) 128#32 = BitVec.ofBool (decide (127 ≤ (d : ℕ) ∧ (d : ℕ) ≤ 383)) := by
  decide +kernel

theorem in_window (q : Fin 128) (s : Fin 384) : IntOp.cmpi .sle (IntOp.absi (rel q s)) 128#32 = BitVec.ofBool (decide ((q : ℕ) ≤ s ∧ (s : ℕ) ≤ q + 256)) := by
  have h := window_iff ⟨s + (127 - q), by omega⟩
  rw [← rel_eq] at h
  rw [h]
  congr 2
  simp only [eq_iff_iff]
  omega

/-- Whole rows of a table, taken at row numbers. -/
theorem gather_rows
    (wf : GatherDims.WF ⟨2, ![32, 12]⟩ ⟨3, ![128, 384, 1]⟩ ⟨3, ![128, 384, 12]⟩ [2] [0] [] [0] [] 2 ![1, 12])
    (x : (⟨2, ![32, 12]⟩ : Shape).Idx → EReal) (idx : IVec ⟨3, ![128, 384, 1]⟩ 32) (q : Fin 128) (s : Fin 384) (d : Fin 12) (k : Fin 32)
    (h : idx (ix3 q s 0) = BitVec.ofNat 32 k) :
    Host.gather (⟨[2], [0], [], [], [0], 2, ![1, 12], wf⟩ : GatherDims ⟨2, ![32, 12]⟩ ⟨3, ![128, 384, 1]⟩ ⟨3, ![128, 384, 12]⟩) x idx (ix3 q s d) = x (ix2 k d) := by
  generalize hD : (⟨[2], [0], [], [], [0], 2, ![1, 12], wf⟩ : GatherDims ⟨2, ![32, 12]⟩ ⟨3, ![128, 384, 1]⟩ ⟨3, ![128, 384, 12]⟩) = D
  unfold Host.gather
  congr 1
  funext a
  refine Fin.ext ?_
  show D.start (ix3 q s d) idx a + D.batchCoord (ix3 q s d) a + D.offCoord (ix3 q s d) a = _
  rw [GatherDims.batchCoord_eq_zero _ _ _ (fun h => by subst hD; simp at h), Nat.add_zero]
  match a with
  | ⟨1, _⟩ =>
    have e1 : D.start (ix3 q s d) idx 1 = 0 := by
      subst hD; unfold GatherDims.start; exact dif_neg (by simp)
    have e2 : D.offCoord (ix3 q s d) 1 = d := by
      subst hD; unfold GatherDims.offCoord; rw [dif_pos ((GatherDims.mem_sKept _ _).mpr ⟨by simp, by simp⟩)]; rfl
    exact (congrArg₂ (· + ·) e1 e2).trans (Nat.zero_add _)
  | ⟨0, _⟩ =>
    have e2 : D.offCoord (ix3 q s d) 0 = 0 := by
      subst hD; exact GatherDims.offCoord_eq_zero _ _ _ (fun h => ((GatherDims.mem_sKept _ _).mp h).1 (List.mem_singleton.mpr rfl))
    have e1 : D.start (ix3 q s d) idx 0 = k := by
      subst hD
      unfold GatherDims.start
      rw [dif_pos (List.mem_singleton.mpr rfl)]
      have hsi : ∀ p hp, (⟨[2], [0], [], [], [0], 2, ![1, 12], wf⟩ : GatherDims ⟨2, ![32, 12]⟩ ⟨3, ![128, 384, 1]⟩ ⟨3, ![128, 384, 12]⟩).siIdx (ix3 q s d) ⟨p, hp⟩ = ix3 q s 0 := by
        intro p hp
        obtain rfl : p = 0 := by simpa using hp
        funext b
        refine Fin.ext ?_
        match b with
        | ⟨0, _⟩ => rfl
        | ⟨1, _⟩ => rfl
        | ⟨2, _⟩ => rfl
      rw [hsi, h]
      have hk := k.isLt
      have : (BitVec.ofNat 32 (k : ℕ)).toInt = (k : ℕ) := by
        rw [BitVec.toInt_eq_toNat_of_lt] <;> rw [BitVec.toNat_ofNat, Nat.mod_eq_of_lt (by omega)]
        omega
      rw [this]
      show min (k : ℕ) 31 = k
      omega
    exact congrArg₂ (· + ·) e1 e2

/-- The bias of a pair of positions over ln 2, -inf outside the window. -/
def pair (T : Fin 32 → EReal) (q : Fin 128) (s : Fin 384) : EReal :=
  if (q : ℕ) ≤ s ∧ (s : ℕ) ≤ q + 256 then T ⟨(bucket (rel q s)).toNat, bucket_lt q s⟩ * (((Real.log 2)⁻¹ : ℝ) : EReal) else ⊥

/-- The result: variants 0, 2 and 3 are the three key blocks, 1 and 4 all -inf; row `R` of group `g` is head `3 * g + R / 128` at query `R % 128`. -/
def out (T : Fin 32 → Fin 12 → EReal) (v : Fin 5) (g : Fin 4) (R : Fin 384) (l : Fin 128) : EReal :=
  if v = 1 ∨ v = 4 then ⊥ else
    pair (fun k => T k ⟨3 * g + R / 128, by omega⟩) ⟨R % 128, by omega⟩ ⟨128 * min ((v : ℕ) - 1) 2 + l, by omega⟩

end Cert.BiasSpec

end
-- ==== Proof.BiasUnit.lean ====
/- What the bias call leaves: sixty tiles, each a table row number looked up in one head's column, or -inf. -/
module

public import proofs.«01_k».proof.Proof.Gen.BiasAIdeal.Value
public import proofs.«01_k».proof.Proof.BiasSpec
public import Idealize.ShloMosaic.Lib.Pointwise
import Idealize.ShloMosaic.Lib.Pipeline.ValueKit

@[expose] public section

set_option maxRecDepth 16384

noncomputable section

namespace Cert.BiasAIdeal.Bias

open Idealize.ShloMosaic Idealize.ShloMosaic.TcCoe Cert.BiasAIdeal Cert.BiasAIdeal.Gen Cert

section
variable {F : FTy → Type} [FloatOps F] [Named F]

/-- The first `n` table rows looked up at the row numbers, zero elsewhere. -/
def lookup (b : IVec S128x128 32) (t : ℕ → Elt F .f32) : ℕ → FVec F S128x128 .f32
  | 0 => broadcast S128x128 (Scalar.ofBits .f32 0x00000000#32)
  | n + 1 => select (cmpi .eq b (broadcast S128x128 (BitVec.ofNat 32 n))) (broadcast S128x128 (t n)) (lookup b t n)

/-- All of the table, times the factor. -/
def scaled (b : IVec S128x128 32) (t : ℕ → Elt F .f32) : FVec F S128x128 .f32 :=
  mulf (lookup b t 32) (broadcast S128x128 (Named.named κ "log2e" 0x3FB8AA3B#32))

/-- The key is not before the query's place. -/
def upper : IVec S128x128 1 :=
  cmpi .sge (iota .tc S128x128 32 [1] iota_S128x128_d1_w32) (iota .tc S128x128 32 [0] iota_S128x128_d0_w32)

/-- The key is not after the query's place. -/
def lower : IVec S128x128 1 :=
  cmpi .sle (iota .tc S128x128 32 [1] iota_S128x128_d1_w32) (iota .tc S128x128 32 [0] iota_S128x128_d0_w32)

/-- -inf everywhere. -/
def none' : FVec F S128x128 .f32 := broadcast S128x128 (Scalar.ofBits .f32 0xFF800000#32)

/-- The stored tiles of a head, in the order of the stores. -/
def kind (b : Fin 3 → IVec S128x128 32) (t : ℕ → Elt F .f32) : ℕ → FVec F S128x128 .f32
  | 0 => select upper (scaled (b 0) t) none'
  | 1 => scaled (b 1) t
  | 2 => select lower (scaled (b 2) t) none'
  | _ => none'

theorem inb_b (k : Fin 3) : ∀ a, (![(k : ℕ), 0, 0] : Fin 3 → ℕ) a + S1x128x128.size a ≤ S3x128x128.size a := by
  intro a; fin_cases a <;> simp [S1x128x128, S3x128x128] <;> omega

theorem inb_t (n : ℕ) (h : n < 384) : ∀ a, (![n] : Fin 1 → ℕ) a + S1.size a ≤ S384.size a := by
  intro a; fin_cases a; simp [S1, S384]; omega

theorem inb_o (v : Fin 5) (g : Fin 4) (e : Fin 3) : ∀ a, (![(v : ℕ), (g : ℕ), 128 * (e : ℕ), 0] : Fin 4 → ℕ) a + S1x1x128x128.size a ≤ S5x4x384x128.size a := by
  intro a; fin_cases a <;> simp [S1x1x128x128, S5x4x384x128] <;> omega

/-- A block of row numbers. -/
def rowsOf (X1 : Vec F S3x128x128 .i32) (k : Fin 3) : IVec S128x128 32 :=
  shapeCast S128x128 (View.ld X1 (Rect.unit (s := S3x128x128) ![(k : ℕ), 0, 0] S1x128x128.size (inb_b k))) shapeCasts_S1x128x128_S128x128

/-- The variant a store goes to. -/
def variantOf : ℕ → Fin 5
  | 0 => 0
  | 1 => 2
  | 2 => 3
  | 3 => 1
  | _ => 4

/-- Head `h`'s column of the table. -/
def column (X0 : Vec F S384 .f32) (h : Fin 12) (n : ℕ) : Elt F .f32 :=
  View.ld X0 (Rect.unit (s := S384) ![12 * (Fin.ofNat 32 n : ℕ) + h] S1.size (inb_t _ (by have := (Fin.ofNat 32 n).isLt; omega))) (Shape.Idx.first (numel1_S1.symm ▸ Nat.one_pos))

/-- One store. -/
def piece (X0 : Vec F S384 .f32) (X1 : Vec F S3x128x128 .i32) (g : Fin 4) (e : Fin 3) (s : ℕ) : View.Piece (Elt F) S5x4x384x128 .f32 :=
  ⟨Rect.unit (s := S5x4x384x128) ![(variantOf s : ℕ), (g : ℕ), 128 * (e : ℕ), 0] S1x1x128x128.size (inb_o (variantOf s) g e),
    shapeCast S1x1x128x128 (kind (rowsOf X1) (column X0 ⟨3 * g + e, by omega⟩) s) shapeCasts_S128x128_S1x1x128x128⟩

/-- The stores, the last first. -/
def pieces (X0 : Vec F S384 .f32) (X1 : Vec F S3x128x128 .i32) : ℕ → List (View.Piece (Elt F) S5x4x384x128 .f32)
  | 0 => []
  | n + 1 => piece X0 X1 (Fin.ofNat 4 (n / 15)) (Fin.ofNat 3 (n / 5)) (n % 5) :: pieces X0 X1 n

theorem tail_eq {α : Type} {a b : α} {l l' : List α} (h : a = b) (h' : l = l') : a :: l = b :: l' := h ▸ h' ▸ rfl

set_option maxRecDepth 100000 in
set_option maxHeartbeats 0 in
theorem outs_eq (m : (ℓ : Loc nD τ sig) → Buf (Elt F) ℓ) (c : Dev nD) (t : Fin cfg0.N) :
    outsAt0 m c t = View.canon (pieces (iblk m c 0 t) (iblk m c 1 t) 60) := by
  have h0 : View.read (Elt F) (View.whole cc0_stg0_0) ((hs0_0 t).unread (iblk m c 0 t)) = iblk m c 0 t := (hs0_0 t).read_unread _
  have h1 : View.read (Elt F) (View.whole cc0_stg1_0) ((hs0_1 t).unread (iblk m c 1 t)) = iblk m c 1 t := (hs0_1 t).read_unread _
  refine Eq.trans ?_ (congrArg₂ (fun a b => View.canon (pieces a b 60)) h0 h1)
  unfold outsAt0
  frame_out
  refine congrArg View.canon ?_
  iterate 60 (refine tail_eq ?_ ?_; · rfl)
  rfl

end

end Cert.BiasAIdeal.Bias

end
-- ==== Proof.BiasAt.lean ====
/- The tiles of the bias call, read at an entry. -/
module

public import proofs.«01_k».proof.Proof.BiasUnit
import Idealize.ShloMosaic.Lib.Pipeline.ValueKit

@[expose] public section

set_option maxRecDepth 16384

noncomputable section

namespace Cert.BiasAIdeal.Bias

open Idealize.ShloMosaic Idealize.ShloMosaic.TcCoe Cert.BiasAIdeal Cert.BiasAIdeal.Gen Cert

section
variable {F : FTy → Type} [FloatOps F] [Named F]

theorem mem_pieces (X0 : Vec F S384 .f32) (X1 : Vec F S3x128x128 .i32) (k : ℕ) : ∀ n, k < n →
    piece X0 X1 (Fin.ofNat 4 (k / 15)) (Fin.ofNat 3 (k / 5)) (k % 5) ∈ pieces X0 X1 n
  | 0, h => absurd h (Nat.not_lt_zero _)
  | n + 1, h => by
    unfold pieces
    rcases Nat.lt_succ_iff_lt_or_eq.1 h with h | rfl
    · exact List.mem_cons_of_mem _ (mem_pieces X0 X1 k n h)
    · exact List.mem_cons_self

theorem of_mem_pieces (X0 : Vec F S384 .f32) (X1 : Vec F S3x128x128 .i32) (q : View.Piece (Elt F) S5x4x384x128 .f32) :
    ∀ n, q ∈ pieces X0 X1 n → ∃ g e s, s < 5 ∧ q = piece X0 X1 g e s
  | 0, h => absurd h List.not_mem_nil
  | n + 1, h => by
    unfold pieces at h
    rcases List.mem_cons.1 h with h | h
    · exact ⟨_, _, _, Nat.mod_lt _ (by decide), h⟩
    · exact of_mem_pieces X0 X1 q n h

end

/-- The constant that is named in the program. -/
theorem named_eq : Named.named (F := Ideal) κ "log2e" (φ := .f32) 0x3FB8AA3B#32 = (((Real.log 2)⁻¹ : ℝ) : EReal) :=
  IdealRules.named_const.ideal_named_scalar _ _ _ _ rfl

theorem lookup_at (b : IVec S128x128 32) (t : ℕ → EReal) (i : S128x128.Idx) (k : ℕ) (hk : (b i).toNat = k) : ∀ n, k < n → n ≤ 32 →
    lookup (F := Ideal) b t n i = t k
  | 0, h, _ => absurd h (Nat.not_lt_zero _)
  | n + 1, h, hn => by
    show Scalar.select (IntOp.cmpi .eq (b i) (BitVec.ofNat 32 n)) (t n) (lookup (F := Ideal) b t n i) = t k
    unfold IntOp.cmpi Scalar.select
    dsimp only
    by_cases e : k = n
    · subst e
      rw [if_pos]
      rw [show (b i == BitVec.ofNat 32 k) = true from beq_iff_eq.mpr (BitVec.eq_of_toNat_eq (by rw [hk, BitVec.toNat_ofNat, Nat.mod_eq_of_lt (by omega)]))]
      rfl
    · rw [if_neg, lookup_at b t i k hk n (by omega) (by omega)]
      rw [show (b i == BitVec.ofNat 32 n) = false from beq_eq_false_iff_ne.mpr fun h => e (by rw [← hk, h, BitVec.toNat_ofNat, Nat.mod_eq_of_lt (by omega)])]
      decide

theorem scaled_at (b : IVec S128x128 32) (t : ℕ → EReal) (i : S128x128.Idx) (k : ℕ) (hk : (b i).toNat = k) (h : k < 32) :
    scaled (F := Ideal) b t i = t k * (((Real.log 2)⁻¹ : ℝ) : EReal) := by
  rw [← named_eq, ← lookup_at b t i k hk 32 h le_rfl]
  rfl

theorem neg_inf : Ideal.ofBits .f32 0xFF800000#32 = ⊥ := by
  simp [Ideal.ofBits, Ideal.ieee]

theorem none_at (i : S128x128.Idx) : none' (F := Ideal) i = ⊥ := neg_inf

theorem place (n : Fin 128) : (BitVec.ofNat 32 (n : ℕ)).toInt = (n : ℕ) := by
  have hn := n.isLt
  rw [BitVec.toInt_eq_toNat_of_lt] <;> rw [BitVec.toNat_ofNat, Nat.mod_eq_of_lt (by omega)]
  omega

theorem upper_at (q j : Fin 128) : upper (ix2 q j) = BitVec.ofBool (decide ((q : ℕ) ≤ j)) := by
  have h : upper (ix2 q j) = IntOp.cmpi .sge (BitVec.ofNat 32 (j : ℕ)) (BitVec.ofNat 32 (q : ℕ)) := by
    pointwise [upper]
  rw [h]
  unfold IntOp.cmpi
  dsimp only
  congr 1
  rw [Bool.eq_iff_iff, decide_eq_true_iff]
  first | rw [BitVec.sle_iff_toInt_le] | (rw [Bool.not_eq_true', ← Bool.not_eq_true, BitVec.slt_iff_toInt_lt])
  have h1 := place q
  have h2 := place j
  omega

theorem lower_at (q j : Fin 128) : lower (ix2 q j) = BitVec.ofBool (decide ((j : ℕ) ≤ q)) := by
  have h : lower (ix2 q j) = IntOp.cmpi .sle (BitVec.ofNat 32 (j : ℕ)) (BitVec.ofNat 32 (q : ℕ)) := by
    pointwise [lower]
  rw [h]
  unfold IntOp.cmpi
  dsimp only
  congr 1
  rw [Bool.eq_iff_iff, decide_eq_true_iff]
  first | rw [BitVec.sle_iff_toInt_le] | (rw [Bool.not_eq_true', ← Bool.not_eq_true, BitVec.slt_iff_toInt_lt])
  have h1 := place q
  have h2 := place j
  omega

theorem select_ofBool {α : Type} (p : Prop) [Decidable p] (a b : α) : Scalar.select (BitVec.ofBool (decide p)) a b = if p then a else b := by
  by_cases h : p
  · rw [decide_eq_true h, if_pos h]; rfl
  · rw [decide_eq_false h, if_neg h]; rfl

/-- A tile's entry. -/
theorem kind_at (b : Fin 3 → IVec S128x128 32) (t : ℕ → EReal) (T : Fin 32 → EReal) (q j : Fin 128)
    (hb : ∀ k : Fin 3, b k (ix2 q j) = BiasSpec.bucket (BiasSpec.rel q ⟨128 * k + j, by omega⟩)) (ht : ∀ n : Fin 32, t n = T n) (s : ℕ) :
    kind (F := Ideal) b t s (ix2 q j) = if h : s < 3 then BiasSpec.pair T q ⟨128 * s + j, by omega⟩ else ⊥ := by
  have hs : ∀ k : Fin 3, scaled (F := Ideal) (b k) t (ix2 q j)
      = T ⟨(BiasSpec.bucket (BiasSpec.rel q ⟨128 * k + j, by omega⟩)).toNat, BiasSpec.bucket_lt _ _⟩ * (((Real.log 2)⁻¹ : ℝ) : EReal) := by
    intro k
    rw [scaled_at _ _ _ _ (congrArg BitVec.toNat (hb k)) (BiasSpec.bucket_lt _ _)]
    exact congrArg (· * (((Real.log 2)⁻¹ : ℝ) : EReal)) (ht ⟨_, BiasSpec.bucket_lt _ _⟩)
  have hq := q.isLt
  have hj := j.isLt
  match s with
  | 0 =>
    rw [dif_pos (by decide)]
    show Scalar.select (upper (ix2 q j)) (scaled (F := Ideal) (b 0) t (ix2 q j)) (none' (F := Ideal) (ix2 q j)) = _
    rw [upper_at, select_ofBool, none_at, hs 0]
    unfold BiasSpec.pair
    refine if_congr ?_ rfl rfl
    show (q : ℕ) ≤ j ↔ (q : ℕ) ≤ 128 * 0 + j ∧ 128 * 0 + (j : ℕ) ≤ q + 256
    omega
  | 1 =>
    rw [dif_pos (by decide)]
    show scaled (F := Ideal) (b 1) t (ix2 q j) = _
    rw [hs 1]
    unfold BiasSpec.pair
    rw [if_pos]
    · rfl
    · show (q : ℕ) ≤ 128 * 1 + j ∧ 128 * 1 + (j : ℕ) ≤ q + 256
      omega
  | 2 =>
    rw [dif_pos (by decide)]
    show Scalar.select (lower (ix2 q j)) (scaled (F := Ideal) (b 2) t (ix2 q j)) (none' (F := Ideal) (ix2 q j)) = _
    rw [lower_at, select_ofBool, none_at, hs 2]
    unfold BiasSpec.pair
    refine if_congr ?_ rfl rfl
    show (j : ℕ) ≤ q ↔ (q : ℕ) ≤ 128 * 2 + j ∧ 128 * 2 + (j : ℕ) ≤ q + 256
    omega
  | n + 3 =>
    rw [dif_neg (by omega)]
    exact none_at _

theorem rows_at (X1 : Vec Ideal S3x128x128 .i32) (k : Fin 3) (q j : Fin 128) : rowsOf (F := Ideal) X1 k (ix2 q j) = X1 (ix3 k q j) := by
  unfold rowsOf
  refine (shapeCast_apply _ _ _ (ix3 (0 : Fin 1) q j) ?_).trans ?_
  · rw [Shape.rowMajor_val_three, Shape.rowMajor_val_two]
    pointwise
  · show X1 _ = X1 _
    congr 1
    funext a
    refine Fin.ext ?_
    fin_cases a
    · show (k : ℕ) + 1 * 0 = k
      omega
    · show 0 + 1 * (q : ℕ) = q
      omega
    · show 0 + 1 * (j : ℕ) = j
      omega

theorem column_at (X0 : Vec Ideal S384 .f32) (h : Fin 12) (n : Fin 32) : column (F := Ideal) X0 h n = X0 (ix1 ⟨12 * n + h, by omega⟩) := by
  unfold column
  have e : ((Fin.ofNat 32 (n : ℕ) : Fin 32) : ℕ) = n := Nat.mod_eq_of_lt n.isLt
  show X0 _ = X0 _
  congr 1
  funext a
  refine Fin.ext ?_
  fin_cases a
  show 12 * ((Fin.ofNat 32 (n : ℕ) : Fin 32) : ℕ) + h + 1 * 0 = 12 * n + h
  omega

theorem tile_cast (y : FVec Ideal S128x128 .f32) (q j : Fin 128) : shapeCast S1x1x128x128 y shapeCasts_S128x128_S1x1x128x128 (ix4 0 0 q j) = y (ix2 q j) := by
  pointwise

end Cert.BiasAIdeal.Bias

end
-- ==== Proof.BiasFinal.lean ====
/- The arrays the bias call's host code prepares, and the call's result array. -/
module

public import proofs.«01_k».proof.Proof.BiasAt
import Idealize.ShloMosaic.Lib.Pipeline.ValueKit

@[expose] public section

set_option maxRecDepth 16384

noncomputable section

namespace Cert.BiasAIdeal.Bias

open Idealize.ShloMosaic Idealize.ShloMosaic.TcCoe Cert.BiasAIdeal Cert.BiasAIdeal.Gen Cert

variable (m : (ℓ : Loc nD τ sig) → Buf (Elt Ideal) ℓ) (c : Dev nD)

/-- The table. -/
abbrev AT : FVec Ideal S32x12 .f32 := m ((c : Thread nD τ).loc main_arg0)

theorem idx : ∀ t : Fin cfg0.N, win0_0.index t = ![0] ∧ win0_1.index t = ![0, 0, 0] ∧ win0_2.index t = ![0, 0, 0, 0] :=
  (by decide +kernel : ∀ t : Fin grid0.N, _)

theorem V_t : V m c main_v46 = shapeCast S384 (AT m c) shapeCasts_S32x12_S384 := by
  unfold V hostOps0 hostOps0_1 hostOps0_2 hostOps0_3 hostOps0_4
  after_results
  try rfl

/-- The first block's positions, relative to the query's. -/
def relA : IVec S128x128 32 :=
  subi (broadcastInDim S128x128 ![0, 1] bcast_S1x128_S128x128_0_1 (subi (broadcastInDim S1x128 ![1] bcast_S128_S1x128_1 (iotaInDim S128 32 0)) (broadcastInDim S1x128 ![] bcast_S_S1x128 (constantI S_ 32 128#32))))
    (broadcastInDim S128x128 ![0, 1] bcast_S128x1_S128x128_0_1 (broadcastInDim S128x1 ![0] bcast_S128_S128x1_0 (iotaInDim S128 32 0)))

/-- The query's own block. -/
def relB : IVec S128x128 32 :=
  subi (broadcastInDim S128x128 ![0, 1] bcast_S1x128_S128x128_0_1 (broadcastInDim S1x128 ![1] bcast_S128_S1x128_1 (iotaInDim S128 32 0)))
    (broadcastInDim S128x128 ![0, 1] bcast_S128x1_S128x128_0_1 (broadcastInDim S128x1 ![0] bcast_S128_S128x1_0 (iotaInDim S128 32 0)))

/-- The last block. -/
def relC : IVec S128x128 32 :=
  subi (broadcastInDim S128x128 ![0, 1] bcast_S1x128_S128x128_0_1 (addi (broadcastInDim S1x128 ![1] bcast_S128_S1x128_1 (iotaInDim S128 32 0)) (broadcastInDim S1x128 ![] bcast_S_S1x128 (constantI S_ 32 128#32))))
    (broadcastInDim S128x128 ![0, 1] bcast_S128x1_S128x128_0_1 (broadcastInDim S128x1 ![0] bcast_S128_S128x1_0 (iotaInDim S128 32 0)))

/-- The three blocks together. -/
def rels : IVec S3x128x128 32 :=
  concatenate S3x128x128 0 [⟨S1x128x128, broadcastInDim S1x128x128 ![1, 2] bcast_S128x128_S1x128x128_1_2 relA⟩,
    ⟨S1x128x128, broadcastInDim S1x128x128 ![1, 2] bcast_S128x128_S1x128x128_1_2 relB⟩,
    ⟨S1x128x128, broadcastInDim S1x128x128 ![1, 2] bcast_S128x128_S1x128x128_1_2 relC⟩] concatenates_S1x128x128_S1x128x128_S1x128x128_S3x128x128_d0

/-- A number in every place. -/
abbrev allI (n : BitVec 32) : IVec S3x128x128 32 := broadcastInDim S3x128x128 ![] bcast_S_S3x128x128 (constantI S_ 32 n)

/-- A float in every place. -/
abbrev allF (n : BitVec 32) : FVec Ideal S3x128x128 .f32 := broadcastInDim S3x128x128 ![] bcast_S_S3x128x128 (constant S_ .f32 n)

/-- The buckets from the positions turned round. -/
def bucketsOf (y : IVec S3x128x128 32) : IVec S3x128x128 32 :=
  addi (select (cmpi .slt y (allI 0#32)) (allI 16#32) (allI 0#32))
    (select (cmpi .slt (absi y) (allI 8#32)) (absi y)
      (minsi (addi (allI 8#32) (fptosi 32 (mulf (Host.divf (Host.log (Host.divf (sitofp (F := Ideal) .f32 (maxsi (absi y) (allI 1#32))) (allF 0x41000000#32))) (allF 0x40317218#32)) (allF 0x41000000#32)))) (allI 15#32)))

theorem V_b : V m c main_v45 = bucketsOf (negi rels) := by
  unfold V hostOps0 hostOps0_1 hostOps0_2 hostOps0_3 hostOps0_4
  after_results
  try rfl

theorem buckets_at (y : IVec S3x128x128 32) (i : S3x128x128.Idx) : bucketsOf y i
    = IntOp.addi (Scalar.select (IntOp.cmpi .slt (y i) 0#32) 16#32 0#32) (BiasSpec.near (IntOp.absi (y i))) := by
  rfl

theorem relA_at (q j : Fin 128) : relA (ix2 q j) = BitVec.ofNat 32 j - 128#32 - BitVec.ofNat 32 q := by
  pointwise [relA]
  rfl

theorem relB_at (q j : Fin 128) : relB (ix2 q j) = BitVec.ofNat 32 j - BitVec.ofNat 32 q := by
  pointwise [relB]
  rfl

theorem relC_at (q j : Fin 128) : relC (ix2 q j) = BitVec.ofNat 32 j + 128#32 - BitVec.ofNat 32 q := by
  pointwise [relC]
  rfl

theorem rels_at (k : Fin 3) (q j : Fin 128) : rels (ix3 k q j) = BiasSpec.rel q ⟨128 * k + j, by omega⟩ := by
  have hA := relA_at q j
  have hB := relB_at q j
  have hC := relC_at q j
  unfold rels
  generalize relA = a at hA ⊢
  generalize relB = b at hB ⊢
  generalize relC = c at hC ⊢
  unfold BiasSpec.rel
  fin_cases k
  · refine Eq.trans ?_ (hA.trans ?_)
    · pointwise
    · show _ = BitVec.ofNat 32 (128 * 0 + j) - 128#32 - BitVec.ofNat 32 q
      rw [Nat.mul_zero, Nat.zero_add]
  · refine Eq.trans ?_ (hB.trans ?_)
    · pointwise
    · show _ = BitVec.ofNat 32 (128 * 1 + j) - 128#32 - BitVec.ofNat 32 q
      rw [Nat.mul_one, BitVec.ofNat_add, BitVec.add_comm, BitVec.add_sub_cancel]
  · refine Eq.trans ?_ (hC.trans ?_)
    · pointwise
    · show _ = BitVec.ofNat 32 (128 * 2 + j) - 128#32 - BitVec.ofNat 32 q
      rw [show 128 * 2 + (j : ℕ) = j + 128 + 128 by omega, BitVec.ofNat_add, BitVec.ofNat_add, BitVec.add_sub_cancel]

theorem V_b_at (k : Fin 3) (q j : Fin 128) : V m c main_v45 (ix3 k q j) = BiasSpec.bucket (BiasSpec.rel q ⟨128 * k + j, by omega⟩) := by
  rw [V_b, buckets_at, ← BiasSpec.bucket_turn, ← rels_at]
  rfl

variable (t : Fin cfg0.N)

theorem t_at (n : Fin 32) (h : Fin 12) : iblk m c 0 t (ix1 ⟨12 * n + h, by omega⟩) = AT m c (ix2 n h) := by
  have e : shapeCast S384 (AT m c) shapeCasts_S32x12_S384 (ix1 ⟨12 * n + h, by omega⟩) = AT m c (ix2 n h) := by
    refine shapeCast_apply _ _ _ _ ?_
    rw [Shape.rowMajor_val_two, Shape.rowMajor_val_one]
    show (n : ℕ) * 12 + h = 12 * n + h
    omega
  rw [← e, ← V_t]
  blk_ext [iblk, idx t]

theorem b_at (k : Fin 3) (q j : Fin 128) : iblk m c 1 t (ix3 k q j) = BiasSpec.bucket (BiasSpec.rel q ⟨128 * k + j, by omega⟩) := by
  rw [← V_b_at m c]
  blk_ext [iblk, idx t]

/-- The result array. -/
def OUT : FVec Ideal S5x4x384x128 .f32 := fun i => BiasSpec.out (fun k d => AT m c (ix2 k d)) (i 0) (i 1) (i 2) (i 3)

theorem piece_at (g : Fin 4) (e : Fin 3) (s : ℕ) (hs : s < 5) (q j : Fin 128) :
    kind (F := Ideal) (rowsOf (F := Ideal) (iblk m c 1 t)) (column (F := Ideal) (iblk m c 0 t) ⟨3 * g + e, by omega⟩) s (ix2 q j)
      = BiasSpec.out (fun k d => AT m c (ix2 k d)) (variantOf s) g ⟨128 * e + q, by omega⟩ j := by
  rw [kind_at _ _ (fun n => AT m c (ix2 n ⟨3 * g + e, by omega⟩)) q j (fun k => (rows_at _ k q j).trans (b_at m c t k q j))
    (fun n => (column_at _ _ n).trans (t_at m c t n _))]
  have hq := q.isLt
  have e1 : (128 * (e : ℕ) + q) / 128 = e := by omega
  have e2 : (128 * (e : ℕ) + q) % 128 = q := by omega
  have e3 : (⟨(128 * (e : ℕ) + q) % 128, by omega⟩ : Fin 128) = q := Fin.ext e2
  have e4 : (⟨3 * (g : ℕ) + (128 * (e : ℕ) + q) / 128, by omega⟩ : Fin 12) = ⟨3 * g + e, by omega⟩ := Fin.ext (by show 3 * (g : ℕ) + (128 * (e : ℕ) + q) / 128 = 3 * g + e; rw [e1])
  unfold BiasSpec.out
  dsimp only
  rw [e3, e4]
  interval_cases s <;> rfl

theorem piece_of (g' : Fin 4) (e' : Fin 3) (s : ℕ) (hs : s < 5) (x : S1x1x128x128.Idx) (v : Fin 5) (g : Fin 4) (R : Fin 384) (l : Fin 128)
    (hv : (v : ℕ) = variantOf s) (hg : (g : ℕ) = g') (hR : (R : ℕ) = 128 * (e' : ℕ) + (x 2 : ℕ)) (hl : (l : ℕ) = (x 3 : ℕ)) :
    shapeCast S1x1x128x128 (kind (F := Ideal) (rowsOf (F := Ideal) (iblk m c 1 t)) (column (F := Ideal) (iblk m c 0 t) ⟨3 * g' + e', by omega⟩) s) shapeCasts_S128x128_S1x1x128x128 x
      = BiasSpec.out (fun k d => AT m c (ix2 k d)) v g R l := by
  obtain ⟨x0, x1, q, j, rfl⟩ : ∃ (x0 x1 : Fin 1) (q j : Fin 128), x = ix4 x0 x1 q j := ⟨x 0, x 1, x 2, x 3, by idx_vars x⟩
  obtain rfl : x0 = 0 := by omega
  obtain rfl : x1 = 0 := by omega
  obtain rfl : v = variantOf s := Fin.ext hv
  obtain rfl : g = g' := Fin.ext hg
  obtain rfl : j = l := Fin.ext hl.symm
  have e : R = ⟨128 * e' + q, by omega⟩ := Fin.ext hR
  rw [tile_cast, e]
  exact piece_at m c t g e' s hs q j

/-- The place of a variant in the order of the stores. -/
def placeOf : Fin 5 → Fin 5 := ![0, 3, 1, 2, 4]

theorem variant_place : ∀ v : Fin 5, variantOf (placeOf v : ℕ) = v := by decide

/-- What the step leaves at an entry. -/
theorem out_at (v : Fin 5) (g : Fin 4) (R : Fin 384) (l : Fin 128) :
    outsAt0 m c t (ix4 v g R l) = BiasSpec.out (fun k d => AT m c (ix2 k d)) v g R l := by
  rw [outs_eq]
  have hv := variant_place v
  have hp := (placeOf v).isLt
  refine View.canon_eq_of_allAt _ _ _ ?_ ?_
  · refine ⟨_, mem_pieces _ _ (15 * g + 5 * (R / 128) + placeOf v) 60 (by omega), ?_⟩
    rw [show (15 * (g : ℕ) + 5 * (R / 128) + placeOf v) % 5 = placeOf v by omega]
    unfold piece
    apply Rect.mem_set_unit.mpr
    intro k
    fin_cases k
    · rw [hv]
      exact ⟨le_rfl, Nat.lt_succ_self _⟩
    · show (15 * (g : ℕ) + 5 * (R / 128) + placeOf v) / 15 % 4 ≤ (g : ℕ) ∧ (g : ℕ) < (15 * (g : ℕ) + 5 * (R / 128) + placeOf v) / 15 % 4 + 1
      omega
    · show 128 * ((15 * (g : ℕ) + 5 * (R / 128) + placeOf v) / 5 % 3) ≤ (R : ℕ) ∧ (R : ℕ) < 128 * ((15 * (g : ℕ) + 5 * (R / 128) + placeOf v) / 5 % 3) + 128
      omega
    · exact ⟨Nat.zero_le _, by show (l : ℕ) < 0 + 128; omega⟩
    exact inb_o _ _ _
  · intro q hq x hx
    obtain ⟨g', e', s, hs, rfl⟩ := of_mem_pieces _ _ q 60 hq
    have g0 : (x 0 : ℕ) < 1 := (x 0).isLt
    have g0' : (x 1 : ℕ) < 1 := (x 1).isLt
    have g1 : (variantOf s : ℕ) + 1 * (x 0 : ℕ) = v := congrArg (fun y : S5x4x384x128.Idx => (y 0 : ℕ)) hx
    have g2 : (g' : ℕ) + 1 * (x 1 : ℕ) = g := congrArg (fun y : S5x4x384x128.Idx => (y 1 : ℕ)) hx
    have g3 : 128 * (e' : ℕ) + 1 * (x 2 : ℕ) = R := congrArg (fun y : S5x4x384x128.Idx => (y 2 : ℕ)) hx
    have g4 : 0 + 1 * (x 3 : ℕ) = l := congrArg (fun y : S5x4x384x128.Idx => (y 3 : ℕ)) hx
    exact piece_of m c t g' e' s hs x v g R l (by omega) (by omega) (by omega) (by omega)

/-- The result array after the run. -/
theorem final : (dats m 0 c).arrAt 2 (cfgs 0).N = OUT m c := by
  refine (dats m 0 c).arrAt_eq_of_covers 2 _ (by decide +kernel) fun t _ y => ?_
  blk_simp
  rw [after0_2]
  obtain ⟨v, g, R, l, rfl⟩ : ∃ (v : Fin 5) (g : Fin 4) (R : Fin 384) (l : Fin 128), y = ix4 v g R l := ⟨y 0, y 1, y 2, y 3, by idx_vars y⟩
  refine (out_at m c t v g R l).trans ?_
  unfold OUT
  congr 1 <;> (refine Fin.ext ?_; blk_simp [idx t]; try first | rfl | (dsimp only; omega))

end Cert.BiasAIdeal.Bias

end
-- ==== Proof.BiasRef.lean ====
/- What the reference of the bias call computes, entry by entry. -/
module

public import proofs.«01_k».proof.Proof.Gen.BiasAReferenceIdeal.Read
public import proofs.«01_k».proof.Proof.BiasSpec
public import Idealize.ShloMosaic.Lib.Pointwise

@[expose] public section

set_option maxRecDepth 16384

noncomputable section

namespace Cert.BiasAReferenceIdeal.Bias

open Idealize.ShloMosaic Cert.BiasAReferenceIdeal Cert.BiasAReferenceIdeal.Gen Cert.BiasAReferenceIdeal.Read Cert

variable (x0 : FVec Ideal S32x12 .f32)

theorem rel_at (q : Fin 128) (s : Fin 384) : val_main_v8 (F := Ideal) (ix2 q s) = BiasSpec.rel q s := by
  pointwise [val_main_v8, val_main_v7, val_main_v6, val_main_v5, val_main_v4, val_main_v3, val_main_v2, val_main_v1, val_main_v0, val_main_c, BiasSpec.rel]
  rfl

theorem far_at (q : Fin 128) (s : Fin 384) : val_main_v19 (F := Ideal) (ix2 q s) = BiasSpec.far (IntOp.absi (BiasSpec.rel q s)) := by
  rw [← rel_at]
  unfold BiasSpec.far val_main_v19 val_main_v17 val_main_v15 val_main_v14 val_main_v12 val_main_v11 val_main_v9
  generalize val_main_v8 (F := Ideal) = y
  pointwise [val_main_v18, val_main_v16, val_main_v13, val_main_v10, val_main_cst, val_main_cst_1, val_main_cst_2, val_main_c_0]
  rfl

theorem bucket_at (q : Fin 128) (s : Fin 384) : val_main_v32 (F := Ideal) (ix2 q s) = BiasSpec.bucket (BiasSpec.rel q s) := by
  unfold BiasSpec.bucket BiasSpec.near
  rw [← far_at, ← rel_at]
  unfold val_main_v32 val_main_v31 val_main_v30 val_main_v29 val_main_v27 val_main_v25 val_main_v24 val_main_v22 val_main_v20 val_main_v9
  generalize val_main_v8 (F := Ideal) = y
  generalize val_main_v19 (F := Ideal) = z
  pointwise [val_main_v28, val_main_v26, val_main_v23, val_main_v21, val_main_call0_v0, val_main_call0_v1, val_main_c_3, val_main_c_4, val_main_c_5, val_main_c_6, val_main_c_7, val_main_c_8]
  show IntOp.addi (select _ _ _ (ix2 q s)) _ = _
  pointwise []
  rfl

theorem row_at (q : Fin 128) (s : Fin 384) : val_main_v38 (F := Ideal) (ix3 q s 0) = BiasSpec.bucket (BiasSpec.rel q s) := by
  have h := bucket_at q s
  have hl := BiasSpec.bucket_lt q s
  unfold val_main_v38 val_main_v37 val_main_v36 val_main_v34
  generalize val_main_v32 (F := Ideal) = y at h ⊢
  pointwise [val_main_v33, val_main_v35, val_main_c_9, val_main_c_10]
  rw [h]
  generalize BiasSpec.bucket (BiasSpec.rel q s) = b at hl ⊢
  refine if_neg ?_
  unfold IntOp.cmpi
  dsimp only
  have hz : b.slt 0#32 = false := by
    rw [← Bool.not_eq_true, BitVec.slt_iff_toInt_lt, BitVec.toInt_eq_toNat_of_lt (by omega)]
    have : (0#32 : BitVec 32).toInt = 0 := by decide
    omega
  rw [hz]
  decide

theorem table_at (q : Fin 128) (s : Fin 384) (d : Fin 12) :
    val_main_v39 (F := Ideal) x0 (ix3 q s d) = x0 (ix2 ⟨(BiasSpec.bucket (BiasSpec.rel q s)).toNat, BiasSpec.bucket_lt q s⟩ d) := by
  unfold val_main_v39
  refine BiasSpec.gather_rows _ x0 _ q s d ⟨_, BiasSpec.bucket_lt q s⟩ ?_
  rw [row_at]
  exact BitVec.eq_of_toNat_eq (by simp)

theorem neg_inf : Ideal.ofBits .f32 0xFF800000#32 = ⊥ := by
  simp [Ideal.ofBits, Ideal.ieee]

theorem over_ln (x : EReal) : Ideal.div x (Ideal.log (Ideal.ofBits FTy.f32 0x40000000#32)) = x * (((Real.log 2)⁻¹ : ℝ) : EReal) := by
  have hl : (0 : ℝ) < Real.log 2 := Real.log_pos (by norm_num)
  have h2 : Ideal.ofBits FTy.f32 0x40000000#32 = ((2 : ℝ) : EReal) := by
    simp [Ideal.ofBits, Ideal.ieee]; rw [← EReal.coe_mul]; norm_num
  rw [h2, Ideal.log_coe, if_neg (by norm_num), Ideal.div_coe hl.ne', one_div]

theorem select_ofBool {α : Type} (p : Prop) [Decidable p] (a b : α) : Scalar.select (BitVec.ofBool (decide p)) a b = if p then a else b := by
  by_cases h : p
  · rw [decide_eq_true h, if_pos h]; rfl
  · rw [decide_eq_false h, if_neg h]; rfl

theorem mask_at (q : Fin 128) (s : Fin 384) : val_main_v45 (F := Ideal) (ix2 q s) = BitVec.ofBool (decide ((q : ℕ) ≤ s ∧ (s : ℕ) ≤ q + 256)) := by
  rw [← BiasSpec.in_window, ← rel_at]
  unfold val_main_v45 val_main_v9
  generalize val_main_v8 (F := Ideal) = y
  pointwise [val_main_v44, val_main_c_12]

theorem masked_at (h : Fin 12) (q : Fin 128) (s : Fin 384) : val_main_v46 (F := Ideal) x0 (ix3 h q s) = BiasSpec.pair (fun k => x0 (ix2 k h)) q s := by
  have e1 : val_main_v40 (F := Ideal) x0 (ix3 h q s) = x0 (ix2 ⟨(BiasSpec.bucket (BiasSpec.rel q s)).toNat, BiasSpec.bucket_lt q s⟩ h) := by
    refine Eq.trans ?_ (table_at x0 q s h)
    unfold val_main_v40
    generalize val_main_v39 (F := Ideal) x0 = y
    pointwise
  have e2 : val_main_v43 (F := Ideal) x0 (ix3 h q s) = x0 (ix2 ⟨(BiasSpec.bucket (BiasSpec.rel q s)).toNat, BiasSpec.bucket_lt q s⟩ h) * (((Real.log 2)⁻¹ : ℝ) : EReal) := by
    rw [← over_ln, ← e1]
    unfold val_main_v43
    generalize val_main_v40 (F := Ideal) x0 = y
    pointwise [val_main_v42, val_main_v41, val_main_cst_11]
  have e3 : val_main_call2_v1 (F := Ideal) (ix3 h q s) = val_main_v45 (F := Ideal) (ix2 q s) := by
    unfold val_main_call2_v1
    generalize val_main_v45 (F := Ideal) = y
    pointwise
  have e4 : val_main_call2_v2 (F := Ideal) (ix3 h q s) = ⊥ := neg_inf
  show Scalar.select (val_main_call2_v1 (F := Ideal) (ix3 h q s)) (val_main_v43 (F := Ideal) x0 (ix3 h q s)) (val_main_call2_v2 (F := Ideal) (ix3 h q s)) = _
  rw [e2, e3, e4, mask_at, select_ofBool]
  rfl

theorem laid_at (g : Fin 4) (R : Fin 384) (k : Fin 3) (l : Fin 128) : val_main_v47 (F := Ideal) x0 (ix4 g R k l)
    = BiasSpec.pair (fun n => x0 (ix2 n ⟨3 * g + R / 128, by omega⟩)) ⟨R % 128, by omega⟩ ⟨128 * k + l, by omega⟩ := by
  rw [← masked_at]
  unfold val_main_v47
  generalize val_main_v46 (F := Ideal) x0 = y
  refine shapeCast_apply _ _ _ _ ?_
  rw [Shape.rowMajor_val_three, Shape.rowMajor_val_four]
  show ((3 * (g : ℕ) + R / 128) * 128 + R % 128) * 384 + (128 * k + l) = ((g * 384 + R) * 3 + k) * 128 + l
  omega

theorem block0 (g : Fin 4) (R : Fin 384) (l : Fin 128) : val_main_v57 (F := Ideal) x0 (ix4 0 g R l) = val_main_v47 (F := Ideal) x0 (ix4 g R 0 l) := by
  unfold val_main_v57 val_main_v50 val_main_v49
  generalize val_main_v47 (F := Ideal) x0 = y
  pointwise

theorem block1 (g : Fin 4) (R : Fin 384) (l : Fin 128) : val_main_v59 (F := Ideal) x0 (ix4 0 g R l) = val_main_v47 (F := Ideal) x0 (ix4 g R 1 l) := by
  unfold val_main_v59 val_main_v52 val_main_v51
  generalize val_main_v47 (F := Ideal) x0 = y
  pointwise

theorem block2 (g : Fin 4) (R : Fin 384) (l : Fin 128) : val_main_v60 (F := Ideal) x0 (ix4 0 g R l) = val_main_v47 (F := Ideal) x0 (ix4 g R 2 l) := by
  unfold val_main_v60 val_main_v54 val_main_v53
  generalize val_main_v47 (F := Ideal) x0 = y
  pointwise

theorem empty1 (g : Fin 4) (R : Fin 384) (l : Fin 128) : val_main_v58 (F := Ideal) (ix4 0 g R l) = ⊥ := neg_inf

theorem empty2 (g : Fin 4) (R : Fin 384) (l : Fin 128) : val_main_v61 (F := Ideal) (ix4 0 g R l) = ⊥ := neg_inf

theorem out_at (v : Fin 5) (g : Fin 4) (R : Fin 384) (l : Fin 128) :
    val_main_v62 (F := Ideal) x0 (ix4 v g R l) = BiasSpec.out (fun k d => x0 (ix2 k d)) v g R l := by
  have h0 := (block0 x0 g R l).trans (laid_at x0 g R 0 l)
  have h1 := (block1 x0 g R l).trans (laid_at x0 g R 1 l)
  have h2 := (block2 x0 g R l).trans (laid_at x0 g R 2 l)
  have h3 := empty1 g R l
  have h4 := empty2 g R l
  unfold val_main_v62 BiasSpec.out
  generalize val_main_v57 (F := Ideal) x0 = y0 at h0 ⊢
  generalize val_main_v58 (F := Ideal) = y1 at h3 ⊢
  generalize val_main_v59 (F := Ideal) x0 = y2 at h1 ⊢
  generalize val_main_v60 (F := Ideal) x0 = y3 at h2 ⊢
  generalize val_main_v61 (F := Ideal) = y4 at h4 ⊢
  fin_cases v
  · refine Eq.trans ?_ h0
    pointwise
  · refine Eq.trans ?_ h3
    pointwise
  · refine Eq.trans ?_ h1
    pointwise
  · refine Eq.trans ?_ h2
    pointwise
  · refine Eq.trans ?_ h4
    pointwise

/-- The reference's result. -/
theorem result : val_main_v62 (F := Ideal) x0 = fun i => BiasSpec.out (fun k d => x0 (ix2 k d)) (i 0) (i 1) (i 2) (i 3) := by
  funext i
  obtain ⟨v, g, R, l, rfl⟩ : ∃ (v : Fin 5) (g : Fin 4) (R : Fin 384) (l : Fin 128), i = ix4 v g R l := ⟨i 0, i 1, i 2, i 3, by idx_vars i⟩
  exact out_at x0 v g R l

end Cert.BiasAReferenceIdeal.Bias

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_tame
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostReferenceIdeal
public import proofs.«01_k».proof.Proof.Gen.PostReferenceIdeal.Run
public import proofs.«01_k».proof.Proof.Gen.PostReferenceIdeal.Read
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjAIdeal.Value
public import proofs.«01_k».proof.Proof.Gen.ProjAReferenceIdeal
public import proofs.«01_k».proof.Proof.Gen.ProjAReferenceIdeal.Run
public import proofs.«01_k».proof.Proof.Gen.ProjAReferenceIdeal.Read
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.ProjBIdeal.Value
public import proofs.«01_k».proof.Proof.Gen.ProjBReferenceIdeal
public import proofs.«01_k».proof.Proof.Gen.ProjBReferenceIdeal.Run
public import proofs.«01_k».proof.Proof.Gen.ProjBReferenceIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read
public import proofs.«01_k».proof.Proof.Gen.BiasA
public import proofs.«01_k».proof.Proof.Gen.BiasA.Skeleton
public import proofs.«01_k».proof.Proof.Gen.BiasA.Launch
public import proofs.«01_k».proof.Proof.Gen.BiasA.Points
public import proofs.«01_k».proof.Proof.Gen.BiasA.Frame
public import proofs.«01_k».proof.Proof.Gen.BiasAIdeal
public import proofs.«01_k».proof.Proof.Gen.BiasAIdeal.Skeleton
public import proofs.«01_k».proof.Proof.Gen.BiasAIdeal.Launch
public import proofs.«01_k».proof.Proof.Gen.BiasAIdeal.Points
public import proofs.«01_k».proof.Proof.Gen.BiasAIdeal.Frame
public import proofs.«01_k».proof.Proof.Gen.BiasAIdeal.Value
public import proofs.«01_k».proof.Proof.Gen.BiasAReferenceIdeal
public import proofs.«01_k».proof.Proof.Gen.BiasAReferenceIdeal.Run
public import proofs.«01_k».proof.Proof.Gen.BiasAReferenceIdeal.Read
public import proofs.«01_k».proof.Proof.Final
public import proofs.«01_k».proof.Proof.RefMain
public import proofs.«01_k».proof.Proof.Pre
public import proofs.«01_k».proof.Proof.PostFinal
public import proofs.«01_k».proof.Proof.PostRef
public import proofs.«01_k».proof.Proof.ProjAFinal
public import proofs.«01_k».proof.Proof.ProjARef
public import proofs.«01_k».proof.Proof.ProjBFinal
public import proofs.«01_k».proof.Proof.ProjBRef
public import proofs.«01_k».proof.Proof.MemKvFinal
public import proofs.«01_k».proof.Proof.MemKvRef
public import proofs.«01_k».proof.Proof.BiasFinal
public import proofs.«01_k».proof.Proof.BiasRef
import Idealize.ShloMosaic.Lib.Claim
public import Idealize.ShloMosaic.Adequacy
public import Idealize.ShloMosaic.Init

@[expose] public section

noncomputable section

namespace Cert.Proof

open Idealize.ShloMosaic Idealize.SL.Sem Cert.Kernel

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run m g)

theorem value : algebraic_KernelIdeal_ReferenceIdeal_pre_tame (hKernelIdeal := Cert.KernelIdeal.Gen.facts) (hReferenceIdeal := Cert.ReferenceIdeal.Gen.facts) (hPre_tame := Cert.Pre_tame.Gen.facts) := by
  intro m g m' g' hpre hagree
  refine ⟨fun c => Cert.KernelIdeal.Attn.OUT m c, ?_, ?_⟩
  · refine (θ_run _ _ _).mono (fun r h c => ⟨(h c).1.trans (Cert.KernelIdeal.Attn.final m c ?_), (h c).2⟩) (Cert.KernelIdeal.Value.run_blocks m g)
    exact Cert.Pre_tame.Attn.tame _ _ _ _ (hpre c)
  · refine (θ_run _ _ _).mono (fun r h c => ⟨(h c).1.trans ?_, (h c).2⟩) (Cert.ReferenceIdeal.Value.run m' g')
    have H := Cert.Pre_tame.Attn.tame _ _ _ _ (hpre c)
    obtain ⟨a0, a1, a2, a3⟩ := hagree c
    rw [Cert.ReferenceIdeal.Read.val_main_v124_eq, a0, a1, a2, a3]
    exact Cert.ReferenceIdeal.Attn.result H

theorem frame_post_reference (m : (ℓ : Loc Cert.PostReferenceIdeal.nD Cert.PostReferenceIdeal.τ Cert.PostReferenceIdeal.sig) → Buf (Elt Ideal) ℓ) (g : Dev Cert.PostReferenceIdeal.nD → PrngReg) :
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0) :=
  (θ_run _ _ _).mono (fun r h => ⟨fun c => (h c).2, sem_eq_zero_of_no_sems (by decide) r.2⟩) (Cert.PostReferenceIdeal.Value.run m g)

theorem post_value : algebraic_PostIdeal_PostReferenceIdeal (hPostIdeal := Cert.PostIdeal.Gen.facts) (hPostReferenceIdeal := Cert.PostReferenceIdeal.Gen.facts) := by
  intro m g m' g' _ hagree
  refine ⟨fun c => Cert.PostIdeal.Ffn.OUT m c, ?_, ?_⟩
  · exact (θ_run _ _ _).mono (fun r h c => ⟨(h c).1.trans (Cert.PostIdeal.Ffn.final m c), (h c).2⟩) (Cert.PostIdeal.Value.run_blocks m g)
  · refine (θ_run _ _ _).mono (fun r h c => ⟨(h c).1.trans ?_, (h c).2⟩) (Cert.PostReferenceIdeal.Value.run m' g')
    obtain ⟨a0, a1, a2, a3, a4, a5, a6, a7⟩ := hagree c
    rw [Cert.PostReferenceIdeal.Read.val_main_v50_eq, a0, a1, a2, a3, a4, a5, a6, a7]
    exact Cert.PostReferenceIdeal.Ffn.result _ _ _ _ _ _ _ _

theorem frame_projA_reference (m : (ℓ : Loc Cert.ProjAReferenceIdeal.nD Cert.ProjAReferenceIdeal.τ Cert.ProjAReferenceIdeal.sig) → Buf (Elt Ideal) ℓ) (g : Dev Cert.ProjAReferenceIdeal.nD → PrngReg) :
    θ_run (Cert.ProjAReferenceIdeal.defs (F := Ideal)) (onTc (τ := Cert.ProjAReferenceIdeal.τ) (Cert.ProjAReferenceIdeal.main (F := Ideal))) ⟨m, fun _ => 0, g⟩ (fun r => (∀ c : Dev Cert.ProjAReferenceIdeal.nD,
      r.2.mem ((c.tc : Thread Cert.ProjAReferenceIdeal.nD Cert.ProjAReferenceIdeal.τ).loc Cert.ProjAReferenceIdeal.main_arg0) = m ((c.tc : Thread Cert.ProjAReferenceIdeal.nD Cert.ProjAReferenceIdeal.τ).loc Cert.ProjAReferenceIdeal.main_arg0)
      ∧ r.2.mem ((c.tc : Thread Cert.ProjAReferenceIdeal.nD Cert.ProjAReferenceIdeal.τ).loc Cert.ProjAReferenceIdeal.main_arg1) = m ((c.tc : Thread Cert.ProjAReferenceIdeal.nD Cert.ProjAReferenceIdeal.τ).loc Cert.ProjAReferenceIdeal.main_arg1)
      ∧ r.2.mem ((c.tc : Thread Cert.ProjAReferenceIdeal.nD Cert.ProjAReferenceIdeal.τ).loc Cert.ProjAReferenceIdeal.main_arg2) = m ((c.tc : Thread Cert.ProjAReferenceIdeal.nD Cert.ProjAReferenceIdeal.τ).loc Cert.ProjAReferenceIdeal.main_arg2))
      ∧ r.2.sem = fun _ => 0) :=
  (θ_run _ _ _).mono (fun r h => ⟨fun c => (h c).2, sem_eq_zero_of_no_sems (by decide) r.2⟩) (Cert.ProjAReferenceIdeal.Value.run m g)

theorem projA_value : algebraic_ProjAIdeal_ProjAReferenceIdeal (hProjAIdeal := Cert.ProjAIdeal.Gen.facts) (hProjAReferenceIdeal := Cert.ProjAReferenceIdeal.Gen.facts) := by
  intro m g m' g' _ hagree
  refine ⟨fun c => Cert.ProjAIdeal.Proj.OUT m c, ?_, ?_⟩
  · exact (θ_run _ _ _).mono (fun r h c => ⟨(h c).1.trans (Cert.ProjAIdeal.Proj.final m c), (h c).2⟩) (Cert.ProjAIdeal.Value.run_blocks m g)
  · refine (θ_run _ _ _).mono (fun r h c => ⟨(h c).1.trans ?_, (h c).2⟩) (Cert.ProjAReferenceIdeal.Value.run m' g')
    obtain ⟨a0, a1, a2⟩ := hagree c
    rw [Cert.ProjAReferenceIdeal.Read.val_main_v31_eq, a0, a1, a2]
    exact Cert.ProjAReferenceIdeal.Proj.result _ _ _

theorem frame_projB_reference (m : (ℓ : Loc Cert.ProjBReferenceIdeal.nD Cert.ProjBReferenceIdeal.τ Cert.ProjBReferenceIdeal.sig) → Buf (Elt Ideal) ℓ) (g : Dev Cert.ProjBReferenceIdeal.nD → PrngReg) :
    θ_run (Cert.ProjBReferenceIdeal.defs (F := Ideal)) (onTc (τ := Cert.ProjBReferenceIdeal.τ) (Cert.ProjBReferenceIdeal.main (F := Ideal))) ⟨m, fun _ => 0, g⟩ (fun r => (∀ c : Dev Cert.ProjBReferenceIdeal.nD,
      r.2.mem ((c.tc : Thread Cert.ProjBReferenceIdeal.nD Cert.ProjBReferenceIdeal.τ).loc Cert.ProjBReferenceIdeal.main_arg0) = m ((c.tc : Thread Cert.ProjBReferenceIdeal.nD Cert.ProjBReferenceIdeal.τ).loc Cert.ProjBReferenceIdeal.main_arg0)
      ∧ r.2.mem ((c.tc : Thread Cert.ProjBReferenceIdeal.nD Cert.ProjBReferenceIdeal.τ).loc Cert.ProjBReferenceIdeal.main_arg1) = m ((c.tc : Thread Cert.ProjBReferenceIdeal.nD Cert.ProjBReferenceIdeal.τ).loc Cert.ProjBReferenceIdeal.main_arg1)
      ∧ r.2.mem ((c.tc : Thread Cert.ProjBReferenceIdeal.nD Cert.ProjBReferenceIdeal.τ).loc Cert.ProjBReferenceIdeal.main_arg2) = m ((c.tc : Thread Cert.ProjBReferenceIdeal.nD Cert.ProjBReferenceIdeal.τ).loc Cert.ProjBReferenceIdeal.main_arg2))
      ∧ r.2.sem = fun _ => 0) :=
  (θ_run _ _ _).mono (fun r h => ⟨fun c => (h c).2, sem_eq_zero_of_no_sems (by decide) r.2⟩) (Cert.ProjBReferenceIdeal.Value.run m g)

theorem projB_value : algebraic_ProjBIdeal_ProjBReferenceIdeal (hProjBIdeal := Cert.ProjBIdeal.Gen.facts) (hProjBReferenceIdeal := Cert.ProjBReferenceIdeal.Gen.facts) := by
  intro m g m' g' _ hagree
  refine ⟨fun c => Cert.ProjBIdeal.Proj.OUT m c, ?_, ?_⟩
  · exact (θ_run _ _ _).mono (fun r h c => ⟨(h c).1.trans (Cert.ProjBIdeal.Proj.final m c), (h c).2⟩) (Cert.ProjBIdeal.Value.run_blocks m g)
  · refine (θ_run _ _ _).mono (fun r h c => ⟨(h c).1.trans ?_, (h c).2⟩) (Cert.ProjBReferenceIdeal.Value.run m' g')
    obtain ⟨a0, a1, a2⟩ := hagree c
    rw [Cert.ProjBReferenceIdeal.Read.val_main_v26_eq, a0, a1, a2]
    exact Cert.ProjBReferenceIdeal.Proj.result _ _ _

theorem frame_memKv_reference (m : (ℓ : Loc Cert.MemKvReferenceIdeal.nD Cert.MemKvReferenceIdeal.τ Cert.MemKvReferenceIdeal.sig) → Buf (Elt Ideal) ℓ) (g : Dev Cert.MemKvReferenceIdeal.nD → PrngReg) :
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1)
      ∧ r.2.mem ((c.tc : Thread Cert.MemKvReferenceIdeal.nD Cert.MemKvReferenceIdeal.τ).loc Cert.MemKvReferenceIdeal.main_arg2) = m ((c.tc : Thread Cert.MemKvReferenceIdeal.nD Cert.MemKvReferenceIdeal.τ).loc Cert.MemKvReferenceIdeal.main_arg2))
      ∧ r.2.sem = fun _ => 0) :=
  (θ_run _ _ _).mono (fun r h => ⟨fun c => (h c).2, sem_eq_zero_of_no_sems (by decide) r.2⟩) (Cert.MemKvReferenceIdeal.Value.run m g)

theorem memKv_value : algebraic_MemKvIdeal_MemKvReferenceIdeal (hMemKvIdeal := Cert.MemKvIdeal.Gen.facts) (hMemKvReferenceIdeal := Cert.MemKvReferenceIdeal.Gen.facts) := by
  intro m g m' g' _ hagree
  refine ⟨fun c => Cert.MemKvIdeal.Mem.OUT m c, ?_, ?_⟩
  · exact (θ_run _ _ _).mono (fun r h c => ⟨(h c).1.trans (Cert.MemKvIdeal.Mem.final m c), (h c).2⟩) (Cert.MemKvIdeal.Value.run_blocks m g)
  · refine (θ_run _ _ _).mono (fun r h c => ⟨(h c).1.trans ?_, (h c).2⟩) (Cert.MemKvReferenceIdeal.Value.run m' g')
    obtain ⟨a0, a1, a2⟩ := hagree c
    rw [Cert.MemKvReferenceIdeal.Read.val_main_v18_eq, a0, a1, a2]
    exact Cert.MemKvReferenceIdeal.Mem.result _ _ _

theorem frame_biasA_reference (m : (ℓ : Loc Cert.BiasAReferenceIdeal.nD Cert.BiasAReferenceIdeal.τ Cert.BiasAReferenceIdeal.sig) → Buf (Elt Ideal) ℓ) (g : Dev Cert.BiasAReferenceIdeal.nD → PrngReg) :
    θ_run (Cert.BiasAReferenceIdeal.defs (F := Ideal)) (onTc (τ := Cert.BiasAReferenceIdeal.τ) (Cert.BiasAReferenceIdeal.main (F := Ideal))) ⟨m, fun _ => 0, g⟩ (fun r => (∀ c : Dev Cert.BiasAReferenceIdeal.nD,
      r.2.mem ((c.tc : Thread Cert.BiasAReferenceIdeal.nD Cert.BiasAReferenceIdeal.τ).loc Cert.BiasAReferenceIdeal.main_arg0) = m ((c.tc : Thread Cert.BiasAReferenceIdeal.nD Cert.BiasAReferenceIdeal.τ).loc Cert.BiasAReferenceIdeal.main_arg0))
      ∧ r.2.sem = fun _ => 0) :=
  (θ_run _ _ _).mono (fun r h => ⟨fun c => (h c).2, sem_eq_zero_of_no_sems (by decide) r.2⟩) (Cert.BiasAReferenceIdeal.Value.run m g)

theorem biasA_value : algebraic_BiasAIdeal_BiasAReferenceIdeal (hBiasAIdeal := Cert.BiasAIdeal.Gen.facts) (hBiasAReferenceIdeal := Cert.BiasAReferenceIdeal.Gen.facts) := by
  intro m g m' g' _ hagree
  refine ⟨fun c => Cert.BiasAIdeal.Bias.OUT m c, ?_, ?_⟩
  · exact (θ_run _ _ _).mono (fun r h c => ⟨(h c).1.trans (Cert.BiasAIdeal.Bias.final m c), (h c).2⟩) (Cert.BiasAIdeal.Value.run_blocks m g)
  · refine (θ_run _ _ _).mono (fun r h c => ⟨(h c).1.trans ?_, (h c).2⟩) (Cert.BiasAReferenceIdeal.Value.run m' g')
    rw [Cert.BiasAReferenceIdeal.Read.val_main_v62_eq, hagree c]
    exact Cert.BiasAReferenceIdeal.Bias.result _

theorem claim : Cert.Claim := ⟨Cert.Kernel.Gen.facts, Cert.KernelIdeal.Gen.facts, Cert.ReferenceIdeal.Gen.facts,
  Cert.Post.Gen.facts, Cert.PostIdeal.Gen.facts, Cert.PostReferenceIdeal.Gen.facts,
  Cert.ProjA.Gen.facts, Cert.ProjAIdeal.Gen.facts, Cert.ProjAReferenceIdeal.Gen.facts,
  Cert.ProjB.Gen.facts, Cert.ProjBIdeal.Gen.facts, Cert.ProjBReferenceIdeal.Gen.facts,
  Cert.MemKv.Gen.facts, Cert.MemKvIdeal.Gen.facts, Cert.MemKvReferenceIdeal.Gen.facts,
  Cert.BiasA.Gen.facts, Cert.BiasAIdeal.Gen.facts, Cert.BiasAReferenceIdeal.Gen.facts, Cert.Pre_tame.Gen.facts,
  fun m g _ => Cert.Kernel.Gen.frame m g, fun m g _ => Cert.KernelIdeal.Gen.frame m g, fun m g _ => Cert.KernelIdeal.Gen.frame m g,
  fun m g _ => frame_reference m g, fun m g _ => frame_reference m g,
  fun m g _ => Cert.Post.Gen.frame m g, fun m g _ => Cert.PostIdeal.Gen.frame m g, fun m g _ => frame_post_reference m g,
  fun m g _ => Cert.ProjA.Gen.frame m g, fun m g _ => Cert.ProjAIdeal.Gen.frame m g, fun m g _ => frame_projA_reference m g,
  fun m g _ => Cert.ProjB.Gen.frame m g, fun m g _ => Cert.ProjBIdeal.Gen.frame m g, fun m g _ => frame_projB_reference m g,
  fun m g _ => Cert.MemKv.Gen.frame m g, fun m g _ => Cert.MemKvIdeal.Gen.frame m g, fun m g _ => frame_memKv_reference m g,
  fun m g _ => Cert.BiasA.Gen.frame m g, fun m g _ => Cert.BiasAIdeal.Gen.frame m g, fun m g _ => frame_biasA_reference m g,
  trivial, value, trivial, post_value,
  IdealRules.named_const.statement Cert.ProjAIdeal.κ "q_scale" .f32 0x3E38AA3B#32 (((8 * (Real.log 2))⁻¹ : ℝ) : EReal) rfl, projA_value,
  IdealRules.named_const.statement Cert.ProjBIdeal.κ "q_scale" .f32 0x3E38AA3B#32 (((8 * (Real.log 2))⁻¹ : ℝ) : EReal) rfl, projB_value, trivial, memKv_value,
  IdealRules.named_const.statement Cert.BiasAIdeal.κ "log2e" .f32 0x3FB8AA3B#32 (((Real.log 2)⁻¹ : ℝ) : EReal) rfl, biasA_value⟩

end Cert.Proof

end
